-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S256x1024 : Shape := ⟨2, ![256, 1024]⟩
abbrev S16x16x1024 : Shape := ⟨3, ![16, 16, 1024]⟩
abbrev S2 : Shape := ⟨1, ![2]⟩
abbrev S2x15 : Shape := ⟨2, ![2, 15]⟩
abbrev S_ : Shape := ⟨0, ![]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128x1024 : Shape := ⟨2, ![128, 1024]⟩
abbrev S16x1024 : Shape := ⟨2, ![16, 1024]⟩
abbrev S1x16x1024 : Shape := ⟨3, ![1, 16, 1024]⟩
abbrev S1x1 : Shape := ⟨2, ![1, 1]⟩
abbrev S1x16x512 : Shape := ⟨3, ![1, 16, 512]⟩
abbrev S16x512 : Shape := ⟨2, ![16, 512]⟩
abbrev S256x512 : Shape := ⟨2, ![256, 512]⟩
abbrev S1x256x512 : Shape := ⟨3, ![1, 256, 512]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x256x1024, .f32⟩
  | .local _ .vmem, ⟨6, _⟩ => ⟨S256x1024, .bf16⟩
  | .local _ .vmem, ⟨7, _⟩ => ⟨S16x16x1024, .bf16⟩
  | .local _ .vmem, ⟨8, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  (ofTc nBuf bufTy 1 127 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c0_i32 : BitVec 32 := 0#32
  let v5 : BitVec 32 := Scalar.addi v4 c0_i32
  let c16_i32_1 : BitVec 32 := 16#32
  let v6 : BitVec 32 := Scalar.remsi v5 c16_i32_1
  let c1_i32_3 : BitVec 32 := 1#32
  let v7 : BitVec 32 := Scalar.muli v6 c1_i32_3
  let v8 : BitVec 32 := Scalar.addi c0_i32_4 v7
  v8.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v9 : BitVec 32 := Scalar.addi v2 c1_i32_5
  let c1_i32_6 : BitVec 32 := 1#32
  let v10 : BitVec 32 := Scalar.addi v9 c1_i32_6
  let c16_i32_7 : BitVec 32 := 16#32
  let v11 : BitVec 32 := Scalar.remsi v10 c16_i32_7
  let c1_i32_9 : BitVec 32 := 1#32
  let v12 : BitVec 32 := Scalar.muli v11 c1_i32_9
  let v13 : BitVec 32 := Scalar.addi c0_i32_10 v12
  v13.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_11 : BitVec 32 := 1#32
  let v14 : BitVec 32 := Scalar.addi v2 c1_i32_11
  let c2_i32 : BitVec 32 := 2#32
  let v15 : BitVec 32 := Scalar.addi v14 c2_i32
  let c16_i32_12 : BitVec 32 := 16#32
  let v16 : BitVec 32 := Scalar.remsi v15 c16_i32_12
  let c1_i32_14 : BitVec 32 := 1#32
  let v17 : BitVec 32 := Scalar.muli v16 c1_i32_14
  let v18 : BitVec 32 := Scalar.addi c0_i32_15 v17
  v18.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v19 : BitVec 32 := Scalar.addi v2 c1_i32_16
  let c3_i32 : BitVec 32 := 3#32
  let v20 : BitVec 32 := Scalar.addi v19 c3_i32
  let c16_i32_17 : BitVec 32 := 16#32
  let v21 : BitVec 32 := Scalar.remsi v20 c16_i32_17
  let c1_i32_19 : BitVec 32 := 1#32
  let v22 : BitVec 32 := Scalar.muli v21 c1_i32_19
  let v23 : BitVec 32 := Scalar.addi c0_i32_20 v22
  v23.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v24 : BitVec 32 := Scalar.addi v2 c1_i32_21
  let c4_i32 : BitVec 32 := 4#32
  let v25 : BitVec 32 := Scalar.addi v24 c4_i32
  let c16_i32_22 : BitVec 32 := 16#32
  let v26 : BitVec 32 := Scalar.remsi v25 c16_i32_22
  let c1_i32_24 : BitVec 32 := 1#32
  let v27 : BitVec 32 := Scalar.muli v26 c1_i32_24
  let v28 : BitVec 32 := Scalar.addi c0_i32_25 v27
  v28.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v29 : BitVec 32 := Scalar.addi v2 c1_i32_26
  let c5_i32 : BitVec 32 := 5#32
  let v30 : BitVec 32 := Scalar.addi v29 c5_i32
  let c16_i32_27 : BitVec 32 := 16#32
  let v31 : BitVec 32 := Scalar.remsi v30 c16_i32_27
  let c1_i32_29 : BitVec 32 := 1#32
  let v32 : BitVec 32 := Scalar.muli v31 c1_i32_29
  let v33 : BitVec 32 := Scalar.addi c0_i32_30 v32
  v33.toNat
def k0_dev7 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_31 : BitVec 32 := 1#32
  let v34 : BitVec 32 := Scalar.addi v2 c1_i32_31
  let c6_i32 : BitVec 32 := 6#32
  let v35 : BitVec 32 := Scalar.addi v34 c6_i32
  let c16_i32_32 : BitVec 32 := 16#32
  let v36 : BitVec 32 := Scalar.remsi v35 c16_i32_32
  let c1_i32_34 : BitVec 32 := 1#32
  let v37 : BitVec 32 := Scalar.muli v36 c1_i32_34
  let v38 : BitVec 32 := Scalar.addi c0_i32_35 v37
  v38.toNat
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_36 : BitVec 32 := 1#32
  let v39 : BitVec 32 := Scalar.addi v2 c1_i32_36
  let c7_i32 : BitVec 32 := 7#32
  let v40 : BitVec 32 := Scalar.addi v39 c7_i32
  let c16_i32_37 : BitVec 32 := 16#32
  let v41 : BitVec 32 := Scalar.remsi v40 c16_i32_37
  let c1_i32_39 : BitVec 32 := 1#32
  let v42 : BitVec 32 := Scalar.muli v41 c1_i32_39
  let v43 : BitVec 32 := Scalar.addi c0_i32_40 v42
  v43.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_41 : BitVec 32 := 1#32
  let v44 : BitVec 32 := Scalar.addi v2 c1_i32_41
  let c8_i32 : BitVec 32 := 8#32
  let v45 : BitVec 32 := Scalar.addi v44 c8_i32
  let c16_i32_42 : BitVec 32 := 16#32
  let v46 : BitVec 32 := Scalar.remsi v45 c16_i32_42
  let c1_i32_44 : BitVec 32 := 1#32
  let v47 : BitVec 32 := Scalar.muli v46 c1_i32_44
  let v48 : BitVec 32 := Scalar.addi c0_i32_45 v47
  v48.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_46 : BitVec 32 := 1#32
  let v49 : BitVec 32 := Scalar.addi v2 c1_i32_46
  let c9_i32 : BitVec 32 := 9#32
  let v50 : BitVec 32 := Scalar.addi v49 c9_i32
  let c16_i32_47 : BitVec 32 := 16#32
  let v51 : BitVec 32 := Scalar.remsi v50 c16_i32_47
  let c1_i32_49 : BitVec 32 := 1#32
  let v52 : BitVec 32 := Scalar.muli v51 c1_i32_49
  let v53 : BitVec 32 := Scalar.addi c0_i32_50 v52
  v53.toNat
def k0_dev11 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_51 : BitVec 32 := 1#32
  let v54 : BitVec 32 := Scalar.addi v2 c1_i32_51
  let c10_i32 : BitVec 32 := 10#32
  let v55 : BitVec 32 := Scalar.addi v54 c10_i32
  let c16_i32_52 : BitVec 32 := 16#32
  let v56 : BitVec 32 := Scalar.remsi v55 c16_i32_52
  let c1_i32_54 : BitVec 32 := 1#32
  let v57 : BitVec 32 := Scalar.muli v56 c1_i32_54
  let v58 : BitVec 32 := Scalar.addi c0_i32_55 v57
  v58.toNat
def k0_dev12 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_56 : BitVec 32 := 1#32
  let v59 : BitVec 32 := Scalar.addi v2 c1_i32_56
  let c11_i32 : BitVec 32 := 11#32
  let v60 : BitVec 32 := Scalar.addi v59 c11_i32
  let c16_i32_57 : BitVec 32 := 16#32
  let v61 : BitVec 32 := Scalar.remsi v60 c16_i32_57
  let c1_i32_59 : BitVec 32 := 1#32
  let v62 : BitVec 32 := Scalar.muli v61 c1_i32_59
  let v63 : BitVec 32 := Scalar.addi c0_i32_60 v62
  v63.toNat
def k0_dev13 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c12_i32 : BitVec 32 := 12#32
  let v65 : BitVec 32 := Scalar.addi v64 c12_i32
  let c16_i32_62 : BitVec 32 := 16#32
  let v66 : BitVec 32 := Scalar.remsi v65 c16_i32_62
  let c1_i32_64 : BitVec 32 := 1#32
  let v67 : BitVec 32 := Scalar.muli v66 c1_i32_64
  let v68 : BitVec 32 := Scalar.addi c0_i32_65 v67
  v68.toNat
def k0_dev14 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v69 : BitVec 32 := Scalar.addi v2 c1_i32_66
  let c13_i32 : BitVec 32 := 13#32
  let v70 : BitVec 32 := Scalar.addi v69 c13_i32
  let c16_i32_67 : BitVec 32 := 16#32
  let v71 : BitVec 32 := Scalar.remsi v70 c16_i32_67
  let c1_i32_69 : BitVec 32 := 1#32
  let v72 : BitVec 32 := Scalar.muli v71 c1_i32_69
  let v73 : BitVec 32 := Scalar.addi c0_i32_70 v72
  v73.toNat
def k0_dev15 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_71 : BitVec 32 := 1#32
  let v74 : BitVec 32 := Scalar.addi v2 c1_i32_71
  let c14_i32 : BitVec 32 := 14#32
  let v75 : BitVec 32 := Scalar.addi v74 c14_i32
  let c16_i32_72 : BitVec 32 := 16#32
  let v76 : BitVec 32 := Scalar.remsi v75 c16_i32_72
  let c1_i32_74 : BitVec 32 := 1#32
  let v77 : BitVec 32 := Scalar.muli v76 c1_i32_74
  let v78 : BitVec 32 := Scalar.addi c0_i32_75 v77
  v78.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_139 : BitVec 32 := 16#32
  let v273 : BitVec 32 := Scalar.muli v2 c16_i32_139
  let v274 : Index := Scalar.indexCast v273
  let c0_140 : Index := 0#32
  ![v274.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v276 : Index := Scalar.indexCast v2
  let c0_141 : Index := 0#32
  let c0_142 : Index := 0#32
  ![v276.toNat, 0, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_154 : BitVec 32 := 0#32
  let c0_i32_155 : BitVec 32 := 0#32
  ![v2.toNat, 0, 0]
def k0_off4 (d0 : Dev nD) (c0_i32_145 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_144 : BitVec 32 := 1#32
  let v281 : BitVec 32 := Scalar.addi v2 c1_i32_144
  let v282 : BitVec 32 := Scalar.addi v281 c0_i32_145
  let c16_i32_146 : BitVec 32 := 16#32
  let v283 : BitVec 32 := Scalar.remsi v282 c16_i32_146
  let c16_i32_147 : BitVec 32 := 16#32
  let v284 : BitVec 32 := Scalar.muli v283 c16_i32_147
  let c0_i32_156 : BitVec 32 := 0#32
  ![v284.toNat, 0]
def k0_dev16 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_144 : BitVec 32 := 1#32
  let v281 : BitVec 32 := Scalar.addi v2 c1_i32_144
  let c0_i32_145 : BitVec 32 := 0#32
  let v282 : BitVec 32 := Scalar.addi v281 c0_i32_145
  let c16_i32_146 : BitVec 32 := 16#32
  let v283 : BitVec 32 := Scalar.remsi v282 c16_i32_146
  let c1_i32_152 : BitVec 32 := 1#32
  let v285 : BitVec 32 := Scalar.muli v283 c1_i32_152
  let v286 : BitVec 32 := Scalar.addi c0_i32_153 v285
  v286.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_157 : BitVec 32 := 1#32
  let v294 : BitVec 32 := Scalar.addi v2 c1_i32_157
  let c1_i32_158 : BitVec 32 := 1#32
  let v295 : BitVec 32 := Scalar.addi v294 c1_i32_158
  let c16_i32_159 : BitVec 32 := 16#32
  let v296 : BitVec 32 := Scalar.remsi v295 c16_i32_159
  let c1_i32_165 : BitVec 32 := 1#32
  let v298 : BitVec 32 := Scalar.muli v296 c1_i32_165
  let v299 : BitVec 32 := Scalar.addi c0_i32_166 v298
  v299.toNat
def k0_dev18 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_170 : BitVec 32 := 1#32
  let v307 : BitVec 32 := Scalar.addi v2 c1_i32_170
  let c2_i32_171 : BitVec 32 := 2#32
  let v308 : BitVec 32 := Scalar.addi v307 c2_i32_171
  let c16_i32_172 : BitVec 32 := 16#32
  let v309 : BitVec 32 := Scalar.remsi v308 c16_i32_172
  let c1_i32_178 : BitVec 32 := 1#32
  let v311 : BitVec 32 := Scalar.muli v309 c1_i32_178
  let v312 : BitVec 32 := Scalar.addi c0_i32_179 v311
  v312.toNat
def k0_dev19 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_183 : BitVec 32 := 1#32
  let v320 : BitVec 32 := Scalar.addi v2 c1_i32_183
  let c3_i32_184 : BitVec 32 := 3#32
  let v321 : BitVec 32 := Scalar.addi v320 c3_i32_184
  let c16_i32_185 : BitVec 32 := 16#32
  let v322 : BitVec 32 := Scalar.remsi v321 c16_i32_185
  let c1_i32_191 : BitVec 32 := 1#32
  let v324 : BitVec 32 := Scalar.muli v322 c1_i32_191
  let v325 : BitVec 32 := Scalar.addi c0_i32_192 v324
  v325.toNat
def k0_dev20 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_196 : BitVec 32 := 1#32
  let v333 : BitVec 32 := Scalar.addi v2 c1_i32_196
  let c4_i32_197 : BitVec 32 := 4#32
  let v334 : BitVec 32 := Scalar.addi v333 c4_i32_197
  let c16_i32_198 : BitVec 32 := 16#32
  let v335 : BitVec 32 := Scalar.remsi v334 c16_i32_198
  let c1_i32_204 : BitVec 32 := 1#32
  let v337 : BitVec 32 := Scalar.muli v335 c1_i32_204
  let v338 : BitVec 32 := Scalar.addi c0_i32_205 v337
  v338.toNat
def k0_dev21 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_209 : BitVec 32 := 1#32
  let v346 : BitVec 32 := Scalar.addi v2 c1_i32_209
  let c5_i32_210 : BitVec 32 := 5#32
  let v347 : BitVec 32 := Scalar.addi v346 c5_i32_210
  let c16_i32_211 : BitVec 32 := 16#32
  let v348 : BitVec 32 := Scalar.remsi v347 c16_i32_211
  let c1_i32_217 : BitVec 32 := 1#32
  let v350 : BitVec 32 := Scalar.muli v348 c1_i32_217
  let v351 : BitVec 32 := Scalar.addi c0_i32_218 v350
  v351.toNat
def k0_dev22 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_222 : BitVec 32 := 1#32
  let v359 : BitVec 32 := Scalar.addi v2 c1_i32_222
  let c6_i32_223 : BitVec 32 := 6#32
  let v360 : BitVec 32 := Scalar.addi v359 c6_i32_223
  let c16_i32_224 : BitVec 32 := 16#32
  let v361 : BitVec 32 := Scalar.remsi v360 c16_i32_224
  let c1_i32_230 : BitVec 32 := 1#32
  let v363 : BitVec 32 := Scalar.muli v361 c1_i32_230
  let v364 : BitVec 32 := Scalar.addi c0_i32_231 v363
  v364.toNat
def k0_dev23 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_235 : BitVec 32 := 1#32
  let v372 : BitVec 32 := Scalar.addi v2 c1_i32_235
  let c7_i32_236 : BitVec 32 := 7#32
  let v373 : BitVec 32 := Scalar.addi v372 c7_i32_236
  let c16_i32_237 : BitVec 32 := 16#32
  let v374 : BitVec 32 := Scalar.remsi v373 c16_i32_237
  let c1_i32_243 : BitVec 32 := 1#32
  let v376 : BitVec 32 := Scalar.muli v374 c1_i32_243
  let v377 : BitVec 32 := Scalar.addi c0_i32_244 v376
  v377.toNat
def k0_dev24 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_248 : BitVec 32 := 1#32
  let v385 : BitVec 32 := Scalar.addi v2 c1_i32_248
  let c8_i32_249 : BitVec 32 := 8#32
  let v386 : BitVec 32 := Scalar.addi v385 c8_i32_249
  let c16_i32_250 : BitVec 32 := 16#32
  let v387 : BitVec 32 := Scalar.remsi v386 c16_i32_250
  let c1_i32_256 : BitVec 32 := 1#32
  let v389 : BitVec 32 := Scalar.muli v387 c1_i32_256
  let v390 : BitVec 32 := Scalar.addi c0_i32_257 v389
  v390.toNat
def k0_dev25 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_261 : BitVec 32 := 1#32
  let v398 : BitVec 32 := Scalar.addi v2 c1_i32_261
  let c9_i32_262 : BitVec 32 := 9#32
  let v399 : BitVec 32 := Scalar.addi v398 c9_i32_262
  let c16_i32_263 : BitVec 32 := 16#32
  let v400 : BitVec 32 := Scalar.remsi v399 c16_i32_263
  let c1_i32_269 : BitVec 32 := 1#32
  let v402 : BitVec 32 := Scalar.muli v400 c1_i32_269
  let v403 : BitVec 32 := Scalar.addi c0_i32_270 v402
  v403.toNat
def k0_dev26 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_274 : BitVec 32 := 1#32
  let v411 : BitVec 32 := Scalar.addi v2 c1_i32_274
  let c10_i32_275 : BitVec 32 := 10#32
  let v412 : BitVec 32 := Scalar.addi v411 c10_i32_275
  let c16_i32_276 : BitVec 32 := 16#32
  let v413 : BitVec 32 := Scalar.remsi v412 c16_i32_276
  let c1_i32_282 : BitVec 32 := 1#32
  let v415 : BitVec 32 := Scalar.muli v413 c1_i32_282
  let v416 : BitVec 32 := Scalar.addi c0_i32_283 v415
  v416.toNat
def k0_dev27 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_287 : BitVec 32 := 1#32
  let v424 : BitVec 32 := Scalar.addi v2 c1_i32_287
  let c11_i32_288 : BitVec 32 := 11#32
  let v425 : BitVec 32 := Scalar.addi v424 c11_i32_288
  let c16_i32_289 : BitVec 32 := 16#32
  let v426 : BitVec 32 := Scalar.remsi v425 c16_i32_289
  let c1_i32_295 : BitVec 32 := 1#32
  let v428 : BitVec 32 := Scalar.muli v426 c1_i32_295
  let v429 : BitVec 32 := Scalar.addi c0_i32_296 v428
  v429.toNat
def k0_dev28 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_300 : BitVec 32 := 1#32
  let v437 : BitVec 32 := Scalar.addi v2 c1_i32_300
  let c12_i32_301 : BitVec 32 := 12#32
  let v438 : BitVec 32 := Scalar.addi v437 c12_i32_301
  let c16_i32_302 : BitVec 32 := 16#32
  let v439 : BitVec 32 := Scalar.remsi v438 c16_i32_302
  let c1_i32_308 : BitVec 32 := 1#32
  let v441 : BitVec 32 := Scalar.muli v439 c1_i32_308
  let v442 : BitVec 32 := Scalar.addi c0_i32_309 v441
  v442.toNat
def k0_dev29 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_313 : BitVec 32 := 1#32
  let v450 : BitVec 32 := Scalar.addi v2 c1_i32_313
  let c13_i32_314 : BitVec 32 := 13#32
  let v451 : BitVec 32 := Scalar.addi v450 c13_i32_314
  let c16_i32_315 : BitVec 32 := 16#32
  let v452 : BitVec 32 := Scalar.remsi v451 c16_i32_315
  let c1_i32_321 : BitVec 32 := 1#32
  let v454 : BitVec 32 := Scalar.muli v452 c1_i32_321
  let v455 : BitVec 32 := Scalar.addi c0_i32_322 v454
  v455.toNat
def k0_dev30 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_326 : BitVec 32 := 1#32
  let v463 : BitVec 32 := Scalar.addi v2 c1_i32_326
  let c14_i32_327 : BitVec 32 := 14#32
  let v464 : BitVec 32 := Scalar.addi v463 c14_i32_327
  let c16_i32_328 : BitVec 32 := 16#32
  let v465 : BitVec 32 := Scalar.remsi v464 c16_i32_328
  let c1_i32_334 : BitVec 32 := 1#32
  let v467 : BitVec 32 := Scalar.muli v465 c1_i32_334
  let v468 : BitVec 32 := Scalar.addi c0_i32_335 v467
  v468.toNat
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_349 : BitVec 32 := 0#32
  let c512_i32 : BitVec 32 := 512#32
  ![v2.toNat, 0, 512]
def k0_off6 (d0 : Dev nD) (c0_i32_340 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v476 : BitVec 32 := Scalar.addi v2 c1_i32_339
  let v477 : BitVec 32 := Scalar.addi v476 c0_i32_340
  let c16_i32_341 : BitVec 32 := 16#32
  let v478 : BitVec 32 := Scalar.remsi v477 c16_i32_341
  let c16_i32_342 : BitVec 32 := 16#32
  let v479 : BitVec 32 := Scalar.muli v478 c16_i32_342
  let c512_i32_350 : BitVec 32 := 512#32
  ![v479.toNat, 512]
def k0_dev31 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_339 : BitVec 32 := 1#32
  let v476 : BitVec 32 := Scalar.addi v2 c1_i32_339
  let c0_i32_340 : BitVec 32 := 0#32
  let v477 : BitVec 32 := Scalar.addi v476 c0_i32_340
  let c16_i32_341 : BitVec 32 := 16#32
  let v478 : BitVec 32 := Scalar.remsi v477 c16_i32_341
  let c1_i32_347 : BitVec 32 := 1#32
  let v480 : BitVec 32 := Scalar.muli v478 c1_i32_347
  let v481 : BitVec 32 := Scalar.addi c0_i32_348 v480
  v481.toNat
def k0_dev32 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_351 : BitVec 32 := 1#32
  let v489 : BitVec 32 := Scalar.addi v2 c1_i32_351
  let c1_i32_352 : BitVec 32 := 1#32
  let v490 : BitVec 32 := Scalar.addi v489 c1_i32_352
  let c16_i32_353 : BitVec 32 := 16#32
  let v491 : BitVec 32 := Scalar.remsi v490 c16_i32_353
  let c1_i32_359 : BitVec 32 := 1#32
  let v493 : BitVec 32 := Scalar.muli v491 c1_i32_359
  let v494 : BitVec 32 := Scalar.addi c0_i32_360 v493
  v494.toNat
def k0_dev33 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_364 : BitVec 32 := 1#32
  let v502 : BitVec 32 := Scalar.addi v2 c1_i32_364
  let c2_i32_365 : BitVec 32 := 2#32
  let v503 : BitVec 32 := Scalar.addi v502 c2_i32_365
  let c16_i32_366 : BitVec 32 := 16#32
  let v504 : BitVec 32 := Scalar.remsi v503 c16_i32_366
  let c1_i32_372 : BitVec 32 := 1#32
  let v506 : BitVec 32 := Scalar.muli v504 c1_i32_372
  let v507 : BitVec 32 := Scalar.addi c0_i32_373 v506
  v507.toNat
def k0_dev34 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_377 : BitVec 32 := 1#32
  let v515 : BitVec 32 := Scalar.addi v2 c1_i32_377
  let c3_i32_378 : BitVec 32 := 3#32
  let v516 : BitVec 32 := Scalar.addi v515 c3_i32_378
  let c16_i32_379 : BitVec 32 := 16#32
  let v517 : BitVec 32 := Scalar.remsi v516 c16_i32_379
  let c1_i32_385 : BitVec 32 := 1#32
  let v519 : BitVec 32 := Scalar.muli v517 c1_i32_385
  let v520 : BitVec 32 := Scalar.addi c0_i32_386 v519
  v520.toNat
def k0_dev35 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_390 : BitVec 32 := 1#32
  let v528 : BitVec 32 := Scalar.addi v2 c1_i32_390
  let c4_i32_391 : BitVec 32 := 4#32
  let v529 : BitVec 32 := Scalar.addi v528 c4_i32_391
  let c16_i32_392 : BitVec 32 := 16#32
  let v530 : BitVec 32 := Scalar.remsi v529 c16_i32_392
  let c1_i32_398 : BitVec 32 := 1#32
  let v532 : BitVec 32 := Scalar.muli v530 c1_i32_398
  let v533 : BitVec 32 := Scalar.addi c0_i32_399 v532
  v533.toNat
def k0_dev36 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_403 : BitVec 32 := 1#32
  let v541 : BitVec 32 := Scalar.addi v2 c1_i32_403
  let c5_i32_404 : BitVec 32 := 5#32
  let v542 : BitVec 32 := Scalar.addi v541 c5_i32_404
  let c16_i32_405 : BitVec 32 := 16#32
  let v543 : BitVec 32 := Scalar.remsi v542 c16_i32_405
  let c1_i32_411 : BitVec 32 := 1#32
  let v545 : BitVec 32 := Scalar.muli v543 c1_i32_411
  let v546 : BitVec 32 := Scalar.addi c0_i32_412 v545
  v546.toNat
def k0_dev37 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_416 : BitVec 32 := 1#32
  let v554 : BitVec 32 := Scalar.addi v2 c1_i32_416
  let c6_i32_417 : BitVec 32 := 6#32
  let v555 : BitVec 32 := Scalar.addi v554 c6_i32_417
  let c16_i32_418 : BitVec 32 := 16#32
  let v556 : BitVec 32 := Scalar.remsi v555 c16_i32_418
  let c1_i32_424 : BitVec 32 := 1#32
  let v558 : BitVec 32 := Scalar.muli v556 c1_i32_424
  let v559 : BitVec 32 := Scalar.addi c0_i32_425 v558
  v559.toNat
def k0_dev38 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_429 : BitVec 32 := 1#32
  let v567 : BitVec 32 := Scalar.addi v2 c1_i32_429
  let c7_i32_430 : BitVec 32 := 7#32
  let v568 : BitVec 32 := Scalar.addi v567 c7_i32_430
  let c16_i32_431 : BitVec 32 := 16#32
  let v569 : BitVec 32 := Scalar.remsi v568 c16_i32_431
  let c1_i32_437 : BitVec 32 := 1#32
  let v571 : BitVec 32 := Scalar.muli v569 c1_i32_437
  let v572 : BitVec 32 := Scalar.addi c0_i32_438 v571
  v572.toNat
def k0_dev39 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_442 : BitVec 32 := 1#32
  let v580 : BitVec 32 := Scalar.addi v2 c1_i32_442
  let c8_i32_443 : BitVec 32 := 8#32
  let v581 : BitVec 32 := Scalar.addi v580 c8_i32_443
  let c16_i32_444 : BitVec 32 := 16#32
  let v582 : BitVec 32 := Scalar.remsi v581 c16_i32_444
  let c1_i32_450 : BitVec 32 := 1#32
  let v584 : BitVec 32 := Scalar.muli v582 c1_i32_450
  let v585 : BitVec 32 := Scalar.addi c0_i32_451 v584
  v585.toNat
def k0_dev40 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_455 : BitVec 32 := 1#32
  let v593 : BitVec 32 := Scalar.addi v2 c1_i32_455
  let c9_i32_456 : BitVec 32 := 9#32
  let v594 : BitVec 32 := Scalar.addi v593 c9_i32_456
  let c16_i32_457 : BitVec 32 := 16#32
  let v595 : BitVec 32 := Scalar.remsi v594 c16_i32_457
  let c1_i32_463 : BitVec 32 := 1#32
  let v597 : BitVec 32 := Scalar.muli v595 c1_i32_463
  let v598 : BitVec 32 := Scalar.addi c0_i32_464 v597
  v598.toNat
def k0_dev41 (d0 : Dev nD) : Nat :=
  let c0_i32_477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_468 : BitVec 32 := 1#32
  let v606 : BitVec 32 := Scalar.addi v2 c1_i32_468
  let c10_i32_469 : BitVec 32 := 10#32
  let v607 : BitVec 32 := Scalar.addi v606 c10_i32_469
  let c16_i32_470 : BitVec 32 := 16#32
  let v608 : BitVec 32 := Scalar.remsi v607 c16_i32_470
  let c1_i32_476 : BitVec 32 := 1#32
  let v610 : BitVec 32 := Scalar.muli v608 c1_i32_476
  let v611 : BitVec 32 := Scalar.addi c0_i32_477 v610
  v611.toNat
def k0_dev42 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_481 : BitVec 32 := 1#32
  let v619 : BitVec 32 := Scalar.addi v2 c1_i32_481
  let c11_i32_482 : BitVec 32 := 11#32
  let v620 : BitVec 32 := Scalar.addi v619 c11_i32_482
  let c16_i32_483 : BitVec 32 := 16#32
  let v621 : BitVec 32 := Scalar.remsi v620 c16_i32_483
  let c1_i32_489 : BitVec 32 := 1#32
  let v623 : BitVec 32 := Scalar.muli v621 c1_i32_489
  let v624 : BitVec 32 := Scalar.addi c0_i32_490 v623
  v624.toNat
def k0_dev43 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_494 : BitVec 32 := 1#32
  let v632 : BitVec 32 := Scalar.addi v2 c1_i32_494
  let c12_i32_495 : BitVec 32 := 12#32
  let v633 : BitVec 32 := Scalar.addi v632 c12_i32_495
  let c16_i32_496 : BitVec 32 := 16#32
  let v634 : BitVec 32 := Scalar.remsi v633 c16_i32_496
  let c1_i32_502 : BitVec 32 := 1#32
  let v636 : BitVec 32 := Scalar.muli v634 c1_i32_502
  let v637 : BitVec 32 := Scalar.addi c0_i32_503 v636
  v637.toNat
def k0_dev44 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_507 : BitVec 32 := 1#32
  let v645 : BitVec 32 := Scalar.addi v2 c1_i32_507
  let c13_i32_508 : BitVec 32 := 13#32
  let v646 : BitVec 32 := Scalar.addi v645 c13_i32_508
  let c16_i32_509 : BitVec 32 := 16#32
  let v647 : BitVec 32 := Scalar.remsi v646 c16_i32_509
  let c1_i32_515 : BitVec 32 := 1#32
  let v649 : BitVec 32 := Scalar.muli v647 c1_i32_515
  let v650 : BitVec 32 := Scalar.addi c0_i32_516 v649
  v650.toNat
def k0_dev45 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_520 : BitVec 32 := 1#32
  let v658 : BitVec 32 := Scalar.addi v2 c1_i32_520
  let c14_i32_521 : BitVec 32 := 14#32
  let v659 : BitVec 32 := Scalar.addi v658 c14_i32_521
  let c16_i32_522 : BitVec 32 := 16#32
  let v660 : BitVec 32 := Scalar.remsi v659 c16_i32_522
  let c1_i32_528 : BitVec 32 := 1#32
  let v662 : BitVec 32 := Scalar.muli v660 c1_i32_528
  let v663 : BitVec 32 := Scalar.addi c0_i32_529 v662
  v663.toNat
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_143 : BitVec 32 := 16#32
  let v280 : BitVec 32 := Scalar.muli v2 c16_i32_143
  let v840 : Index := Scalar.indexCast v280
  let c0_701 : Index := 0#32
  ![v840.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_143 : BitVec 32 := 16#32
  let v280 : BitVec 32 := Scalar.muli v2 c16_i32_143
  let c0_i32_711 : BitVec 32 := 0#32
  ![v280.toNat, 0]
def k0_dev46 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_702 : BitVec 32 := 1#32
  let v844 : BitVec 32 := Scalar.addi v2 c1_i32_702
  let c0_i32_703 : BitVec 32 := 0#32
  let v845 : BitVec 32 := Scalar.addi v844 c0_i32_703
  let c16_i32_704 : BitVec 32 := 16#32
  let v846 : BitVec 32 := Scalar.remsi v845 c16_i32_704
  let c1_i32_709 : BitVec 32 := 1#32
  let v847 : BitVec 32 := Scalar.muli v846 c1_i32_709
  let v848 : BitVec 32 := Scalar.addi c0_i32_710 v847
  v848.toNat
def k0_dev47 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_713 : BitVec 32 := 1#32
  let v855 : BitVec 32 := Scalar.addi v2 c1_i32_713
  let c1_i32_714 : BitVec 32 := 1#32
  let v856 : BitVec 32 := Scalar.addi v855 c1_i32_714
  let c16_i32_715 : BitVec 32 := 16#32
  let v857 : BitVec 32 := Scalar.remsi v856 c16_i32_715
  let c1_i32_720 : BitVec 32 := 1#32
  let v858 : BitVec 32 := Scalar.muli v857 c1_i32_720
  let v859 : BitVec 32 := Scalar.addi c0_i32_721 v858
  v859.toNat
def k0_dev48 (d0 : Dev nD) : Nat :=
  let c0_i32_732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_724 : BitVec 32 := 1#32
  let v866 : BitVec 32 := Scalar.addi v2 c1_i32_724
  let c2_i32_725 : BitVec 32 := 2#32
  let v867 : BitVec 32 := Scalar.addi v866 c2_i32_725
  let c16_i32_726 : BitVec 32 := 16#32
  let v868 : BitVec 32 := Scalar.remsi v867 c16_i32_726
  let c1_i32_731 : BitVec 32 := 1#32
  let v869 : BitVec 32 := Scalar.muli v868 c1_i32_731
  let v870 : BitVec 32 := Scalar.addi c0_i32_732 v869
  v870.toNat
def k0_dev49 (d0 : Dev nD) : Nat :=
  let c0_i32_743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_735 : BitVec 32 := 1#32
  let v877 : BitVec 32 := Scalar.addi v2 c1_i32_735
  let c3_i32_736 : BitVec 32 := 3#32
  let v878 : BitVec 32 := Scalar.addi v877 c3_i32_736
  let c16_i32_737 : BitVec 32 := 16#32
  let v879 : BitVec 32 := Scalar.remsi v878 c16_i32_737
  let c1_i32_742 : BitVec 32 := 1#32
  let v880 : BitVec 32 := Scalar.muli v879 c1_i32_742
  let v881 : BitVec 32 := Scalar.addi c0_i32_743 v880
  v881.toNat
def k0_dev50 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_746 : BitVec 32 := 1#32
  let v888 : BitVec 32 := Scalar.addi v2 c1_i32_746
  let c4_i32_747 : BitVec 32 := 4#32
  let v889 : BitVec 32 := Scalar.addi v888 c4_i32_747
  let c16_i32_748 : BitVec 32 := 16#32
  let v890 : BitVec 32 := Scalar.remsi v889 c16_i32_748
  let c1_i32_753 : BitVec 32 := 1#32
  let v891 : BitVec 32 := Scalar.muli v890 c1_i32_753
  let v892 : BitVec 32 := Scalar.addi c0_i32_754 v891
  v892.toNat
def k0_dev51 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_757 : BitVec 32 := 1#32
  let v899 : BitVec 32 := Scalar.addi v2 c1_i32_757
  let c5_i32_758 : BitVec 32 := 5#32
  let v900 : BitVec 32 := Scalar.addi v899 c5_i32_758
  let c16_i32_759 : BitVec 32 := 16#32
  let v901 : BitVec 32 := Scalar.remsi v900 c16_i32_759
  let c1_i32_764 : BitVec 32 := 1#32
  let v902 : BitVec 32 := Scalar.muli v901 c1_i32_764
  let v903 : BitVec 32 := Scalar.addi c0_i32_765 v902
  v903.toNat
def k0_dev52 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_768 : BitVec 32 := 1#32
  let v910 : BitVec 32 := Scalar.addi v2 c1_i32_768
  let c6_i32_769 : BitVec 32 := 6#32
  let v911 : BitVec 32 := Scalar.addi v910 c6_i32_769
  let c16_i32_770 : BitVec 32 := 16#32
  let v912 : BitVec 32 := Scalar.remsi v911 c16_i32_770
  let c1_i32_775 : BitVec 32 := 1#32
  let v913 : BitVec 32 := Scalar.muli v912 c1_i32_775
  let v914 : BitVec 32 := Scalar.addi c0_i32_776 v913
  v914.toNat
def k0_dev53 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_779 : BitVec 32 := 1#32
  let v921 : BitVec 32 := Scalar.addi v2 c1_i32_779
  let c7_i32_780 : BitVec 32 := 7#32
  let v922 : BitVec 32 := Scalar.addi v921 c7_i32_780
  let c16_i32_781 : BitVec 32 := 16#32
  let v923 : BitVec 32 := Scalar.remsi v922 c16_i32_781
  let c1_i32_786 : BitVec 32 := 1#32
  let v924 : BitVec 32 := Scalar.muli v923 c1_i32_786
  let v925 : BitVec 32 := Scalar.addi c0_i32_787 v924
  v925.toNat
def k0_dev54 (d0 : Dev nD) : Nat :=
  let c0_i32_798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_790 : BitVec 32 := 1#32
  let v932 : BitVec 32 := Scalar.addi v2 c1_i32_790
  let c8_i32_791 : BitVec 32 := 8#32
  let v933 : BitVec 32 := Scalar.addi v932 c8_i32_791
  let c16_i32_792 : BitVec 32 := 16#32
  let v934 : BitVec 32 := Scalar.remsi v933 c16_i32_792
  let c1_i32_797 : BitVec 32 := 1#32
  let v935 : BitVec 32 := Scalar.muli v934 c1_i32_797
  let v936 : BitVec 32 := Scalar.addi c0_i32_798 v935
  v936.toNat
def k0_dev55 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_801 : BitVec 32 := 1#32
  let v943 : BitVec 32 := Scalar.addi v2 c1_i32_801
  let c9_i32_802 : BitVec 32 := 9#32
  let v944 : BitVec 32 := Scalar.addi v943 c9_i32_802
  let c16_i32_803 : BitVec 32 := 16#32
  let v945 : BitVec 32 := Scalar.remsi v944 c16_i32_803
  let c1_i32_808 : BitVec 32 := 1#32
  let v946 : BitVec 32 := Scalar.muli v945 c1_i32_808
  let v947 : BitVec 32 := Scalar.addi c0_i32_809 v946
  v947.toNat
def k0_dev56 (d0 : Dev nD) : Nat :=
  let c0_i32_820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_812 : BitVec 32 := 1#32
  let v954 : BitVec 32 := Scalar.addi v2 c1_i32_812
  let c10_i32_813 : BitVec 32 := 10#32
  let v955 : BitVec 32 := Scalar.addi v954 c10_i32_813
  let c16_i32_814 : BitVec 32 := 16#32
  let v956 : BitVec 32 := Scalar.remsi v955 c16_i32_814
  let c1_i32_819 : BitVec 32 := 1#32
  let v957 : BitVec 32 := Scalar.muli v956 c1_i32_819
  let v958 : BitVec 32 := Scalar.addi c0_i32_820 v957
  v958.toNat
def k0_dev57 (d0 : Dev nD) : Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_823 : BitVec 32 := 1#32
  let v965 : BitVec 32 := Scalar.addi v2 c1_i32_823
  let c11_i32_824 : BitVec 32 := 11#32
  let v966 : BitVec 32 := Scalar.addi v965 c11_i32_824
  let c16_i32_825 : BitVec 32 := 16#32
  let v967 : BitVec 32 := Scalar.remsi v966 c16_i32_825
  let c1_i32_830 : BitVec 32 := 1#32
  let v968 : BitVec 32 := Scalar.muli v967 c1_i32_830
  let v969 : BitVec 32 := Scalar.addi c0_i32_831 v968
  v969.toNat
def k0_dev58 (d0 : Dev nD) : Nat :=
  let c0_i32_842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_834 : BitVec 32 := 1#32
  let v976 : BitVec 32 := Scalar.addi v2 c1_i32_834
  let c12_i32_835 : BitVec 32 := 12#32
  let v977 : BitVec 32 := Scalar.addi v976 c12_i32_835
  let c16_i32_836 : BitVec 32 := 16#32
  let v978 : BitVec 32 := Scalar.remsi v977 c16_i32_836
  let c1_i32_841 : BitVec 32 := 1#32
  let v979 : BitVec 32 := Scalar.muli v978 c1_i32_841
  let v980 : BitVec 32 := Scalar.addi c0_i32_842 v979
  v980.toNat
def k0_dev59 (d0 : Dev nD) : Nat :=
  let c0_i32_853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_845 : BitVec 32 := 1#32
  let v987 : BitVec 32 := Scalar.addi v2 c1_i32_845
  let c13_i32_846 : BitVec 32 := 13#32
  let v988 : BitVec 32 := Scalar.addi v987 c13_i32_846
  let c16_i32_847 : BitVec 32 := 16#32
  let v989 : BitVec 32 := Scalar.remsi v988 c16_i32_847
  let c1_i32_852 : BitVec 32 := 1#32
  let v990 : BitVec 32 := Scalar.muli v989 c1_i32_852
  let v991 : BitVec 32 := Scalar.addi c0_i32_853 v990
  v991.toNat
def k0_dev60 (d0 : Dev nD) : Nat :=
  let c0_i32_864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_856 : BitVec 32 := 1#32
  let v998 : BitVec 32 := Scalar.addi v2 c1_i32_856
  let c14_i32_857 : BitVec 32 := 14#32
  let v999 : BitVec 32 := Scalar.addi v998 c14_i32_857
  let c16_i32_858 : BitVec 32 := 16#32
  let v1000 : BitVec 32 := Scalar.remsi v999 c16_i32_858
  let c1_i32_863 : BitVec 32 := 1#32
  let v1001 : BitVec 32 := Scalar.muli v1000 c1_i32_863
  let v1002 : BitVec 32 := Scalar.addi c0_i32_864 v1001
  v1002.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_143 : BitVec 32 := 16#32
  let v280 : BitVec 32 := Scalar.muli v2 c16_i32_143
  let v1178 : Index := Scalar.indexCast v280
  let c512_1049 : Index := 512#32
  ![v1178.toNat, 512]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_143 : BitVec 32 := 16#32
  let v280 : BitVec 32 := Scalar.muli v2 c16_i32_143
  let c512_i32_1059 : BitVec 32 := 512#32
  ![v280.toNat, 512]
def k0_dev61 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1050 : BitVec 32 := 1#32
  let v1182 : BitVec 32 := Scalar.addi v2 c1_i32_1050
  let c0_i32_1051 : BitVec 32 := 0#32
  let v1183 : BitVec 32 := Scalar.addi v1182 c0_i32_1051
  let c16_i32_1052 : BitVec 32 := 16#32
  let v1184 : BitVec 32 := Scalar.remsi v1183 c16_i32_1052
  let c1_i32_1057 : BitVec 32 := 1#32
  let v1185 : BitVec 32 := Scalar.muli v1184 c1_i32_1057
  let v1186 : BitVec 32 := Scalar.addi c0_i32_1058 v1185
  v1186.toNat
def k0_dev62 (d0 : Dev nD) : Nat :=
  let c0_i32_1069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1061 : BitVec 32 := 1#32
  let v1193 : BitVec 32 := Scalar.addi v2 c1_i32_1061
  let c1_i32_1062 : BitVec 32 := 1#32
  let v1194 : BitVec 32 := Scalar.addi v1193 c1_i32_1062
  let c16_i32_1063 : BitVec 32 := 16#32
  let v1195 : BitVec 32 := Scalar.remsi v1194 c16_i32_1063
  let c1_i32_1068 : BitVec 32 := 1#32
  let v1196 : BitVec 32 := Scalar.muli v1195 c1_i32_1068
  let v1197 : BitVec 32 := Scalar.addi c0_i32_1069 v1196
  v1197.toNat
def k0_dev63 (d0 : Dev nD) : Nat :=
  let c0_i32_1080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1072 : BitVec 32 := 1#32
  let v1204 : BitVec 32 := Scalar.addi v2 c1_i32_1072
  let c2_i32_1073 : BitVec 32 := 2#32
  let v1205 : BitVec 32 := Scalar.addi v1204 c2_i32_1073
  let c16_i32_1074 : BitVec 32 := 16#32
  let v1206 : BitVec 32 := Scalar.remsi v1205 c16_i32_1074
  let c1_i32_1079 : BitVec 32 := 1#32
  let v1207 : BitVec 32 := Scalar.muli v1206 c1_i32_1079
  let v1208 : BitVec 32 := Scalar.addi c0_i32_1080 v1207
  v1208.toNat
def k0_dev64 (d0 : Dev nD) : Nat :=
  let c0_i32_1091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1083 : BitVec 32 := 1#32
  let v1215 : BitVec 32 := Scalar.addi v2 c1_i32_1083
  let c3_i32_1084 : BitVec 32 := 3#32
  let v1216 : BitVec 32 := Scalar.addi v1215 c3_i32_1084
  let c16_i32_1085 : BitVec 32 := 16#32
  let v1217 : BitVec 32 := Scalar.remsi v1216 c16_i32_1085
  let c1_i32_1090 : BitVec 32 := 1#32
  let v1218 : BitVec 32 := Scalar.muli v1217 c1_i32_1090
  let v1219 : BitVec 32 := Scalar.addi c0_i32_1091 v1218
  v1219.toNat
def k0_dev65 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1094 : BitVec 32 := 1#32
  let v1226 : BitVec 32 := Scalar.addi v2 c1_i32_1094
  let c4_i32_1095 : BitVec 32 := 4#32
  let v1227 : BitVec 32 := Scalar.addi v1226 c4_i32_1095
  let c16_i32_1096 : BitVec 32 := 16#32
  let v1228 : BitVec 32 := Scalar.remsi v1227 c16_i32_1096
  let c1_i32_1101 : BitVec 32 := 1#32
  let v1229 : BitVec 32 := Scalar.muli v1228 c1_i32_1101
  let v1230 : BitVec 32 := Scalar.addi c0_i32_1102 v1229
  v1230.toNat
def k0_dev66 (d0 : Dev nD) : Nat :=
  let c0_i32_1113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1105 : BitVec 32 := 1#32
  let v1237 : BitVec 32 := Scalar.addi v2 c1_i32_1105
  let c5_i32_1106 : BitVec 32 := 5#32
  let v1238 : BitVec 32 := Scalar.addi v1237 c5_i32_1106
  let c16_i32_1107 : BitVec 32 := 16#32
  let v1239 : BitVec 32 := Scalar.remsi v1238 c16_i32_1107
  let c1_i32_1112 : BitVec 32 := 1#32
  let v1240 : BitVec 32 := Scalar.muli v1239 c1_i32_1112
  let v1241 : BitVec 32 := Scalar.addi c0_i32_1113 v1240
  v1241.toNat
def k0_dev67 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1116 : BitVec 32 := 1#32
  let v1248 : BitVec 32 := Scalar.addi v2 c1_i32_1116
  let c6_i32_1117 : BitVec 32 := 6#32
  let v1249 : BitVec 32 := Scalar.addi v1248 c6_i32_1117
  let c16_i32_1118 : BitVec 32 := 16#32
  let v1250 : BitVec 32 := Scalar.remsi v1249 c16_i32_1118
  let c1_i32_1123 : BitVec 32 := 1#32
  let v1251 : BitVec 32 := Scalar.muli v1250 c1_i32_1123
  let v1252 : BitVec 32 := Scalar.addi c0_i32_1124 v1251
  v1252.toNat
def k0_dev68 (d0 : Dev nD) : Nat :=
  let c0_i32_1135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1127 : BitVec 32 := 1#32
  let v1259 : BitVec 32 := Scalar.addi v2 c1_i32_1127
  let c7_i32_1128 : BitVec 32 := 7#32
  let v1260 : BitVec 32 := Scalar.addi v1259 c7_i32_1128
  let c16_i32_1129 : BitVec 32 := 16#32
  let v1261 : BitVec 32 := Scalar.remsi v1260 c16_i32_1129
  let c1_i32_1134 : BitVec 32 := 1#32
  let v1262 : BitVec 32 := Scalar.muli v1261 c1_i32_1134
  let v1263 : BitVec 32 := Scalar.addi c0_i32_1135 v1262
  v1263.toNat
def k0_dev69 (d0 : Dev nD) : Nat :=
  let c0_i32_1146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1138 : BitVec 32 := 1#32
  let v1270 : BitVec 32 := Scalar.addi v2 c1_i32_1138
  let c8_i32_1139 : BitVec 32 := 8#32
  let v1271 : BitVec 32 := Scalar.addi v1270 c8_i32_1139
  let c16_i32_1140 : BitVec 32 := 16#32
  let v1272 : BitVec 32 := Scalar.remsi v1271 c16_i32_1140
  let c1_i32_1145 : BitVec 32 := 1#32
  let v1273 : BitVec 32 := Scalar.muli v1272 c1_i32_1145
  let v1274 : BitVec 32 := Scalar.addi c0_i32_1146 v1273
  v1274.toNat
def k0_dev70 (d0 : Dev nD) : Nat :=
  let c0_i32_1157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1149 : BitVec 32 := 1#32
  let v1281 : BitVec 32 := Scalar.addi v2 c1_i32_1149
  let c9_i32_1150 : BitVec 32 := 9#32
  let v1282 : BitVec 32 := Scalar.addi v1281 c9_i32_1150
  let c16_i32_1151 : BitVec 32 := 16#32
  let v1283 : BitVec 32 := Scalar.remsi v1282 c16_i32_1151
  let c1_i32_1156 : BitVec 32 := 1#32
  let v1284 : BitVec 32 := Scalar.muli v1283 c1_i32_1156
  let v1285 : BitVec 32 := Scalar.addi c0_i32_1157 v1284
  v1285.toNat
def k0_dev71 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1160 : BitVec 32 := 1#32
  let v1292 : BitVec 32 := Scalar.addi v2 c1_i32_1160
  let c10_i32_1161 : BitVec 32 := 10#32
  let v1293 : BitVec 32 := Scalar.addi v1292 c10_i32_1161
  let c16_i32_1162 : BitVec 32 := 16#32
  let v1294 : BitVec 32 := Scalar.remsi v1293 c16_i32_1162
  let c1_i32_1167 : BitVec 32 := 1#32
  let v1295 : BitVec 32 := Scalar.muli v1294 c1_i32_1167
  let v1296 : BitVec 32 := Scalar.addi c0_i32_1168 v1295
  v1296.toNat
def k0_dev72 (d0 : Dev nD) : Nat :=
  let c0_i32_1179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1171 : BitVec 32 := 1#32
  let v1303 : BitVec 32 := Scalar.addi v2 c1_i32_1171
  let c11_i32_1172 : BitVec 32 := 11#32
  let v1304 : BitVec 32 := Scalar.addi v1303 c11_i32_1172
  let c16_i32_1173 : BitVec 32 := 16#32
  let v1305 : BitVec 32 := Scalar.remsi v1304 c16_i32_1173
  let c1_i32_1178 : BitVec 32 := 1#32
  let v1306 : BitVec 32 := Scalar.muli v1305 c1_i32_1178
  let v1307 : BitVec 32 := Scalar.addi c0_i32_1179 v1306
  v1307.toNat
def k0_dev73 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1182 : BitVec 32 := 1#32
  let v1314 : BitVec 32 := Scalar.addi v2 c1_i32_1182
  let c12_i32_1183 : BitVec 32 := 12#32
  let v1315 : BitVec 32 := Scalar.addi v1314 c12_i32_1183
  let c16_i32_1184 : BitVec 32 := 16#32
  let v1316 : BitVec 32 := Scalar.remsi v1315 c16_i32_1184
  let c1_i32_1189 : BitVec 32 := 1#32
  let v1317 : BitVec 32 := Scalar.muli v1316 c1_i32_1189
  let v1318 : BitVec 32 := Scalar.addi c0_i32_1190 v1317
  v1318.toNat
def k0_dev74 (d0 : Dev nD) : Nat :=
  let c0_i32_1201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1193 : BitVec 32 := 1#32
  let v1325 : BitVec 32 := Scalar.addi v2 c1_i32_1193
  let c13_i32_1194 : BitVec 32 := 13#32
  let v1326 : BitVec 32 := Scalar.addi v1325 c13_i32_1194
  let c16_i32_1195 : BitVec 32 := 16#32
  let v1327 : BitVec 32 := Scalar.remsi v1326 c16_i32_1195
  let c1_i32_1200 : BitVec 32 := 1#32
  let v1328 : BitVec 32 := Scalar.muli v1327 c1_i32_1200
  let v1329 : BitVec 32 := Scalar.addi c0_i32_1201 v1328
  v1329.toNat
def k0_dev75 (d0 : Dev nD) : Nat :=
  let c0_i32_1212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1204 : BitVec 32 := 1#32
  let v1336 : BitVec 32 := Scalar.addi v2 c1_i32_1204
  let c14_i32_1205 : BitVec 32 := 14#32
  let v1337 : BitVec 32 := Scalar.addi v1336 c14_i32_1205
  let c16_i32_1206 : BitVec 32 := 16#32
  let v1338 : BitVec 32 := Scalar.remsi v1337 c16_i32_1206
  let c1_i32_1211 : BitVec 32 := 1#32
  let v1339 : BitVec 32 := Scalar.muli v1338 c1_i32_1211
  let v1340 : BitVec 32 := Scalar.addi c0_i32_1212 v1339
  v1340.toNat
def k0_off11 (d0 : Dev nD) : Fin 3 → Nat :=
  let c0_1340 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_143 : BitVec 32 := 16#32
  let v280 : BitVec 32 := Scalar.muli v2 c16_i32_143
  let v1442 : Index := Scalar.indexCast v280
  let c0_1341 : Index := 0#32
  ![0, v1442.toNat, 0]
def k0_off12 (d0 : Dev nD) : Fin 3 → Nat :=
  let c0_1474 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_143 : BitVec 32 := 16#32
  let v280 : BitVec 32 := Scalar.muli v2 c16_i32_143
  let v1545 : Index := Scalar.indexCast v280
  let c512_1475 : Index := 512#32
  ![0, v1545.toNat, 512]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x256x1024 : Shape := ⟨3, ![1, 256, 1024]⟩
abbrev S1024x16384 : Shape := ⟨2, ![1024, 16384]⟩
abbrev S16384x1024 : Shape := ⟨2, ![16384, 1024]⟩
abbrev S1x256x16384 : Shape := ⟨3, ![1, 256, 16384]⟩
abbrev S1x256x128x128 : Shape := ⟨4, ![1, 256, 128, 128]⟩
abbrev S_ : Shape := ⟨0, ![]⟩
abbrev S1x128x256x1 : Shape := ⟨4, ![1, 128, 256, 1]⟩
abbrev S1x128x256x256 : Shape := ⟨4, ![1, 128, 256, 256]⟩
abbrev S1x128x256 : Shape := ⟨3, ![1, 128, 256]⟩
abbrev S1x256x128x1 : Shape := ⟨4, ![1, 256, 128, 1]⟩
abbrev S1x128x128x256 : Shape := ⟨4, ![1, 128, 128, 256]⟩

abbrev nBuf : Space → Nat
  | .hbm => 46
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S16384x1024, .f32⟩
  | .hbm, ⟨5, _⟩ => ⟨S1x256x16384, .f32⟩
  | .hbm, ⟨6, _⟩ => ⟨S1x256x128x128, .f32⟩
  | .hbm, ⟨7, _⟩ => ⟨S1x256x16384, .f32⟩
  | .hbm, ⟨8, _⟩ => ⟨S1x256x128x128, .f32⟩
  | .hbm, ⟨9, _⟩ => ⟨S1x256x16384, .f32⟩
  | .hbm, ⟨10, _⟩ => ⟨S1x256x128x128, .f32⟩
  | .hbm, ⟨11, _⟩ => ⟨S_, .f32⟩
  | .hbm, ⟨12, _⟩ => ⟨S1x256x128x128, .f32⟩
  | .hbm, ⟨13, _⟩ => ⟨S_, .f32⟩
  | .hbm, ⟨14, _⟩ => ⟨S1x128x256x1, .f32⟩
  | .hbm, ⟨15, _⟩ => ⟨S_, .f32⟩
  | .hbm, ⟨16, _⟩ => ⟨S1x128x256x1, .f32⟩
  | .hbm, ⟨17, _⟩ => ⟨S1x128x256x256, .f32⟩
  | .hbm, ⟨18, _⟩ => ⟨S_, .f32⟩
  | .hbm, ⟨19, _⟩ => ⟨S1x128x256x256, .f32⟩
  | .hbm, ⟨20, _⟩ => ⟨S1x128x256x256, .f32⟩
  | .hbm, ⟨21, _⟩ => ⟨S_, .f32⟩
  | .hbm, ⟨22, _⟩ => ⟨S1x128x256, .f32⟩
  | .hbm, ⟨23, _⟩ => ⟨S1x128x256x1, .f32⟩
  | .hbm, ⟨24, _⟩ => ⟨S1x128x256x1, .f32⟩
  | .hbm, ⟨25, _⟩ => ⟨S1x128x256x1, .f32⟩
  | .hbm, ⟨26, _⟩ => ⟨S1x128x256x1, .f32⟩
  | .hbm, ⟨27, _⟩ => ⟨S1x128x256x256, .f32⟩
  | .hbm, ⟨28, _⟩ => ⟨S1x128x256x256, .f32⟩
  | .hbm, ⟨29, _⟩ => ⟨S1x128x256x256, .f32⟩
  | .hbm, ⟨30, _⟩ => ⟨S1x128x256x1, .f32⟩
  | .hbm, ⟨31, _⟩ => ⟨S_, .f32⟩
  | .hbm, ⟨32, _⟩ => ⟨S1x128x256, .f32⟩
  | .hbm, ⟨33, _⟩ => ⟨S1x128x256x1, .f32⟩
  | .hbm, ⟨34, _⟩ => ⟨S1x128x256x1, .f32⟩
  | .hbm, ⟨35, _⟩ => ⟨S1x256x128x1, .f32⟩
  | .hbm, ⟨36, _⟩ => ⟨S1x256x128x128, .f32⟩
  | .hbm, ⟨37, _⟩ => ⟨S1x256x128x128, .f32⟩
  | .hbm, ⟨38, _⟩ => ⟨S1x128x128x256, .f32⟩
  | .hbm, ⟨39, _⟩ => ⟨S1x256x128x128, .f32⟩
  | .hbm, ⟨40, _⟩ => ⟨S1x256x128x128, .f32⟩
  | .hbm, ⟨41, _⟩ => ⟨S1x256x128x1, .f32⟩
  | .hbm, ⟨42, _⟩ => ⟨S1x256x128x128, .f32⟩
  | .hbm, ⟨43, _⟩ => ⟨S1x256x128x128, .f32⟩
  | .hbm, ⟨44, _⟩ => ⟨S1x256x16384, .f32⟩
  | .hbm, ⟨45, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Geometry.lean ====
/-
The geometry of the exchange: which device each of the fifteen messages of a device goes to, and how the buffers are
cut. A `256 × 1024` buffer is cut into sixteen slabs of sixteen rows and two halves of 512 columns; the receive buffer
of the reduce step has a slot of sixteen rows for each device, cut into the same two halves of columns; the output is
cut into the two halves of columns alone.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.Attn

open Cert.KernelIdeal Cert.KernelIdeal.Gen

open Idealize.ShloMosaic
open Idealize.ShloMosaic.TcCoe

/-! ## The devices a device talks to -/

set_option backward.proofsInPublic true in
/-- The device that message `j` of device `c` goes to: `c + 1 + j` around the ring of sixteen. -/
def tgt (c : Dev nD) (j : ℕ) : Dev nD := ⟨(c.val + 1 + j) % 16, Nat.mod_lt _ (by decide)⟩
set_option backward.proofsInPublic true in
/-- The device whose message `j` comes to device `c`. -/
def src (c : Dev nD) (j : ℕ) : Dev nD := ⟨(c.val + (15 - j % 16)) % 16, Nat.mod_lt _ (by decide)⟩

theorem tgt_val (c : Dev nD) (j : ℕ) : (tgt c j).val = (c.val + 1 + j) % 16 := rfl
theorem src_val (c : Dev nD) (j : ℕ) : (src c j).val = (c.val + (15 - j % 16)) % 16 := rfl

theorem dev_lt (c : Dev nD) : c.val < 16 := c.isLt

theorem tgt_src (c : Dev nD) (j : ℕ) : tgt (src c j) j = c := by
  refine Fin.ext ?_
  have := dev_lt c
  rw [tgt_val, src_val]; omega
theorem src_tgt (c : Dev nD) (j : ℕ) : src (tgt c j) j = c := by
  refine Fin.ext ?_
  have := dev_lt c
  rw [src_val, tgt_val]; omega
/-- Message `14 - j` of the device that message `j` of `c` goes to comes back to `c`. -/
theorem tgt_back (c : Dev nD) {j : ℕ} (h : j < 15) : tgt (tgt c j) (14 - j) = c := by
  refine Fin.ext ?_
  have := dev_lt c
  rw [tgt_val, tgt_val]; omega
theorem tgt_back' (c : Dev nD) {j : ℕ} (h : j < 15) : tgt (tgt c (14 - j)) j = c := by
  refine Fin.ext ?_
  have := dev_lt c
  rw [tgt_val, tgt_val]; omega
theorem tgt_ne (c : Dev nD) {j : ℕ} (h : j < 15) : tgt c j ≠ c := fun e => by
  have := dev_lt c
  have h1 := congrArg Fin.val e
  rw [tgt_val] at h1; omega
theorem tgt_inj (c : Dev nD) {j k : ℕ} (hj : j < 15) (hk : k < 15) (h : tgt c j = tgt c k) : j = k := by
  have := dev_lt c
  have h1 := congrArg Fin.val h
  rw [tgt_val, tgt_val] at h1; omega
theorem src_inj (c : Dev nD) {j k : ℕ} (hj : j < 15) (hk : k < 15) (h : src c j = src c k) : j = k := by
  have := dev_lt c
  have h1 := congrArg Fin.val h
  rw [src_val, src_val] at h1; omega
theorem src_ne (c : Dev nD) {j : ℕ} (h : j < 15) : src c j ≠ c := fun e => by
  have := dev_lt c
  have h1 := congrArg Fin.val e
  rw [src_val] at h1; omega
/-- Every other device is the target of one of the fifteen messages, -/
theorem exists_tgt {c d : Dev nD} (h : d ≠ c) : ∃ j < 15, tgt c j = d := by
  have hc := dev_lt c
  have hd := dev_lt d
  have hv : d.val ≠ c.val := fun e => h (Fin.ext e)
  refine ⟨(d.val + 15 - c.val) % 16, by omega, Fin.ext ?_⟩
  rw [tgt_val]; omega
/-- and the sender of one. -/
theorem exists_src {c d : Dev nD} (h : d ≠ c) : ∃ j < 15, src c j = d := by
  have hc := dev_lt c
  have hd := dev_lt d
  have hv : d.val ≠ c.val := fun e => h (Fin.ext e)
  refine ⟨(c.val + 15 - d.val) % 16, by omega, Fin.ext ?_⟩
  rw [src_val]; omega

/-- Message `j`'s turn around the ring, as a bijection of the devices. -/
def turn (j : ℕ) : Dev nD ≃ Dev nD := ⟨fun c => tgt c j, fun c => src c j, fun c => src_tgt c j, fun c => tgt_src c j⟩

/-! ## The buffers -/

/-- The attention's partial result, the reduce step's receive buffer, the gather step's buffer, the output's staging buffer, the output. -/
abbrev pM : Memref sig .tc .vmem S256x1024 .bf16 := Memref.whole cc0_scratch1
abbrev rM : Memref sig .tc .vmem S16x16x1024 .bf16 := Memref.whole cc0_scratch2
abbrev aM : Memref sig .tc .vmem S256x1024 .bf16 := Memref.whole cc0_scratch3
abbrev vM : Memref sig .tc .vmem S1x256x1024 .f32 := Memref.whole cc0_scratch0
abbrev oM : Memref sig .tc .hbm S1x256x1024 .f32 := Memref.whole main_v1

/-- Slab `d` (rows `16 d` to `16 d + 15`), half `h` of the columns. -/
def blk (d h : ℕ) : Finset S256x1024.Idx := Finset.univ.filter fun i => (i 0).val / 16 = d ∧ (i 1).val / 512 = h
/-- Slot `s` of the receive buffer, half `h` of the columns. -/
def slot (s h : ℕ) : Finset S16x16x1024.Idx := Finset.univ.filter fun i => (i 0).val = s ∧ (i 2).val / 512 = h
/-- Half `h` of the output's columns. -/
def half (h : ℕ) : Finset S1x256x1024.Idx := Finset.univ.filter fun i => (i 2).val / 512 = h
/-- Half `h` of the columns of a `256 × 1024` buffer. -/
def cols (h : ℕ) : Finset S256x1024.Idx := Finset.univ.filter fun i => (i 1).val / 512 = h

theorem mem_blk {d h : ℕ} {i : S256x1024.Idx} : i ∈ blk d h ↔ (i 0).val / 16 = d ∧ (i 1).val / 512 = h := by simp [blk]
theorem mem_slot {s h : ℕ} {i : S16x16x1024.Idx} : i ∈ slot s h ↔ (i 0).val = s ∧ (i 2).val / 512 = h := by simp [slot]
theorem mem_half {h : ℕ} {i : S1x256x1024.Idx} : i ∈ half h ↔ (i 2).val / 512 = h := by simp [half]
theorem mem_cols {h : ℕ} {i : S256x1024.Idx} : i ∈ cols h ↔ (i 1).val / 512 = h := by simp [cols]

theorem lt0 (i : S256x1024.Idx) : (i 0).val < 256 := (i 0).isLt
theorem lt1 (i : S256x1024.Idx) : (i 1).val < 1024 := (i 1).isLt
theorem slt0 (i : S16x512.Idx) : (i 0).val < 16 := (i 0).isLt
theorem slt1 (i : S16x512.Idx) : (i 1).val < 512 := (i 1).isLt
theorem rlt0 (i : S16x16x1024.Idx) : (i 0).val < 16 := (i 0).isLt
theorem rlt1 (i : S16x16x1024.Idx) : (i 1).val < 16 := (i 1).isLt
theorem rlt2 (i : S16x16x1024.Idx) : (i 2).val < 1024 := (i 2).isLt
theorem olt1 (i : S1x256x1024.Idx) : (i 1).val < 256 := (i 1).isLt
theorem olt2 (i : S1x256x1024.Idx) : (i 2).val < 1024 := (i 2).isLt

/-- A rectangle of sixteen rows and 512 columns at row `16 d`, column `512 h` is slab `d`, half `h`. -/
theorem rect_blk {d h : ℕ} {off : Fin 2 → ℕ} (ho : off = ![16 * d, 512 * h]) (inb) :
    (Rect.unit (s := S256x1024) off S16x512.size inb).set = blk d h := by
  subst ho
  ext i
  rw [Rect.mem_set_unit, mem_blk]
  have := lt0 i
  have := lt1 i
  constructor
  · intro hi
    have h0 := hi 0
    have h1 := hi 1
    change 16 * d ≤ (i 0).val ∧ (i 0).val < 16 * d + 16 at h0
    change 512 * h ≤ (i 1).val ∧ (i 1).val < 512 * h + 512 at h1
    omega
  · intro hi a
    fin_cases a
    · change 16 * d ≤ (i 0).val ∧ (i 0).val < 16 * d + 16
      omega
    · change 512 * h ≤ (i 1).val ∧ (i 1).val < 512 * h + 512
      omega

/-- A rectangle of one slot and 512 columns at slot `s`, column `512 h` is slot `s`, half `h`. -/
theorem rect_slot {s h : ℕ} {off : Fin 3 → ℕ} (ho : off = ![s, 0, 512 * h]) (inb) :
    (Rect.unit (s := S16x16x1024) off S1x16x512.size inb).set = slot s h := by
  subst ho
  ext i
  rw [Rect.mem_set_unit, mem_slot]
  have := rlt1 i
  have := rlt2 i
  constructor
  · intro hi
    have h0 := hi 0
    have h2 := hi 2
    change s ≤ (i 0).val ∧ (i 0).val < s + 1 at h0
    change 512 * h ≤ (i 2).val ∧ (i 2).val < 512 * h + 512 at h2
    omega
  · intro hi a
    fin_cases a
    · change s ≤ (i 0).val ∧ (i 0).val < s + 1
      omega
    · change 0 ≤ (i 1).val ∧ (i 1).val < 0 + 16
      omega
    · change 512 * h ≤ (i 2).val ∧ (i 2).val < 512 * h + 512
      omega

/-- A rectangle of one whole slot at slot `s` is the slot's two halves. -/
theorem rect_slots {s : ℕ} {off : Fin 3 → ℕ} (ho : off = ![s, 0, 0]) (inb) :
    (Rect.unit (s := S16x16x1024) off S1x16x1024.size inb).set = slot s 0 ∪ slot s 1 := by
  subst ho
  ext i
  rw [Rect.mem_set_unit, Finset.mem_union, mem_slot, mem_slot]
  have := rlt1 i
  have := rlt2 i
  constructor
  · intro hi
    have h0 := hi 0
    change s ≤ (i 0).val ∧ (i 0).val < s + 1 at h0
    omega
  · intro hi a
    fin_cases a
    · change s ≤ (i 0).val ∧ (i 0).val < s + 1
      omega
    · change 0 ≤ (i 1).val ∧ (i 1).val < 0 + 16
      omega
    · change 0 ≤ (i 2).val ∧ (i 2).val < 0 + 1024
      omega

/-- A rectangle of all rows and 512 columns at column `512 h` is half `h`. -/
theorem rect_cols {h : ℕ} {off : Fin 2 → ℕ} (ho : off = ![0, 512 * h]) (inb) :
    (Rect.unit (s := S256x1024) off S256x512.size inb).set = cols h := by
  subst ho
  ext i
  rw [Rect.mem_set_unit, mem_cols]
  have := lt0 i
  have := lt1 i
  constructor
  · intro hi
    have h1 := hi 1
    change 512 * h ≤ (i 1).val ∧ (i 1).val < 512 * h + 512 at h1
    omega
  · intro hi a
    fin_cases a
    · change 0 ≤ (i 0).val ∧ (i 0).val < 0 + 256
      omega
    · change 512 * h ≤ (i 1).val ∧ (i 1).val < 512 * h + 512
      omega

/-- The same of the output. -/
theorem rect_half {h : ℕ} {off : Fin 3 → ℕ} (ho : off = ![0, 0, 512 * h]) (inb) :
    (Rect.unit (s := S1x256x1024) off S1x256x512.size inb).set = half h := by
  subst ho
  ext i
  rw [Rect.mem_set_unit, mem_half]
  have := olt1 i
  have := olt2 i
  have : (i 0).val < 1 := (i 0).isLt
  constructor
  · intro hi
    have h2 := hi 2
    change 512 * h ≤ (i 2).val ∧ (i 2).val < 512 * h + 512 at h2
    omega
  · intro hi a
    fin_cases a
    · change 0 ≤ (i 0).val ∧ (i 0).val < 0 + 1
      omega
    · change 0 ≤ (i 1).val ∧ (i 1).val < 0 + 256
      omega
    · change 512 * h ≤ (i 2).val ∧ (i 2).val < 512 * h + 512
      omega

/-! ## The pieces are disjoint and make the whole -/

theorem blk_disjoint {d h d' h' : ℕ} (hne : ¬(d = d' ∧ h = h')) : Disjoint (blk d h) (blk d' h') :=
  Finset.disjoint_left.mpr fun i hi hi' => by rw [mem_blk] at hi hi'; omega
theorem slot_disjoint {d h d' h' : ℕ} (hne : ¬(d = d' ∧ h = h')) : Disjoint (slot d h) (slot d' h') :=
  Finset.disjoint_left.mpr fun i hi hi' => by rw [mem_slot] at hi hi'; omega
theorem half_disjoint : Disjoint (half 0) (half 1) :=
  Finset.disjoint_left.mpr fun i hi hi' => by rw [mem_half] at hi hi'; omega

/-- The slabs of half `h` are that half of the columns. -/
theorem biUnion_blk (h : ℕ) : (Finset.univ : Finset (Dev nD)).biUnion (fun d => blk d.val h) = cols h := by
  ext i
  have := lt0 i
  simp only [Finset.mem_biUnion, Finset.mem_univ, true_and, mem_blk, mem_cols]
  exact ⟨fun ⟨_, _, e⟩ => e, fun e => ⟨⟨(i 0).val / 16, by show _ < 16; omega⟩, rfl, e⟩⟩
theorem biUnion_slot : (Finset.univ : Finset (Dev nD × Fin 2)).biUnion (fun x => slot x.1.val x.2.val) = Finset.univ := by
  ext i
  have := rlt2 i
  simp only [Finset.mem_biUnion, Finset.mem_univ, true_and, mem_slot, iff_true]
  exact ⟨(⟨(i 0).val, rlt0 i⟩, ⟨(i 2).val / 512, by omega⟩), rfl, rfl⟩
theorem biUnion_blks : (Finset.univ : Finset (Dev nD × Fin 2)).biUnion (fun x => blk x.1.val x.2.val) = Finset.univ := by
  ext i
  have := lt0 i
  have := lt1 i
  simp only [Finset.mem_biUnion, Finset.mem_univ, true_and, mem_blk, iff_true]
  exact ⟨(⟨(i 0).val / 16, by show _ < 16; omega⟩, ⟨(i 1).val / 512, by omega⟩), rfl, rfl⟩
theorem union_half : half 0 ∪ half 1 = Finset.univ := by
  ext i
  have := olt2 i
  simp only [Finset.mem_union, mem_half, Finset.mem_univ, iff_true]
  omega

/-! ## Where an index lies -/

set_option backward.proofsInPublic true in
/-- An index of a slab's half, from its coordinates. -/
def sIx (a b : ℕ) (ha : a < 16) (hb : b < 512) : S16x512.Idx := fun
  | 0 => ⟨a, ha⟩
  | 1 => ⟨b, hb⟩
set_option backward.proofsInPublic true in
/-- An index of a `256 × 1024` buffer, from its coordinates. -/
def bIx (a b : ℕ) (ha : a < 256) (hb : b < 1024) : S256x1024.Idx := fun
  | 0 => ⟨a, ha⟩
  | 1 => ⟨b, hb⟩

theorem bIx_eq {a b : ℕ} {ha : a < 256} {hb : b < 1024} {i : S256x1024.Idx} (h0 : (i 0).val = a) (h1 : (i 1).val = b) :
    bIx a b ha hb = i := funext fun x => by
  fin_cases x
  · exact Fin.ext h0.symm
  · exact Fin.ext h1.symm
theorem sIx_eq {a b : ℕ} {ha : a < 16} {hb : b < 512} {i : S16x512.Idx} (h0 : (i 0).val = a) (h1 : (i 1).val = b) :
    sIx a b ha hb = i := funext fun x => by
  fin_cases x
  · exact Fin.ext h0.symm
  · exact Fin.ext h1.symm

/-- Position `y` of a rectangle of slab `d`, half `h`, in the whole buffer. -/
theorem emb_blk {off : Fin 2 → ℕ} {d h : ℕ} (ho : off = ![16 * d, 512 * h]) {inb} (y : (Rect.unit (s := S256x1024) off S16x512.size inb).shape.Idx) :
    ((Rect.unit (s := S256x1024) off S16x512.size inb).emb y 0).val = 16 * d + (y 0).val
      ∧ ((Rect.unit (s := S256x1024) off S16x512.size inb).emb y 1).val = 512 * h + (y 1).val := by
  subst ho
  exact ⟨by rw [ValueKit.rect_emb_unit_val]; rfl, by rw [ValueKit.rect_emb_unit_val]; rfl⟩

end Cert.Attn

end
-- ==== Proof.Schedule.lean ====
/-
The protocol of the exchange: what every buffer holds at each stage, which semaphore counts what, and who pays it with
what. A device's own semaphores are its runtime barrier and 122 transfer semaphores, numbered from zero: two for the
copies of the output's halves, then for each of four groups — sends of the reduce step, receipts of the reduce step, sends
of the gather step, receipts of the gather step — two halves of fifteen messages.
-/
module

public import proofs.«01_k».proof.Proof.Geometry

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the buffers hold -/

section Contents

variable (P : Dev nD → Vec F S256x1024 .bf16)

/-- Rows `16 c …` of device `s`'s partial result, half `h` of the columns, widened: what device `c` adds up. -/
def term (c : Dev nD) (h : Fin 2) (s : Fin 16) : FVec F S16x512 .f32 := fun y =>
  FloatOps.extf .f32 bitsLt_bf16_f32 (P s (bIx (16 * c.val + (y 0).val) (512 * h.val + (y 1).val)
    (by have := dev_lt c; have := slt0 y; omega) (by have := slt1 y; omega)))

/-- Sixteen slabs added up in the order of a balanced tree. -/
def tree (f : Fin 16 → FVec F S16x512 .f32) : FVec F S16x512 .f32 :=
  addf (addf (addf (addf (f 0) (f 1)) (addf (f 2) (f 3))) (addf (addf (f 4) (f 5)) (addf (f 6) (f 7))))
    (addf (addf (addf (f 8) (f 9)) (addf (f 10) (f 11))) (addf (addf (f 12) (f 13)) (addf (f 14) (f 15))))

/-- Device `c`'s slab of the sum of all partial results, half `h` of the columns. -/
def red (c : Dev nD) (h : Fin 2) : FVec F S16x512 .f32 := tree (term P c h)

set_option backward.proofsInPublic true in
/-- The device whose slab a row is in. -/
def devOf (a : ℕ) (ha : a < 256) : Dev nD := ⟨a / 16, by show a / 16 < 16; omega⟩
set_option backward.proofsInPublic true in
/-- The half a column is in. -/
def halfOf (b : ℕ) (hb : b < 1024) : Fin 2 := ⟨b / 512, by omega⟩

/-- The receive buffer of device `c`, filled: slot `s` holds device `s`'s rows of slab `c`. -/
def recvC (c : Dev nD) : Vec F S16x16x1024 .bf16 := fun i =>
  P ⟨(i 0).val, rlt0 i⟩ (bIx (16 * c.val + (i 1).val) (i 2).val (by have := dev_lt c; have := rlt1 i; omega) (rlt2 i))

/-- The gather buffer, filled: every device's slab of the sum, narrowed. -/
def gathC : Vec F S256x1024 .bf16 := fun i =>
  FloatOps.truncf .bf16 bitsLt_bf16_f32 (red P (devOf (i 0).val (lt0 i)) (halfOf (i 1).val (lt1 i))
    (sIx ((i 0).val % 16) ((i 1).val % 512) (Nat.mod_lt _ (by decide)) (Nat.mod_lt _ (by decide))))

/-- Device `c`'s output: its own slab of the sum as added up, the others as gathered, widened. -/
def outC (c : Dev nD) : Vec F S1x256x1024 .f32 := fun i =>
  if (i 1).val / 16 = c.val then
    red P c (halfOf (i 2).val (olt2 i)) (sIx ((i 1).val % 16) ((i 2).val % 512) (Nat.mod_lt _ (by decide)) (Nat.mod_lt _ (by decide)))
  else FloatOps.extf .f32 bitsLt_bf16_f32 (gathC P (bIx (i 1).val (i 2).val (olt1 i) (olt2 i)))

end Contents

/-! ## The resource algebra -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The runtime's barrier semaphore, and the transfer semaphores by number. -/
abbrev barS : Sem sig := (SemArray.scalar (sig.barrier 0 rfl) : Sems sig S_).sem
set_option backward.proofsInPublic true in
def dsem (i : ℕ) : DmaSem sig := ⟨(5 + i) % 127, Nat.mod_lt _ (by decide)⟩

theorem dsem_val {i : ℕ} (h : i < 122) : (dsem i).val = 5 + i := Nat.mod_eq_of_lt (by omega)
theorem dsem_inj {i j : ℕ} (hi : i < 122) (hj : j < 122) (h : dsem i = dsem j) : i = j := by
  have := congrArg Fin.val h
  rw [dsem_val hi, dsem_val hj] at this; omega

abbrev barCell (c : Dev nD) : GSem nD τ sig := ((c : Thread nD τ), .reg barS)
abbrev dcell (c : Dev nD) (i : ℕ) : GSem nD τ sig := ((c : Thread nD τ), .dma (dsem i))

/-- What a transfer of one half slab counts, and what a copy of one half of the output counts. -/
abbrev N : ℕ := (pM.slice (Rect.unit (s := S256x1024) ![0, 0] S16x512.size (by decide)) (fun _ => rfl)).view.dmaCredit
abbrev NS : ℕ := (vM.slice (Rect.unit (s := S1x256x1024) ![0, 0, 0] S1x256x512.size inb_S1x256x1024_S1x256x512_0_0_0) (fun _ => rfl)).view.dmaCredit
theorem N_pos : 0 < N := View.dmaCredit_pos _ (by decide)
theorem NS_pos : 0 < NS := View.dmaCredit_pos _ (by decide)
/-- What transfer semaphore `i` counts in all. -/
def amt (i : ℕ) : ℕ := if i < 2 then NS else N
theorem amt_pos (i : ℕ) : 0 < amt i := by unfold amt; split; exacts [NS_pos, N_pos]
theorem amt_of_le {i : ℕ} (h : 2 ≤ i) : amt i = N := if_neg (by omega)

/-! ## Shares of a slab being sent to fifteen devices at once -/

/-- What is left of a slab's share after `k` sends have each taken theirs. -/
def rest : ℕ → PosShare TreeShare
  | 0 => fullShare
  | k + 1 => (rest k).right
/-- What send `k` takes. -/
def sq (k : ℕ) : PosShare TreeShare := (rest k).left
theorem rest_split (k : ℕ) : rest k ∈ PCS.op (sq k) (rest (k + 1)) := PosShare.mem_left_op_right _

/-! ## What each payment hands over -/

section Pay

variable (P : Dev nD → Vec F S256x1024 .bf16)

/-- Half `h` of slab `d` of device `c`'s partial result, of the gather buffer, half `h` of slot `s` of the receive buffer. -/
def pPts (c : Dev nD) (d h : ℕ) (f : Vec F S256x1024 .bf16) : sProp 𝕄 := (c : Thread nD τ).loc cc0_scratch1 ↦[blk d h]{fullShare} f
def aPts (q : PosShare TreeShare) (c : Dev nD) (d h : ℕ) (f : Vec F S256x1024 .bf16) : sProp 𝕄 := (c : Thread nD τ).loc cc0_scratch3 ↦[blk d h]{q} f
def rPts (c : Dev nD) (s h : ℕ) (f : Vec F S16x16x1024 .bf16) : sProp 𝕄 := (c : Thread nD τ).loc cc0_scratch2 ↦[slot s h]{fullShare} f
def vPts (c : Dev nD) (h : ℕ) (f : Vec F S1x256x1024 .f32) : sProp 𝕄 := (c : Thread nD τ).loc cc0_scratch0 ↦[half h]{fullShare} f
def oPts (c : Dev nD) (h : ℕ) (f : Vec F S1x256x1024 .f32) : sProp 𝕄 := (c : Thread nD τ).loc main_v1 ↦[half h]{fullShare} f

instance pPts_storable (c : Dev nD) (d h f) : BI.Storable (upEmb : UEmb _ 𝕄) (pPts (F := F) c d h f) := by unfold pPts; infer_instance
instance aPts_storable (q) (c : Dev nD) (d h f) : BI.Storable (upEmb : UEmb _ 𝕄) (aPts (F := F) q c d h f) := by unfold aPts; infer_instance
instance rPts_storable (c : Dev nD) (s h f) : BI.Storable (upEmb : UEmb _ 𝕄) (rPts (F := F) c s h f) := by unfold rPts; infer_instance
instance vPts_storable (c : Dev nD) (h f) : BI.Storable (upEmb : UEmb _ 𝕄) (vPts (F := F) c h f) := by unfold vPts; infer_instance
instance oPts_storable (c : Dev nD) (h f) : BI.Storable (upEmb : UEmb _ 𝕄) (oPts (F := F) c h f) := by unfold oPts; infer_instance

/-- The landing places device `e` gives device `d`: slot `d` of its receive buffer and slab `d` of its gather buffer. -/
def lend (e d : Dev nD) : sProp 𝕄 :=
  iprop(((∃ f, rPts e d.val 0 f) ∗ (∃ f, rPts e d.val 1 f)) ∗ (∃ f, aPts fullShare e d.val 0 f) ∗ (∃ f, aPts fullShare e d.val 1 f))

instance lend_storable (e d : Dev nD) : BI.Storable (upEmb : UEmb _ 𝕄) (lend (F := F) e d) := by unfold lend; infer_instance

/-- What is handed over when transfer semaphore `i` of device `c` is paid. -/
def pay (c : Dev nD) (i : ℕ) : sProp 𝕄 :=
  if i < 2 then iprop(oPts c i (outC P c) ∗ vPts c i (outC P c))
  else if i < 32 then pPts c (tgt c ((i - 2) % 15)).val ((i - 2) / 15) (P c)
  else if i < 62 then rPts c (src c ((i - 32) % 15)).val ((i - 32) / 15) (recvC P c)
  else if i < 92 then aPts (sq ((i - 62) % 15)) c c.val ((i - 62) / 15) (gathC P)
  else aPts fullShare c (src c ((i - 92) % 15)).val ((i - 92) / 15) (gathC P)

instance pay_storable (c : Dev nD) (i : ℕ) : BI.Storable (upEmb : UEmb _ 𝕄) (pay (F := F) P c i) := by
  unfold pay
  (repeat' split) <;> infer_instance

theorem pay_store (c : Dev nD) {i : ℕ} (h : i < 2) : pay P c i = iprop(oPts c i (outC P c) ∗ vPts c i (outC P c)) := if_pos h
theorem pay_rsSend (c : Dev nD) {h j : ℕ} (hh : h < 2) (hj : j < 15) : pay P c (2 + 15 * h + j) = pPts c (tgt c j).val h (P c) := by
  unfold pay
  rw [if_neg (by omega), if_pos (by omega), show (2 + 15 * h + j - 2) % 15 = j by omega, show (2 + 15 * h + j - 2) / 15 = h by omega]
theorem pay_rsRecv (c : Dev nD) {h j : ℕ} (hh : h < 2) (hj : j < 15) : pay P c (32 + 15 * h + j) = rPts c (src c j).val h (recvC P c) := by
  unfold pay
  rw [if_neg (by omega), if_neg (by omega), if_pos (by omega), show (32 + 15 * h + j - 32) % 15 = j by omega, show (32 + 15 * h + j - 32) / 15 = h by omega]
theorem pay_agSend (c : Dev nD) {h j : ℕ} (hh : h < 2) (hj : j < 15) : pay P c (62 + 15 * h + j) = aPts (sq j) c c.val h (gathC P) := by
  unfold pay
  rw [if_neg (by omega), if_neg (by omega), if_neg (by omega), if_pos (by omega), show (62 + 15 * h + j - 62) % 15 = j by omega,
    show (62 + 15 * h + j - 62) / 15 = h by omega]
theorem pay_agRecv (c : Dev nD) {h j : ℕ} (hh : h < 2) (hj : j < 15) : pay P c (92 + 15 * h + j) = aPts fullShare c (src c j).val h (gathC P) := by
  unfold pay
  rw [if_neg (by omega), if_neg (by omega), if_neg (by omega), if_neg (by omega), show (92 + 15 * h + j - 92) % 15 = j by omega,
    show (92 + 15 * h + j - 92) / 15 = h by omega]

/-! ## The schedule -/

/-- The number of a transfer semaphore. -/
def num (q : DmaSem sig) : ℕ := q.val - 5

theorem num_dsem {i : ℕ} (h : i < 122) : num (dsem i) = i := by unfold num; rw [dsem_val h]; omega

/-- One round, round 0. A barrier semaphore has fifteen duties of one unit: duty `d` of device `c`'s is paid by the device
    message `d` of `c` goes to, with that device's landing places for `c`. A transfer semaphore has one duty, duty 0. -/
def sched : Rounds.Schedule (GSem nD τ sig) ℕ 𝕄 where
  duties g r := if r = 0 ∧ g.1.2 = .tc then
      (match g.2 with
        | .reg s => if s = barS then Finset.range 15 else ∅
        | .dma q => if 5 ≤ q.val then {0} else ∅)
    else ∅
  unitless _ := False
  amount g _ _ := match g.2 with
    | .reg _ => 1
    | .dma q => amt (num q)
  payload g _ d := match g.2 with
    | .reg _ => lend (tgt g.1.1 d) g.1.1
    | .dma q => pay P g.1.1 (num q)
  amount_pos g _ _ _ := by
    obtain ⟨t, s⟩ := g
    cases s with
    | reg s => exact Nat.one_pos
    | dma q => exact amt_pos _

instance sched_payload_storable (g : GSem nD τ sig) (r : ℕ) (d : ℕ) :
    BI.Storable (upEmb : UEmb _ 𝕄) ((sched (F := F) P).payload g r d) := by
  obtain ⟨t, s⟩ := g
  cases s with
  | reg s => exact lend_storable _ _
  | dma q => exact pay_storable P _ _

theorem duties_bar (c : Dev nD) : (sched (F := F) P).duties (barCell c) 0 = Finset.range 15 := by
  dsimp only [sched]
  rw [if_pos ⟨rfl, rfl⟩, if_pos rfl]
theorem duties_dma (c : Dev nD) {i : ℕ} (h : i < 122) : (sched (F := F) P).duties (dcell c i) 0 = {0} := by
  dsimp only [sched]
  rw [if_pos ⟨rfl, rfl⟩, if_pos (by rw [dsem_val h]; omega)]
theorem duties_later (g : GSem nD τ sig) : ∀ r, 1 ≤ r → (sched (F := F) P).duties g r = ∅ := fun r hr => by
  dsimp only [sched]; rw [if_neg fun h => by omega]

theorem amount_bar (c : Dev nD) (d : ℕ) : (sched (F := F) P).amount (barCell c) 0 d = 1 := rfl
theorem amount_dma (c : Dev nD) {i : ℕ} (h : i < 122) (d : ℕ) : (sched (F := F) P).amount (dcell c i) 0 d = amt i := by
  show amt (num (dsem i)) = _
  rw [num_dsem h]
theorem payload_bar (c : Dev nD) (d : ℕ) : (sched (F := F) P).payload (barCell c) 0 d = lend (tgt c d) c := rfl
theorem payload_dma (c : Dev nD) {i : ℕ} (h : i < 122) (d : ℕ) : (sched (F := F) P).payload (dcell c i) 0 d = pay P c i := by
  show pay P c (num (dsem i)) = _
  rw [num_dsem h]

theorem expect_bar (c : Dev nD) : (sched (F := F) P).expect (barCell c) 0 = 15 := by
  unfold Schedule.expect Schedule.amountOf
  rw [duties_bar, Finset.sum_congr rfl fun d _ => amount_bar P c d, Finset.sum_const, Finset.card_range, smul_eq_mul]
theorem expect_dma (c : Dev nD) {i : ℕ} (h : i < 122) : (sched (F := F) P).expect (dcell c i) 0 = amt i := by
  unfold Schedule.expect Schedule.amountOf; rw [duties_dma P c h, Finset.sum_singleton, amount_dma P c h]

theorem rest_bar (c : Dev nD) :
    bigSep ((sched (F := F) P).duties (barCell c) 0 \ ∅) (fun d => (sched (F := F) P).payload (barCell c) 0 d) = bigSep (Finset.range 15) fun d => lend (tgt c d) c := by
  rw [Finset.sdiff_empty, duties_bar]
  exact bigSep_congr fun d _ => payload_bar P c d
theorem rest_dma (c : Dev nD) {i : ℕ} (h : i < 122) :
    bigSep ((sched (F := F) P).duties (dcell c i) 0 \ ∅) (fun d => (sched (F := F) P).payload (dcell c i) 0 d) = pay P c i := by
  rw [Finset.sdiff_empty, duties_dma P c h, bigSep_singleton, payload_dma P c h]

end Pay

/-! ## What a device owes, and the levels -/

/-- The semaphore that action `a` of device `c` pays, of the 75 in program order: fifteen barrier signals, then thirty sends of
    the reduce step, then thirty of the gather step; -/
def payCell (c : Dev nD) (a : ℕ) : GSem nD τ sig :=
  if a < 15 then barCell (tgt c a) else if a < 45 then dcell (tgt c ((a - 15) % 15)) (32 + (a - 15)) else dcell (tgt c ((a - 45) % 15)) (92 + (a - 45))
/-- with what. -/
def payAmt (a : ℕ) : ℕ := if a < 15 then 1 else N

/-- What device `c` still owes before its action `a`. -/
def Ow (c : Dev nD) (a : ℕ) : CellTallies nD τ sig Unit := ∑ i ∈ Finset.Ico a 75, tallyAt (payCell c i) () (payAmt i)

/-- The numbers from `a` on are `a` and the numbers after it. -/
theorem Ico_bot {a b : ℕ} (h : a < b) : Finset.Ico a b = insert a (Finset.Ico (a + 1) b) := by
  ext x; rw [Finset.mem_insert, Finset.mem_Ico, Finset.mem_Ico]; omega
theorem Ico_top {a b : ℕ} (h : a ≤ b) : Finset.Ico a (b + 1) = insert b (Finset.Ico a b) := by
  ext x; rw [Finset.mem_insert, Finset.mem_Ico, Finset.mem_Ico]; omega
theorem bot_notMem (a b : ℕ) : a ∉ Finset.Ico (a + 1) b := by rw [Finset.mem_Ico]; omega
theorem top_notMem (a b : ℕ) : b ∉ Finset.Ico a b := by rw [Finset.mem_Ico]; omega

theorem Ow_succ (c : Dev nD) {a : ℕ} (h : a < 75) : Ow c a = Ow c (a + 1) + tallyAt (payCell c a) () (payAmt a) := by
  unfold Ow; rw [Ico_bot h, Finset.sum_insert (bot_notMem _ _), add_comm]
theorem Ow_end (c : Dev nD) : Ow c 75 = 0 := by unfold Ow; rw [Finset.Ico_self, Finset.sum_empty]

theorem Ow_sig (c : Dev nD) {j : ℕ} (h : j < 15) : Ow c j = Ow c (j + 1) + tallyAt (barCell (tgt c j)) () 1 := by
  rw [Ow_succ c (by omega)]; unfold payCell payAmt; rw [if_pos h, if_pos h]
theorem Ow_rs (c : Dev nD) {h j : ℕ} (hh : h < 2) (hj : j < 15) :
    Ow c (15 + 15 * h + j) = Ow c (15 + 15 * h + j + 1) + tallyAt (dcell (tgt c j) (32 + 15 * h + j)) () N := by
  rw [Ow_succ c (by omega)]; unfold payCell payAmt
  rw [if_neg (by omega), if_pos (by omega), if_neg (by omega), show (15 + 15 * h + j - 15) % 15 = j by omega, show 32 + (15 + 15 * h + j - 15) = 32 + 15 * h + j by omega]
theorem Ow_ag (c : Dev nD) {h j : ℕ} (hh : h < 2) (hj : j < 15) :
    Ow c (45 + 15 * h + j) = Ow c (45 + 15 * h + j + 1) + tallyAt (dcell (tgt c j) (92 + 15 * h + j)) () N := by
  rw [Ow_succ c (by omega)]; unfold payCell payAmt
  rw [if_neg (by omega), if_neg (by omega), if_neg (by omega), show (45 + 15 * h + j - 45) % 15 = j by omega, show 92 + (45 + 15 * h + j - 45) = 92 + 15 * h + j by omega]

def L (g : GSem nD τ sig) : Finset Unit := if g.1.2 = .tc then {()} else ∅
/-- The level of a transfer semaphore: receipts of the reduce step at 2, of the gather step at 3, all others at 0. -/
def dlv (n : ℕ) : ℕ := if 37 ≤ n ∧ n < 67 then 2 else if 97 ≤ n then 3 else 0
/-- The levels: the barrier's at 1. -/
def lv (g : GSem nD τ sig) (_ : Unit) : ℕ := match g.2 with
  | .reg _ => 1
  | .dma q => dlv q.val

theorem L_of_ne (g : GSem nD τ sig) (h : g.1.2 ≠ .tc) : L g = ∅ := if_neg h
theorem L_tc (c : Dev nD) (sm : SemLoc sig) : L ((c : Thread nD τ), sm) = {()} := if_pos rfl

/-- What action `a` pays is the level of its kind: 1, 2 or 3. -/
theorem lv_payCell (c : Dev nD) {a : ℕ} (h : a < 75) (u : Unit) : lv (payCell c a) u = if a < 15 then 1 else if a < 45 then 2 else 3 := by
  unfold payCell
  split
  · rfl
  split
  · show dlv (dsem _).val = 2
    rw [dsem_val (by omega)]; unfold dlv; rw [if_pos (by omega)]
  · show dlv (dsem _).val = 3
    rw [dsem_val (by omega)]; unfold dlv; rw [if_neg (by omega), if_pos (by omega)]
theorem L_payCell (c : Dev nD) (a : ℕ) (u : Unit) : u ∈ L (payCell c a) := by
  unfold payCell
  split
  · exact Finset.mem_singleton_self _
  split <;> exact Finset.mem_singleton_self _

/-- What is still owed is owed at one of the remaining actions. -/
theorem Ow_pos {c : Dev nD} {a : ℕ} {g : GSem nD τ sig} {u : Unit} (h : 0 < Ow c a g u) : ∃ i, a ≤ i ∧ i < 75 ∧ g = payCell c i := by
  by_contra hn
  have hz : Ow c a g u = 0 := by
    unfold Ow
    rw [Finset.sum_apply, Finsupp.finset_sum_apply]
    refine Finset.sum_eq_zero fun i hi => ?_
    rw [Finset.mem_Ico] at hi
    rw [tallyAt_apply, if_neg]
    rintro ⟨hg, -⟩
    exact hn ⟨i, hi.1, hi.2, hg⟩
  omega

/-- A device may wait on a semaphore whose level is below all its remaining actions'. -/
theorem mayWait_below (c : Dev nD) (sm : SemLoc sig) (a : ℕ)
    (hlv : ∀ i, a ≤ i → i < 75 → lv ((c : Thread nD τ), sm) () < lv (payCell c i) ()) :
    (levAts L lv : sProp 𝕄) ⊢ MayWait (c : Thread nD τ) sm () (Ow c a) :=
  MayOwe.of_cut (L := L) (lev := lv) (lv ((c : Thread nD τ), sm) ()) (fun p hp => by rw [Finset.mem_singleton.mp hp, L_tc]; exact Finset.mem_singleton_self _)
    (fun g u hg => by obtain ⟨i, -, -, rfl⟩ := Ow_pos hg; exact L_payCell c i u)
    (fun p hp => by rw [Finset.mem_singleton.mp hp])
    (fun g u hg => by obtain ⟨i, h1, h2, rfl⟩ := Ow_pos hg; exact hlv i h1 h2)

/-- It may wait on its barrier once it has signalled, -/
theorem mayWait_bar (c : Dev nD) : (levAts L lv : sProp 𝕄) ⊢ MayWait (c : Thread nD τ) (.reg barS) () (Ow c 15) :=
  mayWait_below c _ 15 fun i h1 h2 => by
    rw [lv_payCell c h2, if_neg (by omega)]
    show 1 < _
    split <;> decide
/-- on its transfers' semaphores once all sends of the reduce step are out, the gather step's receipts excepted, -/
theorem mayWait_rs (c : Dev nD) {i a : ℕ} (hi : i < 92) (ha : 45 ≤ a) :
    (levAts L lv : sProp 𝕄) ⊢ MayWait (c : Thread nD τ) (.dma (dsem i)) () (Ow c a) :=
  mayWait_below c _ a fun k h1 h2 => by
    rw [lv_payCell c h2, if_neg (by omega), if_neg (by omega)]
    show dlv (dsem i).val < 3
    rw [dsem_val (by omega)]; unfold dlv
    split
    · decide
    rw [if_neg (by omega)]; decide
/-- on any of them when nothing is owed, -/
theorem mayWait_end (c : Dev nD) (sm : SemLoc sig) :
    (levAts L lv : sProp 𝕄) ⊢ MayWait (c : Thread nD τ) sm () (Ow c 75) :=
  mayWait_below c _ 75 fun k h1 h2 => by omega
/-- and on its staging semaphores at all times. -/
theorem mayWait_stage (c : Dev nD) (q : DmaSem sig) (hq : q.val < 5) (O : CellTallies nD τ sig Unit) (hO : O = Ow c 0 ∨ O = Ow c 75) :
    (levAts L lv : sProp 𝕄) ⊢ MayWait (c : Thread nD τ) (.dma q) () O := by
  have h0 : lv ((c : Thread nD τ), .dma q) () = 0 := by
    show dlv q.val = 0
    unfold dlv; rw [if_neg (by omega), if_neg (by omega)]
  rcases hO with rfl | rfl
  · exact mayWait_below c _ 0 fun i h1 h2 => by
      rw [h0, lv_payCell c h2]
      split
      · decide
      split <;> decide
  · exact mayWait_end c _

end Cert.Attn

end
-- ==== Proof.Steps.lean ====
/-
One step of the protocol at a time. Each lemma takes a device from one state to the next over one operation of its program:
a signal, a send, or a wait. A state says what the device still owes, and holds what its remaining operations of the same
kind need together with what the ones done have left it.
-/
module

public import proofs.«01_k».proof.Proof.Schedule

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The records -/

/-- A device's semaphores: its barrier's first, then its transfers'. -/
def csem (k : Fin 123) : SemLoc sig := if k.val = 0 then .reg barS else .dma (dsem (k.val - 1))
def kcell (ck : Dev nD × Fin 123) : GSem nD τ sig := ((ck.1 : Thread nD τ), csem ck.2)

set_option backward.proofsInPublic true in
/-- Where transfer semaphore `i` is among a device's semaphores. -/
def ksem (i : ℕ) : Fin 123 := ⟨(i + 1) % 123, Nat.mod_lt _ (by decide)⟩
theorem kcell_bar (c : Dev nD) : kcell (c, 0) = barCell c := rfl
theorem kcell_dma (c : Dev nD) {i : ℕ} (h : i < 122) : kcell (c, ksem i) = dcell c i := by
  have : (ksem i).val = i + 1 := Nat.mod_eq_of_lt (by omega)
  unfold kcell csem
  rw [if_neg (by rw [this]; omega), this]; rfl

/-- A sum over the numbers from `a` on: the first of them apart; -/
theorem peel {a b : ℕ} (h : a < b) (Φ : ℕ → sProp 𝕄) : bigSep (Finset.Ico a b) Φ = iprop(Φ a ∗ bigSep (Finset.Ico (a + 1) b) Φ) := by
  rw [Ico_bot h, bigSep_insert (bot_notMem _ _)]; rfl
/-- the last of them put in. -/
theorem grow {a b : ℕ} (h : a ≤ b) (Φ : ℕ → sProp 𝕄) : bigSep (Finset.Ico a (b + 1)) Φ = iprop(Φ b ∗ bigSep (Finset.Ico a b) Φ) := by
  rw [Ico_top h, bigSep_insert (top_notMem _ _)]; rfl
theorem none_left (a : ℕ) (Φ : ℕ → sProp 𝕄) : bigSep (Finset.Ico a a) Φ = iprop(emp) := by
  rw [Finset.Ico_self]; exact bigSep_empty

section

variable (P : Dev nD → Vec F S256x1024 .bf16) (K : Dev nD × Fin 123 → ℕ)

/-- What every device may use at all times: every semaphore's invariant, that each is in its round, and the levels. -/
def recs : sProp 𝕄 :=
  iprop((bigSep Finset.univ fun ck : Dev nD × Fin 123 => cellInv ER (sched P) (K ck) (kcell ck))
    ∗ (bigSep Finset.univ fun ck : Dev nD × Fin 123 => reached ER (kcell ck) 0) ∗ (levAts L lv : sProp 𝕄))

instance recs_persistent : Persistent (recs (F := F) P K) := by unfold recs; infer_instance

theorem inv_at (ck : Dev nD × Fin 123) :
    (bigSep Finset.univ fun ck : Dev nD × Fin 123 => (cellInv ER (sched P) (K ck) (kcell ck) : sProp 𝕄)) ⊢ cellInv ER (sched P) (K ck) (kcell ck) :=
  bigSep_elim (Finset.mem_univ ck)
theorem reached_at (ck : Dev nD × Fin 123) :
    (bigSep Finset.univ fun ck : Dev nD × Fin 123 => (reached ER (kcell ck) 0 : sProp 𝕄)) ⊢ reached ER (kcell ck) 0 :=
  bigSep_elim (Finset.mem_univ ck)

theorem recs_inv (ck : Dev nD × Fin 123) : recs P K ⊢ cellInv ER (sched P) (K ck) (kcell ck) := by
  unfold recs; iintro ⟨#H1, #H2, #H3⟩
  iapply (inv_at P K ck); iexact H1
theorem recs_reached (ck : Dev nD × Fin 123) : recs P K ⊢ reached ER (kcell ck) 0 := by
  unfold recs; iintro ⟨#H1, #H2, #H3⟩
  iapply (reached_at (F := F) ck); iexact H2
/-- What the levels give, the records give. -/
theorem recs_use {X : sProp 𝕄} (h : (levAts L lv : sProp 𝕄) ⊢ X) : recs P K ⊢ X := by
  unfold recs; iintro ⟨#H1, #H2, #H3⟩
  iapply h; iexact H3

theorem inv_bar (c : Dev nD) : recs P K ⊢ cellInv ER (sched P) (K (c, 0)) (barCell c) := recs_inv P K (c, 0)
theorem inv_dma (c : Dev nD) {i : ℕ} (h : i < 122) : recs P K ⊢ cellInv ER (sched P) (K (c, ksem i)) (dcell c i) := by
  rw [← kcell_dma c h]; exact recs_inv P K (c, ksem i)
theorem reached_bar (c : Dev nD) : recs P K ⊢ reached ER (barCell c) 0 := recs_reached P K (c, 0)
theorem reached_dma (c : Dev nD) {i : ℕ} (h : i < 122) : recs P K ⊢ reached ER (dcell c i) 0 := by
  rw [← kcell_dma c h]; exact recs_reached P K (c, ksem i)

theorem may_bar (c : Dev nD) : recs P K ⊢ MayWait (c : Thread nD τ) (.reg barS) () (Ow c 15) := recs_use P K (mayWait_bar c)

abbrev 𝒱₀ : Variants := Variants.none

/-- The run of a program on device `c`, from its resources to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes before its action `a`. -/
def owesEx (c : Dev nD) (a : ℕ) : sProp 𝕄 := iprop(∃ W, owes (c : Thread nD τ) (Ow c a) W)

/-! ## The barrier -/

/-- Before barrier signal `k`: what signal `j` needs, for all `j` from `k` on. -/
def SigS (c : Dev nD) (k : ℕ) : sProp 𝕄 :=
  iprop(owesEx c k ∗ bigSep (Finset.Ico k 15) fun j => iprop(dutyTok ER (barCell (tgt c j)) 0 (14 - j) ∗ lend c (tgt c j)))

theorem sig_step (c : Dev nD) (j : ℕ) {n : ℕ} {hn : n < nD} (hd : n = (c.val + (j + 1)) % 16) (hj : j < 15 := by decide)
    {α : Type} {kont : PUnit → Prog (TpuEff nD τ sig (Elt F) Λ₀ .tc) α} {Q : α → sProp 𝕄} {R : sProp 𝕄}
    (H : iprop(recs P K ∗ SigS c (j + 1) ∗ R) ⊢ run c (kont ⟨⟩) Q) :
    iprop(recs P K ∗ SigS c j ∗ R) ⊢ run c (.op (.semSignal (Dev.tc (⟨n, hn⟩ : Dev nD)) barS 1) kont) Q := by
  have e : (⟨n, hn⟩ : Dev nD) = tgt c j := Fin.ext (hd.trans (by rw [tgt_val]; congr 1; omega))
  rw [e]
  unfold SigS owesEx
  rw [peel hj]
  iintro ⟨#HR, ⟨⟨%W, HO⟩, ⟨Htok, Hl⟩, Hb⟩, Hf⟩
  iapply (Rounds.wp_signal 𝒱₀ ER (sched P) (c : Thread nD τ) none (dst := (tgt c j : Thread nD τ)) (κ := K (tgt c j, 0))
      (d := 14 - j) (by rw [duties_bar, Finset.mem_range]; omega) (amount_bar P (tgt c j) _) () (Ow c (j + 1)) (Ow_sig c hj))
    $$ [HO Htok Hl]
  · isplitr; · iapply (inv_bar P K (tgt c j)); iexact HR
    isplitl [HO]; · iexact HO
    isplitl [Htok]; · iexact Htok
    isplitl [Hl]
    · rw [payload_bar, tgt_back c hj]; iexact Hl
    · iapply (reached_bar P K (tgt c j)); iexact HR
  iintro HO
  iapply H
  isplitr; · iexact HR
  isplitl [HO Hb]
  · unfold SigS owesEx
    isplitl [HO]; · iexists W; iexact HO
    iexact Hb
  · iexact Hf

/-- The wait for all fifteen other devices' signals: every one's landing places for `c` come with it. -/
theorem bar_step (c : Dev nD) {s : Sem sig} (hs : s = barS := by rfl)
    {α : Type} {kont : PUnit → Prog (TpuEff nD τ sig (Elt F) Λ₀ .tc) α} {Q : α → sProp 𝕄} {R : sProp 𝕄}
    (H : iprop(recs P K ∗ (owesEx c 15 ∗ atPos ER (barCell c) 1 ∅ 0 ∗ bigSep (Finset.Ico 0 15) fun j => lend (tgt c j) c) ∗ R) ⊢ run c (kont ⟨⟩) Q) :
    iprop(recs P K ∗ (SigS c 15 ∗ cred (tallyAt (barCell c) () 15) ∗ atPos ER (barCell c) 0 ∅ 0) ∗ R) ⊢ run c (.op (.semWait s 15) kont) Q := by
  subst hs
  unfold SigS owesEx
  iintro ⟨#HR, ⟨⟨⟨%W, HO⟩, -⟩, Hc, Ha⟩, Hf⟩
  iapply (Rounds.wp_wait_rest_token 𝒱₀ ER (sched P) (c : Thread nD τ) none (κ := K (c, 0))
      (wpE_semWait_eq 𝒱₀ (c : Thread nD τ) none Set.univ) (Set.mem_univ _) () (O := Ow c 15) (W := W) (R := 0) (m := 0) (T := ∅)
      (by rw [expect_bar])) $$ [Hc HO Ha]
  · isplitr; · iapply (inv_bar P K c); iexact HR
    isplitl [Hc]; · iexact Hc
    isplitl [HO]; · iexact HO
    isplitr; · iapply (may_bar P K c); iexact HR
    iexact Ha
  iintro ⟨HO, Ha, -, Hpay⟩
  ihave Hp := (Entails.of_eq (rest_bar P c)) $$ Hpay
  iapply H
  isplitr; · iexact HR
  isplitl [HO Ha Hp]
  · unfold owesEx
    isplitl [HO]; · iexists (insert (SemLoc.reg barS, ()) W); iexact HO
    isplitl [Ha]; · iexact Ha
    rw [← Finset.range_eq_Ico]; iexact Hp
  · iexact Hf

/-! ## Pieces of the buffers -/

/-- Half a slab of the partial result, half a slot of the receive buffer, half a slab of the gather buffer. -/
abbrev pSl (off : Fin 2 → ℕ) (inb : ∀ a : Fin 2, off a + S16x512.size a ≤ S256x1024.size a) : Memref sig .tc .vmem S16x512 .bf16 := pM.slice (Rect.unit (s := S256x1024) off S16x512.size inb) (fun _ => rfl)
abbrev rSl (off : Fin 3 → ℕ) (inb : ∀ a : Fin 3, off a + S1x16x512.size a ≤ S16x16x1024.size a) : Memref sig .tc .vmem S16x512 .bf16 :=
  (rM.slice (Rect.unit (s := S16x16x1024) off S1x16x512.size inb) (fun _ => rfl)).squeeze S16x512 squeezes_S1x16x512_S16x512
abbrev aSl (off : Fin 2 → ℕ) (inb : ∀ a : Fin 2, off a + S16x512.size a ≤ S256x1024.size a) : Memref sig .tc .vmem S16x512 .bf16 := aM.slice (Rect.unit (s := S256x1024) off S16x512.size inb) (fun _ => rfl)

theorem pSl_set {d h : ℕ} {off : Fin 2 → ℕ} (ho : off = ![16 * d, 512 * h]) (inb) : (pSl off inb).view.set = blk d h :=
  (View.set_slice_whole _ _).trans (rect_blk ho inb)
theorem aSl_set {d h : ℕ} {off : Fin 2 → ℕ} (ho : off = ![16 * d, 512 * h]) (inb) : (aSl off inb).view.set = blk d h :=
  (View.set_slice_whole _ _).trans (rect_blk ho inb)
theorem rSl_set {s h : ℕ} {off : Fin 3 → ℕ} (ho : off = ![s, 0, 512 * h]) (inb) : (rSl off inb).view.set = slot s h :=
  (View.set_reshape _ _).trans ((View.set_slice_whole _ _).trans (rect_slot ho inb))

theorem pSl_emb {d h : ℕ} {off : Fin 2 → ℕ} (ho : off = ![16 * d, 512 * h]) (inb) (y : S16x512.Idx) :
    ((pSl off inb).view.emb y 0).val = 16 * d + (y 0).val ∧ ((pSl off inb).view.emb y 1).val = 512 * h + (y 1).val := emb_blk ho y
theorem aSl_emb {d h : ℕ} {off : Fin 2 → ℕ} (ho : off = ![16 * d, 512 * h]) (inb) (y : S16x512.Idx) :
    ((aSl off inb).view.emb y 0).val = 16 * d + (y 0).val ∧ ((aSl off inb).view.emb y 1).val = 512 * h + (y 1).val := emb_blk ho y
theorem rSl_emb {s h : ℕ} {off : Fin 3 → ℕ} (ho : off = ![s, 0, 512 * h]) (inb) (y : S16x512.Idx) :
    ((rSl off inb).view.emb y 0).val = s ∧ ((rSl off inb).view.emb y 1).val = (y 0).val ∧ ((rSl off inb).view.emb y 2).val = 512 * h + (y 1).val := by
  have e : (rSl off inb).view.emb y = (Rect.unit (s := S16x16x1024) off S1x16x512.size inb).emb (Fin.cons ⟨0, Nat.one_pos⟩ y) := by
    show (Rect.unit (s := S16x16x1024) off S1x16x512.size inb).emb (Shape.reshapeEquiv _ y) = _
    exact congrArg _ (Shape.reshapeEquiv_cons_one (n := 2) (d := ![16, 512]) _ y)
  rw [e]
  subst ho
  refine ⟨?_, ?_, ?_⟩ <;> rw [ValueKit.rect_emb_unit_val]
  · show s + 0 = s; rfl
  · show 0 + (y 0).val = _; rw [Nat.zero_add]
  · rfl

/-- What a send of the reduce step leaves where it lands. -/
theorem land_rs (c e : Dev nD) {h : ℕ} {offs : Fin 2 → ℕ} {offd : Fin 3 → ℕ} (hs : offs = ![16 * e.val, 512 * h]) (ho : offd = ![c.val, 0, 512 * h])
    (inbs) (inbd) (fd : Vec F S16x16x1024 .bf16) (i : S16x16x1024.Idx) (hi : i ∈ (rSl offd inbd).view.set) :
    (rSl offd inbd).view.write (Elt F) fd ((pSl offs inbs).view.read (Elt F) (P c)) Finset.univ i = recvC P e i := by
  obtain ⟨y, -, rfl⟩ := Finset.mem_map.mp hi
  rw [View.write_emb_of_mem _ _ (Finset.mem_univ y)]
  show P c ((pSl offs inbs).view.emb y) = P _ _
  obtain ⟨h0, h1, h2⟩ := rSl_emb ho inbd y
  obtain ⟨p0, p1⟩ := pSl_emb hs inbs y
  have e0 : (⟨((rSl offd inbd).view.emb y 0).val, rlt0 _⟩ : Dev nD) = c := Fin.ext h0
  rw [e0]
  refine (congrArg (P c) (bIx_eq ?_ ?_)).symm
  · rw [p0, h1]
  · rw [p1, h2]

/-- What a send of the gather step leaves where it lands. -/
theorem land_ag {off : Fin 2 → ℕ} (inb) (fd f : Vec F S256x1024 .bf16) (i : S256x1024.Idx) (hi : i ∈ (aSl off inb).view.set) :
    (aSl off inb).view.write (Elt F) fd ((aSl off inb).view.read (Elt F) f) Finset.univ i = f i := by
  obtain ⟨y, -, rfl⟩ := Finset.mem_map.mp hi
  rw [View.write_emb_of_mem _ _ (Finset.mem_univ y)]
  rfl

/-! ## The sends -/

/-- What reduce send `i = 15 h + j` needs: the tokens of the two payments, the rows to send, where they land. -/
def rsNeed (c : Dev nD) (i : ℕ) : sProp 𝕄 :=
  iprop(dutyTok ER (dcell c (2 + i)) 0 0 ∗ dutyTok ER (dcell (tgt c (i % 15)) (32 + i)) 0 0
    ∗ pPts c (tgt c (i % 15)).val (i / 15) (P c) ∗ ∃ f, rPts (tgt c (i % 15)) c.val (i / 15) f)

/-- Before reduce send `k` of 30. -/
def RsS (c : Dev nD) (k : ℕ) : sProp 𝕄 :=
  iprop(owesEx c (15 + k) ∗ bigSep (Finset.Ico k 30) (rsNeed P c) ∗ bigSep (Finset.Ico 0 k) fun i => cred (tallyAt (dcell c (2 + i)) () N))

theorem rs_step (c : Dev nD) (h j : ℕ) {n : ℕ} {hn : n < nD} (hd : n = (c.val + (j + 1)) % 16)
    {offs : Fin 2 → ℕ} {offd : Fin 3 → ℕ} (hs : offs = ![16 * ((c.val + j + 1) % 16), 512 * h]) (ho : offd = ![c.val, 0, 512 * h])
    {inbs : ∀ a : Fin 2, offs a + S16x512.size a ≤ S256x1024.size a} {inbd : ∀ a : Fin 3, offd a + S1x16x512.size a ≤ S16x16x1024.size a}
    {sS sR : DmaSem sig} (hsS : sS = dsem (2 + (15 * h + j)) := by rfl) (hsR : sR = dsem (32 + (15 * h + j)) := by rfl)
    (hh : h < 2 := by decide) (hj : j < 15 := by decide)
    {hsc : (rSl offd inbd).view.ref.isScScratch = false}
    {hsrc : (pSl offs inbs).view.WordExact} {hdst : (rSl offd inbd).view.WordExact}
    {hsem : DmaTarget.Typed .vmem (.dma sR) (.remote (Dev.tc (⟨n, hn⟩ : Dev nD) : Thread nD τ) (rSl offd inbd) (.dma sS) hsc)}
    {α : Type} {kont : PUnit → Prog (TpuEff nD τ sig (Elt F) Λ₀ .tc) α} {Q : α → sProp 𝕄} {R : sProp 𝕄}
    (H : iprop(recs P K ∗ RsS P c (15 * h + j + 1) ∗ R) ⊢ run c (kont ⟨⟩) Q) :
    iprop(recs P K ∗ RsS P c (15 * h + j) ∗ R)
      ⊢ run c (.op (.enqueueDma (pSl offs inbs) (.remote (Dev.tc (⟨n, hn⟩ : Dev nD) : Thread nD τ) (rSl offd inbd) (.dma sS) hsc) (.dma sR) hsrc hdst hsem) kont) Q := by
  subst hsS hsR
  obtain rfl : n = (tgt c j).val := hd.trans (by rw [tgt_val]; congr 1; omega)
  have hs' : offs = ![16 * (tgt c j).val, 512 * h] := hs.trans (by rw [tgt_val, Nat.add_right_comm])
  have hO := Ow_rs c hh hj
  rw [show 15 + 15 * h + j + 1 = 15 + (15 * h + j + 1) by omega, show 15 + 15 * h + j = 15 + (15 * h + j) by omega,
    show 32 + 15 * h + j = 32 + (15 * h + j) by omega] at hO
  unfold RsS owesEx
  rw [peel (show 15 * h + j < 30 by omega)]
  unfold rsNeed pPts rPts
  rw [show (15 * h + j) % 15 = j by omega, show (15 * h + j) / 15 = h by omega]
  iintro ⟨#HR, ⟨⟨%W, HO⟩, ⟨⟨Ht1, Ht2, Hp, ⟨%f, Hr⟩⟩, Hb⟩, Hc⟩, Hf⟩
  iapply (Rounds.wp_send_pointsTo 𝒱₀ ER (sched P) (c : Thread nD τ) none (κ₁ := K (c, ksem (2 + (15 * h + j)))) (κ₂ := K (tgt c j, ksem (32 + (15 * h + j))))
      (c' := (tgt c j : Thread nD τ)) (src := pSl offs inbs) (dst := rSl offd inbd) (fs := P c)
      (r₁ := 0) (r₂ := 0) (d₁ := 0) (d₂ := 0) (fd := f) (q := fullShare)
      (by rw [duties_dma P c (by omega)]; exact Finset.mem_singleton_self _) (by rw [duties_dma P _ (by omega)]; exact Finset.mem_singleton_self _)
      () () N rfl ((amount_dma P c (by omega) 0).trans (amt_of_le (by omega))) ((amount_dma P (tgt c j) (by omega) 0).trans (amt_of_le (by omega)))
      (Ow c (15 + (15 * h + j + 1))) hO (W := W)
      (by rw [payload_dma P c (by omega), show 2 + (15 * h + j) = 2 + 15 * h + j by omega, pay_rsSend P c hh hj, pSl_set hs']; exact BI.Entails.refl _)
      (by
        rw [payload_dma P _ (by omega), show 32 + (15 * h + j) = 32 + 15 * h + j by omega, pay_rsRecv P _ hh hj, src_tgt,
          pointsTo_congr (land_rs P c (tgt c j) hs' ho inbs inbd f), rSl_set ho]
        exact BI.Entails.refl _)) $$ [HO Ht1 Ht2 Hp Hr]
  · isplitr; · iapply (inv_dma P K c (i := 2 + (15 * h + j)) (by omega)); iexact HR
    isplitr; · iapply (inv_dma P K (tgt c j) (i := 32 + (15 * h + j)) (by omega)); iexact HR
    isplitl [Hp]; · rw [pSl_set hs']; iexact Hp
    isplitl [Hr]; · rw [rSl_set ho]; iexact Hr
    isplitl [HO]; · iexact HO
    isplitl [Ht1]; · iexact Ht1
    isplitr; · iapply (reached_dma P K c (i := 2 + (15 * h + j)) (by omega)); iexact HR
    isplitl [Ht2]; · iexact Ht2
    iapply (reached_dma P K (tgt c j) (i := 32 + (15 * h + j)) (by omega)); iexact HR
  iintro ⟨Hcr, HO⟩
  iapply H
  isplitr; · iexact HR
  isplitl [HO Hb Hc Hcr]
  · unfold RsS owesEx
    rw [grow (Nat.zero_le _)]
    isplitl [HO]; · iexists W; iexact HO
    isplitl [Hb]; · iexact Hb
    isplitl [Hcr]; · iexact Hcr
    iexact Hc
  · iexact Hf

/-- What gather send `j` of half `h` needs. -/
def agNeed (c : Dev nD) (h j : ℕ) : sProp 𝕄 :=
  iprop(dutyTok ER (dcell c (62 + (15 * h + j))) 0 0 ∗ dutyTok ER (dcell (tgt c j) (92 + (15 * h + j))) 0 0
    ∗ ∃ f, aPts fullShare (tgt c j) c.val h f)

/-- Before gather send `k` of the 15 of half `h`. -/
def AgS (c : Dev nD) (h k : ℕ) : sProp 𝕄 :=
  iprop(owesEx c (45 + 15 * h + k) ∗ bigSep (Finset.Ico k 15) (agNeed c h) ∗ aPts (rest k) c c.val h (gathC P)
    ∗ bigSep (Finset.Ico 0 k) fun j => cred (tallyAt (dcell c (62 + (15 * h + j))) () N))

theorem ag_step (c : Dev nD) (h j : ℕ) {n : ℕ} {hn : n < nD} (hd : n = (c.val + (j + 1)) % 16)
    {off : Fin 2 → ℕ} (ho : off = ![16 * c.val, 512 * h]) {inb inb' : ∀ a : Fin 2, off a + S16x512.size a ≤ S256x1024.size a}
    {sS sR : DmaSem sig} (hsS : sS = dsem (62 + (15 * h + j)) := by rfl) (hsR : sR = dsem (92 + (15 * h + j)) := by rfl)
    (hh : h < 2 := by decide) (hj : j < 15 := by decide)
    {hsc : (aSl off inb').view.ref.isScScratch = false}
    {hsrc : (aSl off inb).view.WordExact} {hdst : (aSl off inb').view.WordExact}
    {hsem : DmaTarget.Typed .vmem (.dma sR) (.remote (Dev.tc (⟨n, hn⟩ : Dev nD) : Thread nD τ) (aSl off inb') (.dma sS) hsc)}
    {α : Type} {kont : PUnit → Prog (TpuEff nD τ sig (Elt F) Λ₀ .tc) α} {Q : α → sProp 𝕄} {R : sProp 𝕄}
    (H : iprop(recs P K ∗ AgS P c h (j + 1) ∗ R) ⊢ run c (kont ⟨⟩) Q) :
    iprop(recs P K ∗ AgS P c h j ∗ R)
      ⊢ run c (.op (.enqueueDma (aSl off inb) (.remote (Dev.tc (⟨n, hn⟩ : Dev nD) : Thread nD τ) (aSl off inb') (.dma sS) hsc) (.dma sR) hsrc hdst hsem) kont) Q := by
  subst hsS hsR
  obtain rfl : n = (tgt c j).val := hd.trans (by rw [tgt_val]; congr 1; omega)
  have hO := Ow_ag c hh hj
  rw [show 92 + 15 * h + j = 92 + (15 * h + j) by omega] at hO
  unfold AgS owesEx
  rw [peel hj]
  unfold agNeed aPts
  iintro ⟨#HR, ⟨⟨%W, HO⟩, ⟨⟨Ht1, Ht2, ⟨%f, Hr⟩⟩, Hb⟩, Ha, Hc⟩, Hf⟩
  ihave Hs := (pointsTo_share (rest_split j)).1 $$ Ha
  icases Hs with ⟨Hp, Ha⟩
  iapply (Rounds.wp_send_pointsTo 𝒱₀ ER (sched P) (c : Thread nD τ) none (κ₁ := K (c, ksem (62 + (15 * h + j)))) (κ₂ := K (tgt c j, ksem (92 + (15 * h + j))))
      (c' := (tgt c j : Thread nD τ)) (src := aSl off inb) (dst := aSl off inb') (fs := gathC P)
      (r₁ := 0) (r₂ := 0) (d₁ := 0) (d₂ := 0) (fd := f) (q := sq j)
      (by rw [duties_dma P c (by omega)]; exact Finset.mem_singleton_self _) (by rw [duties_dma P _ (by omega)]; exact Finset.mem_singleton_self _)
      () () N rfl ((amount_dma P c (by omega) 0).trans (amt_of_le (by omega))) ((amount_dma P (tgt c j) (by omega) 0).trans (amt_of_le (by omega)))
      (Ow c (45 + 15 * h + j + 1)) hO (W := W)
      (by rw [payload_dma P c (by omega), show 62 + (15 * h + j) = 62 + 15 * h + j by omega, pay_agSend P c hh hj, aSl_set ho]; exact BI.Entails.refl _)
      (by
        rw [payload_dma P _ (by omega), show 92 + (15 * h + j) = 92 + 15 * h + j by omega, pay_agRecv P _ hh hj, src_tgt,
          pointsTo_congr (land_ag inb f (gathC P)), aSl_set ho]
        exact BI.Entails.refl _)) $$ [HO Ht1 Ht2 Hp Hr]
  · isplitr; · iapply (inv_dma P K c (i := 62 + (15 * h + j)) (by omega)); iexact HR
    isplitr; · iapply (inv_dma P K (tgt c j) (i := 92 + (15 * h + j)) (by omega)); iexact HR
    isplitl [Hp]; · rw [aSl_set ho]; iexact Hp
    isplitl [Hr]; · rw [aSl_set ho]; iexact Hr
    isplitl [HO]; · iexact HO
    isplitl [Ht1]; · iexact Ht1
    isplitr; · iapply (reached_dma P K c (i := 62 + (15 * h + j)) (by omega)); iexact HR
    isplitl [Ht2]; · iexact Ht2
    iapply (reached_dma P K (tgt c j) (i := 92 + (15 * h + j)) (by omega)); iexact HR
  iintro ⟨Hcr, HO⟩
  iapply H
  isplitr; · iexact HR
  isplitl [HO Hb Ha Hc Hcr]
  · unfold AgS owesEx aPts
    rw [grow (Nat.zero_le _)]
    isplitl [HO]; · iexists W; iexact HO
    isplitl [Hb]; · iexact Hb
    isplitl [Ha]; · iexact Ha
    isplitl [Hcr]; · iexact Hcr
    iexact Hc
  · iexact Hf

/-! ## The waits -/

/-- What the wait on transfer semaphore `i` needs, and what it leaves. -/
def waitNeed (c : Dev nD) (i : ℕ) : sProp 𝕄 := iprop(cred (tallyAt (dcell c i) () (amt i)) ∗ atPos ER (dcell c i) 0 ∅ 0)
def waitDone (c : Dev nD) (i : ℕ) : sProp 𝕄 := iprop(pay P c i ∗ atPos ER (dcell c i) 1 ∅ 0)

/-- Waiting on the semaphores from `lo` to `hi` with the sends up to `a` out, before the wait on `k`. -/
def WaitS (c : Dev nD) (a lo hi k : ℕ) : sProp 𝕄 :=
  iprop(owesEx c a ∗ bigSep (Finset.Ico k hi) (waitNeed c) ∗ bigSep (Finset.Ico lo k) (waitDone P c))

theorem may_dma (c : Dev nD) {i a : ℕ} (h : a = 75 ∨ (45 ≤ a ∧ i < 92)) : recs P K ⊢ MayWait (c : Thread nD τ) (.dma (dsem i)) () (Ow c a) := by
  rcases h with rfl | ⟨h1, h2⟩
  · exact recs_use P K (mayWait_end c _)
  · exact recs_use P K (mayWait_rs c h2 h1)

theorem wait_step (c : Dev nD) (a lo hi i : ℕ) {s : DmaSem sig} {sp sp' : Space} {sh sh' : Shape} {e e' : EltTy}
    {sm : Memref sig .tc sp' sh' e'} {dm : Memref sig .tc sp sh e} {hsrc : sm.view.WordExact} {hdst : dm.view.WordExact}
    (hs : s = dsem i := by rfl) (hm : dm.view.dmaCredit = amt i := by rfl)
    (h1 : lo ≤ i := by decide) (h2 : i < hi := by decide) (h3 : i < 122 := by decide) (h4 : a = 75 ∨ (45 ≤ a ∧ i < 92) := by decide)
    {α : Type} {kont : PUnit → Prog (TpuEff nD τ sig (Elt F) Λ₀ .tc) α} {Q : α → sProp 𝕄} {R : sProp 𝕄}
    (H : iprop(recs P K ∗ WaitS P c a lo hi (i + 1) ∗ R) ⊢ run c (kont ⟨⟩) Q) :
    iprop(recs P K ∗ WaitS P c a lo hi i ∗ R) ⊢ run c (.op (.waitDma2 s sm dm hsrc hdst) kont) Q := by
  subst hs
  unfold WaitS owesEx
  rw [peel h2]
  unfold waitNeed
  iintro ⟨#HR, ⟨⟨%W, HO⟩, ⟨⟨Hc, Ha⟩, Hb⟩, Hd⟩, Hf⟩
  iapply (Rounds.wp_wait_rest_token 𝒱₀ ER (sched P) (c : Thread nD τ) none (κ := K (c, ksem i))
      (wpE_waitDma2_eq 𝒱₀ (c : Thread nD τ) none Set.univ) (Set.mem_univ _) () (O := Ow c a) (W := W) (R := 0) (m := 0) (T := ∅)
      (by rw [expect_dma P c h3, Nat.zero_add, hm])) $$ [Hc HO Ha]
  · isplitr; · iapply (inv_dma P K c h3); iexact HR
    isplitl [Hc]; · rw [hm]; iexact Hc
    isplitl [HO]; · iexact HO
    isplitr; · iapply (may_dma P K c h4); iexact HR
    iexact Ha
  iintro ⟨HO, Ha, -, Hpay⟩
  ihave Hp := (Entails.of_eq (rest_dma P c h3)) $$ Hpay
  iapply H
  isplitr; · iexact HR
  isplitl [HO Ha Hp Hb Hd]
  · unfold WaitS owesEx
    rw [grow h1]
    unfold waitDone waitNeed
    isplitl [HO]; · iexists (insert (SemLoc.dma (dsem i), ()) W); iexact HO
    isplitl [Hb]; · iexact Hb
    isplitl [Ha Hp]
    · isplitl [Hp] <;> iassumption
    · iexact Hd
  · iexact Hf

/-! ## The copies of the output's halves -/

/-- Half of the output's staging buffer, half of the output. -/
abbrev vSl (off : Fin 3 → ℕ) (inb : ∀ a : Fin 3, off a + S1x256x512.size a ≤ S1x256x1024.size a) : Memref sig .tc .vmem S1x256x512 .f32 :=
  vM.slice (Rect.unit (s := S1x256x1024) off S1x256x512.size inb) (fun _ => rfl)
abbrev oSl (off : Fin 3 → ℕ) (inb : ∀ a : Fin 3, off a + S1x256x512.size a ≤ S1x256x1024.size a) : Memref sig .tc .hbm S1x256x512 .f32 :=
  oM.slice (Rect.unit (s := S1x256x1024) off S1x256x512.size inb) (fun _ => rfl)
theorem vSl_set {h : ℕ} {off : Fin 3 → ℕ} (ho : off = ![0, 0, 512 * h]) (inb) : (vSl off inb).view.set = half h :=
  (View.set_slice_whole _ _).trans (rect_half ho inb)
theorem oSl_set {h : ℕ} {off : Fin 3 → ℕ} (ho : off = ![0, 0, 512 * h]) (inb) : (oSl off inb).view.set = half h :=
  (View.set_slice_whole _ _).trans (rect_half ho inb)

theorem land_out {off : Fin 3 → ℕ} (inb) (inb') (fd f : Vec F S1x256x1024 .f32) (i : S1x256x1024.Idx) (hi : i ∈ (oSl off inb').view.set) :
    (oSl off inb').view.write (Elt F) fd ((vSl off inb).view.read (Elt F) f) Finset.univ i = f i := by
  obtain ⟨y, -, rfl⟩ := Finset.mem_map.mp hi
  rw [View.write_emb_of_mem _ _ (Finset.mem_univ y)]
  rfl

theorem copy_step (c : Dev nD) (h : ℕ) {off : Fin 3 → ℕ} (ho : off = ![0, 0, 512 * h])
    {inb inb' : ∀ a : Fin 3, off a + S1x256x512.size a ≤ S1x256x1024.size a}
    {s : DmaSem sig} (hs : s = dsem h := by rfl) (hh : h < 2 := by decide)
    {hsrc : (vSl off inb).view.WordExact} {hdst : (oSl off inb').view.WordExact}
    {hsem : DmaTarget.Typed .vmem (.dma s) (.here (oSl off inb') : DmaTarget nD τ sig (.tc : Proc τ) .hbm S1x256x512 .f32)}
    {α : Type} {kont : PUnit → Prog (TpuEff nD τ sig (Elt F) Λ₀ .tc) α} {Q : α → sProp 𝕄} {R : sProp 𝕄}
    (H : iprop(recs P K ∗ cred (tallyAt (dcell c h) () (amt h)) ∗ R) ⊢ run c (kont ⟨⟩) Q) :
    iprop(recs P K ∗ (dutyTok ER (dcell c h) 0 0 ∗ vPts c h (outC P c) ∗ ∃ f, oPts c h f) ∗ R)
      ⊢ run c (.op (.enqueueDma (vSl off inb) (.here (oSl off inb')) (.dma s) hsrc hdst hsem) kont) Q := by
  subst hs
  unfold vPts oPts
  iintro ⟨#HR, ⟨Ht, Hv, ⟨%f, Ho⟩⟩, Hf⟩
  iapply (Rounds.wp_copy_pointsTo 𝒱₀ ER (sched P) (c : Thread nD τ) none (κ := K (c, ksem h))
      (src := vSl off inb) (dst := oSl off inb') (fs := outC P c) (fd := f) (q := fullShare) (r := 0) (d := 0)
      (by rw [duties_dma P c (by omega)]; exact Finset.mem_singleton_self _) () (amt h) (if_pos hh).symm (amount_dma P c (by omega) 0)
      (by
        rw [payload_dma P c (by omega), pay_store P c hh, pointsTo_congr (land_out inb inb' f (outC P c)), vSl_set ho, oSl_set ho]
        exact BI.Entails.refl _)) $$ [Ht Hv Ho]
  · isplitr; · iapply (inv_dma P K c (i := h) (by omega)); iexact HR
    isplitl [Hv]; · rw [vSl_set ho]; iexact Hv
    isplitl [Ho]; · rw [oSl_set ho]; iexact Ho
    isplitl [Ht]; · iexact Ht
    iapply (reached_dma P K c (i := h) (by omega)); iexact HR
  iintro Hcr
  iapply H
  isplitr; · iexact HR
  isplitl [Hcr]; · iexact Hcr
  iexact Hf

end

end Cert.Attn

end
-- ==== Proof.Pieces.lean ====
/-
The buffers cut into the pieces that the devices exchange, and put together again: pure regroupings of what a device holds.
-/
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sums over ranges and over the other devices -/

/-- Two assertions that give each other are one. -/
theorem both {A B : sProp 𝕄} (h1 : A ⊢ B) (h2 : B ⊢ A) : A = B := equiv_iff.mp ⟨h1, h2⟩

theorem shift (a n : ℕ) (Φ : ℕ → sProp 𝕄) : bigSep (Finset.Ico a (a + n)) Φ = bigSep (Finset.Ico 0 n) fun j => Φ (a + j) := by
  induction n with
  | zero => rw [Nat.add_zero, none_left, none_left]
  | succ n ih => rw [← Nat.add_assoc, grow (Nat.le_add_right _ _), grow (Nat.zero_le _), ih]

theorem cut {a b c : ℕ} (h1 : a ≤ b) (h2 : b ≤ c) (Φ : ℕ → sProp 𝕄) :
    bigSep (Finset.Ico a c) Φ = iprop(bigSep (Finset.Ico a b) Φ ∗ bigSep (Finset.Ico b c) Φ) := by
  rw [← Finset.Ico_union_Ico_eq_Ico h1 h2, bigSep_union (Finset.Ico_disjoint_Ico_consecutive a b c)]
  rfl

/-- Every device is `c` or the target of one of `c`'s fifteen messages; -/
theorem around (c : Dev nD) (Φ : Dev nD → sProp 𝕄) :
    bigSep Finset.univ Φ = iprop(Φ c ∗ bigSep (Finset.Ico 0 15) fun j => Φ (tgt c j)) := by
  have hinj : Set.InjOn (tgt c) (Finset.Ico 0 15 : Finset ℕ) := fun i hi j hj h =>
    tgt_inj c (Finset.mem_Ico.mp hi).2 (Finset.mem_Ico.mp hj).2 h
  have hu : (Finset.univ : Finset (Dev nD)) = insert c ((Finset.Ico 0 15).image (tgt c)) := by
    ext d
    by_cases h : d = c
    · subst h; exact iff_of_true (Finset.mem_univ _) (Finset.mem_insert_self _ _)
    · obtain ⟨j, hj, e⟩ := exists_tgt h
      exact iff_of_true (Finset.mem_univ _) (Finset.mem_insert_of_mem (Finset.mem_image.mpr ⟨j, Finset.mem_Ico.mpr ⟨Nat.zero_le _, hj⟩, e⟩))
  rw [hu, bigSep_insert (fun h => by
    obtain ⟨j, hj, e⟩ := Finset.mem_image.mp h
    exact tgt_ne c (Finset.mem_Ico.mp hj).2 e), bigSep_image_of_injOn hinj]
  rfl

/-- or the source of one of the fifteen messages to `c`. -/
theorem around_src (c : Dev nD) (Φ : Dev nD → sProp 𝕄) :
    bigSep Finset.univ Φ = iprop(Φ c ∗ bigSep (Finset.Ico 0 15) fun j => Φ (src c j)) := by
  have hinj : Set.InjOn (src c) (Finset.Ico 0 15 : Finset ℕ) := fun i hi j hj h =>
    src_inj c (Finset.mem_Ico.mp hi).2 (Finset.mem_Ico.mp hj).2 h
  have hu : (Finset.univ : Finset (Dev nD)) = insert c ((Finset.Ico 0 15).image (src c)) := by
    ext d
    by_cases h : d = c
    · subst h; exact iff_of_true (Finset.mem_univ _) (Finset.mem_insert_self _ _)
    · obtain ⟨j, hj, e⟩ := exists_src h
      exact iff_of_true (Finset.mem_univ _) (Finset.mem_insert_of_mem (Finset.mem_image.mpr ⟨j, Finset.mem_Ico.mpr ⟨Nat.zero_le _, hj⟩, e⟩))
  rw [hu, bigSep_insert (fun h => by
    obtain ⟨j, hj, e⟩ := Finset.mem_image.mp h
    exact src_ne c (Finset.mem_Ico.mp hj).2 e), bigSep_image_of_injOn hinj]
  rfl

/-! ## The buffers by their pieces -/

/-- Half `h` of the columns of the partial result, of the gather buffer, and of the receive buffer. -/
def pAll (c : Dev nD) (h : ℕ) (f : Vec F S256x1024 .bf16) : sProp 𝕄 := (c : Thread nD τ).loc cc0_scratch1 ↦[cols h]{fullShare} f
def aAll (q : PosShare TreeShare) (c : Dev nD) (h : ℕ) (f : Vec F S256x1024 .bf16) : sProp 𝕄 := (c : Thread nD τ).loc cc0_scratch3 ↦[cols h]{q} f
/-- Half `h` of every slot. -/
def slots (h : ℕ) : Finset S16x16x1024.Idx := Finset.univ.filter fun i => (i 2).val / 512 = h
def rAll (c : Dev nD) (h : ℕ) (f : Vec F S16x16x1024 .bf16) : sProp 𝕄 := (c : Thread nD τ).loc cc0_scratch2 ↦[slots h]{fullShare} f

theorem mem_slots {h : ℕ} {i : S16x16x1024.Idx} : i ∈ slots h ↔ (i 2).val / 512 = h := by simp [slots]
theorem slot_sub (s h : ℕ) : slot s h ⊆ slots h := fun i hi => mem_slots.mpr (mem_slot.mp hi).2
theorem biUnion_slots (h : ℕ) : (Finset.univ : Finset (Dev nD)).biUnion (fun d => slot d.val h) = slots h := by
  ext i
  rw [Finset.mem_biUnion, mem_slots]
  constructor
  · rintro ⟨d, -, hd⟩; exact (mem_slot.mp hd).2
  · intro hi; exact ⟨⟨(i 0).val, rlt0 i⟩, Finset.mem_univ _, mem_slot.mpr ⟨rfl, hi⟩⟩
theorem union_cols : cols 0 ∪ cols 1 = Finset.univ := by
  ext i
  have := lt1 i
  rw [Finset.mem_union, mem_cols, mem_cols]
  exact iff_of_true (by omega) (Finset.mem_univ _)
theorem union_slots : slots 0 ∪ slots 1 = Finset.univ := by
  ext i
  have := rlt2 i
  rw [Finset.mem_union, mem_slots, mem_slots]
  exact iff_of_true (by omega) (Finset.mem_univ _)
theorem cols_disjoint : Disjoint (cols 0) (cols 1) :=
  Finset.disjoint_left.mpr fun i hi hi' => by rw [mem_cols] at hi hi'; omega
theorem slots_disjoint : Disjoint (slots 0) (slots 1) :=
  Finset.disjoint_left.mpr fun i hi hi' => by rw [mem_slots] at hi hi'; omega
theorem dev_ne {d d' : Dev nD} {h : ℕ} (hne : d ≠ d') : ¬(d.val = d'.val ∧ h = h) := fun e => hne (Fin.ext e.1)

theorem pAll_eq (c : Dev nD) (h : ℕ) (f : Vec F S256x1024 .bf16) : pAll c h f = bigSep Finset.univ fun d : Dev nD => pPts c d.val h f := by
  unfold pAll pPts
  rw [← biUnion_blk h]
  exact pointsTo_biUnion _ _ fun d _ d' _ hne => blk_disjoint (dev_ne hne)
theorem aAll_eq (q : PosShare TreeShare) (c : Dev nD) (h : ℕ) (f : Vec F S256x1024 .bf16) : aAll q c h f = bigSep Finset.univ fun d : Dev nD => aPts q c d.val h f := by
  unfold aAll aPts
  rw [← biUnion_blk h]
  exact pointsTo_biUnion _ _ fun d _ d' _ hne => blk_disjoint (dev_ne hne)
theorem rAll_eq (c : Dev nD) (h : ℕ) (f : Vec F S16x16x1024 .bf16) : rAll c h f = bigSep Finset.univ fun d : Dev nD => rPts c d.val h f := by
  unfold rAll rPts
  rw [← biUnion_slots h]
  exact pointsTo_biUnion _ _ fun d _ d' _ hne => slot_disjoint (dev_ne hne)

/-- A buffer whole, and by its halves. -/
theorem p_halves (c : Dev nD) (f : Vec F S256x1024 .bf16) :
    ((c : Thread nD τ).loc cc0_scratch1 ↦{fullShare} f : sProp 𝕄) ⊣⊢ iprop(pAll c 0 f ∗ pAll c 1 f)  := by
  unfold pAll
  rw [← union_cols]
  exact pointsTo_union cols_disjoint
theorem a_halves (c : Dev nD) (f : Vec F S256x1024 .bf16) :
    ((c : Thread nD τ).loc cc0_scratch3 ↦{fullShare} f : sProp 𝕄) ⊣⊢ iprop(aAll fullShare c 0 f ∗ aAll fullShare c 1 f)  := by
  unfold aAll
  rw [← union_cols]
  exact pointsTo_union cols_disjoint
theorem r_halves (c : Dev nD) (f : Vec F S16x16x1024 .bf16) :
    ((c : Thread nD τ).loc cc0_scratch2 ↦{fullShare} f : sProp 𝕄) ⊣⊢ iprop(rAll c 0 f ∗ rAll c 1 f)  := by
  unfold rAll
  rw [← union_slots]
  exact pointsTo_union slots_disjoint
theorem v_halves (c : Dev nD) (f : Vec F S1x256x1024 .f32) :
    ((c : Thread nD τ).loc cc0_scratch0 ↦{fullShare} f : sProp 𝕄) ⊣⊢ iprop(vPts c 0 f ∗ vPts c 1 f)  := by
  unfold vPts
  rw [← union_half]
  exact pointsTo_union half_disjoint
theorem o_halves (c : Dev nD) (f : Vec F S1x256x1024 .f32) :
    ((c : Thread nD τ).loc main_v1 ↦{fullShare} f : sProp 𝕄) ⊣⊢ iprop(oPts c 0 f ∗ oPts c 1 f)  := by
  unfold oPts
  rw [← union_half]
  exact pointsTo_union half_disjoint

theorem lend_intro (e d : Dev nD) (f : Vec F S16x16x1024 .bf16) (g : Vec F S256x1024 .bf16) :
    iprop((rPts e d.val 0 f ∗ rPts e d.val 1 f) ∗ aPts fullShare e d.val 0 g ∗ aPts fullShare e d.val 1 g) ⊢ (lend e d : sProp 𝕄) := by
  unfold lend
  iintro ⟨⟨H0, H1⟩, H2, H3⟩
  isplitl [H0 H1]
  · isplitl [H0]
    · iexists f; iexact H0
    · iexists f; iexact H1
  isplitl [H2]
  · iexists g; iexact H2
  · iexists g; iexact H3

/-- What a device holds of its receive and gather buffers when it starts is what it will lend, and its own places. -/
theorem lend_all (c : Dev nD) (f : Vec F S16x16x1024 .bf16) (g : Vec F S256x1024 .bf16) :
    iprop(((c : Thread nD τ).loc cc0_scratch2 ↦{fullShare} f) ∗ ((c : Thread nD τ).loc cc0_scratch3 ↦{fullShare} g))
      ⊢ (iprop(lend c c ∗ bigSep (Finset.Ico 0 15) fun j => lend c (tgt c j)) : sProp 𝕄) := by
  rw [both (r_halves c f).1 (r_halves c f).2, both (a_halves c g).1 (a_halves c g).2, rAll_eq, rAll_eq, aAll_eq, aAll_eq, ← around c fun d => lend c d, ← bigSep_sep', ← bigSep_sep', ← bigSep_sep']
  exact bigSep_mono fun d _ => lend_intro c d f g

/-- A full share is what the first `k` sends take and what is left. -/
theorem share_all (c : Dev nD) (d h k : ℕ) (f : Vec F S256x1024 .bf16) :
    aPts fullShare c d h f = iprop(aPts (rest k) c d h f ∗ bigSep (Finset.Ico 0 k) fun j => aPts (sq j) c d h f) := by
  induction k with
  | zero =>
    rw [none_left]
    refine both ?_ ?_
    · iintro H; isplitl; · iexact H
      iempintro
    · iintro ⟨H, -⟩; iexact H
  | succ k ih =>
    have hs : (aPts (rest k) c d h f : sProp 𝕄) = iprop(aPts (sq k) c d h f ∗ aPts (rest (k + 1)) c d h f) := by
      unfold aPts; exact both (pointsTo_share (rest_split k)).1 (pointsTo_share (rest_split k)).2
    rw [ih, hs, grow (Nat.zero_le _)]
    refine both ?_ ?_
    · iintro ⟨⟨H1, H2⟩, H3⟩
      isplitl [H2]; · iexact H2
      isplitl [H1]; · iexact H1
      iexact H3
    · iintro ⟨H2, H1, H3⟩
      isplitl [H1 H2]
      · isplitl [H1] <;> iassumption
      · iexact H3

section

variable (P : Dev nD → Vec F S256x1024 .bf16)

/-! ## Before the sends -/

/-- The tokens of the reduce sends of half `h`, and of its gather sends. -/
def rsTok (c : Dev nD) (h : ℕ) : sProp 𝕄 :=
  bigSep (Finset.Ico 0 15) fun j => iprop(dutyTok ER (dcell c (2 + (15 * h + j))) 0 0 ∗ dutyTok ER (dcell (tgt c j) (32 + (15 * h + j))) 0 0)
def agTok (c : Dev nD) (h : ℕ) : sProp 𝕄 :=
  bigSep (Finset.Ico 0 15) fun j => iprop(dutyTok ER (dcell c (62 + (15 * h + j))) 0 0 ∗ dutyTok ER (dcell (tgt c j) (92 + (15 * h + j))) 0 0)

theorem rsNeeds (c : Dev nD) :
    bigSep (Finset.Ico 0 30) (rsNeed P c) = iprop(bigSep (Finset.Ico 0 15) (fun j => rsNeed P c (15 * 0 + j)) ∗ bigSep (Finset.Ico 0 15) fun j => rsNeed P c (15 * 1 + j)) := by
  rw [cut (a := 0) (b := 15) (c := 30) (by decide) (by decide), shift 15 15]
  simp only [Nat.mul_zero, Nat.zero_add, Nat.mul_one]

theorem rsNeed_eq (c : Dev nD) {h j : ℕ} (hj : j < 15) :
    rsNeed P c (15 * h + j) = iprop(dutyTok ER (dcell c (2 + (15 * h + j))) 0 0 ∗ dutyTok ER (dcell (tgt c j) (32 + (15 * h + j))) 0 0
      ∗ pPts c (tgt c j).val h (P c) ∗ ∃ f, rPts (tgt c j) c.val h f) := by
  unfold rsNeed
  rw [show (15 * h + j) % 15 = j by omega, show (15 * h + j) / 15 = h by omega]

/-- With the partial result stored and every other device's places lent, the sends can start. -/
theorem to_sends (c : Dev nD) :
    iprop(owesEx c 15 ∗ (bigSep (Finset.Ico 0 15) fun j => lend (tgt c j) c) ∗ ((c : Thread nD τ).loc cc0_scratch1 ↦{fullShare} P c)
        ∗ rsTok c 0 ∗ rsTok c 1 ∗ agTok c 0 ∗ agTok c 1)
      ⊢ (iprop(RsS P c 0 ∗ (bigSep (Finset.Ico 0 15) (agNeed c 0) ∗ bigSep (Finset.Ico 0 15) (agNeed c 1)) ∗ pPts c c.val 0 (P c) ∗ pPts c c.val 1 (P c)) : sProp 𝕄) := by
  rw [both (p_halves c (P c)).1 (p_halves c (P c)).2, pAll_eq, pAll_eq, around c fun d => pPts c d.val 0 (P c), around c fun d => pPts c d.val 1 (P c)]
  unfold RsS rsTok agTok lend
  rw [rsNeeds, bigSep_sep', bigSep_sep', bigSep_sep', none_left,
    bigSep_congr fun j hj => rsNeed_eq P c (h := 0) (Finset.mem_Ico.mp hj).2, bigSep_congr fun j hj => rsNeed_eq P c (h := 1) (Finset.mem_Ico.mp hj).2]
  iintro ⟨HO, ⟨⟨Hr0, Hr1⟩, Ha0, Ha1⟩, ⟨⟨Hp0, Hq0⟩, Hp1, Hq1⟩, Ht0, Ht1, Hg0, Hg1⟩
  isplitl [HO Hr0 Hr1 Hq0 Hq1 Ht0 Ht1]
  · isplitl [HO]; · iexact HO
    isplitl
    · simp only [bigSep_sep']
      icases Ht0 with ⟨Hs0, Hd0⟩
      icases Ht1 with ⟨Hs1, Hd1⟩
      isplitl [Hs0 Hd0 Hq0 Hr0]
      · isplitl [Hs0]; · iexact Hs0
        isplitl [Hd0]; · iexact Hd0
        isplitl [Hq0]; · iexact Hq0
        iexact Hr0
      · isplitl [Hs1]; · iexact Hs1
        isplitl [Hd1]; · iexact Hd1
        isplitl [Hq1]; · iexact Hq1
        iexact Hr1
    · iempintro
  isplitl [Ha0 Ha1 Hg0 Hg1]
  · unfold agNeed
    simp only [bigSep_sep']
    icases Hg0 with ⟨Hs0, Hd0⟩
    icases Hg1 with ⟨Hs1, Hd1⟩
    isplitl [Hs0 Hd0 Ha0]
    · isplitl [Hs0]; · iexact Hs0
      isplitl [Hd0]; · iexact Hd0
      iexact Ha0
    · isplitl [Hs1]; · iexact Hs1
      isplitl [Hd1]; · iexact Hd1
      iexact Ha1
  isplitl [Hp0] <;> iassumption

/-! ## After the waits -/

/-- The semaphores from `lo` to `hi`, each waited for. -/
def posd (c : Dev nD) (lo hi : ℕ) : sProp 𝕄 := bigSep (Finset.Ico lo hi) fun i => atPos ER (dcell c i) 1 ∅ 0

theorem done_eq (c : Dev nD) (lo hi : ℕ) : bigSep (Finset.Ico lo hi) (waitDone P c) = iprop((bigSep (Finset.Ico lo hi) fun i => pay P c i) ∗ posd c lo hi) := by
  unfold waitDone posd; exact bigSep_sep' _ _ _

/-- The slots of one half, received from all devices. -/
theorem received (c : Dev nD) {h : ℕ} (hh : h < 2) :
    iprop(bigSep (Finset.Ico (32 + 15 * h) (32 + 15 * h + 15)) (waitDone P c) ∗ rPts c c.val h (recvC P c))
      ⊢ (iprop(rAll c h (recvC P c) ∗ posd c (32 + 15 * h) (32 + 15 * h + 15)) : sProp 𝕄) := by
  rw [done_eq, shift, bigSep_congr fun j hj => pay_rsRecv P c hh (Finset.mem_Ico.mp hj).2, rAll_eq,
    around_src c fun d => rPts c d.val h (recvC P c)]
  iintro ⟨⟨Hp, Ha⟩, Hr⟩
  isplitr [Ha]
  · isplitl [Hr] <;> iassumption
  · iexact Ha

/-- One half of the gather buffer, received from all devices, at the share that is left of the device's own slab; what is
    left of the other slabs. -/
def agHalf (c : Dev nD) (h : ℕ) : sProp 𝕄 :=
  iprop(aAll (rest 15) c h (gathC P) ∗ bigSep (Finset.Ico 0 15) fun j => bigSep (Finset.Ico 0 15) fun k => aPts (sq k) c (src c j).val h (gathC P))

theorem gathered (c : Dev nD) {h : ℕ} (hh : h < 2) :
    iprop(bigSep (Finset.Ico (92 + 15 * h) (92 + 15 * h + 15)) (waitDone P c) ∗ aPts (rest 15) c c.val h (gathC P))
      ⊢ (iprop(agHalf P c h ∗ posd c (92 + 15 * h) (92 + 15 * h + 15)) : sProp 𝕄) := by
  rw [done_eq, shift, bigSep_congr fun j hj => (pay_agRecv P c hh (Finset.mem_Ico.mp hj).2).trans (share_all c _ h 15 _), bigSep_sep']
  unfold agHalf
  rw [aAll_eq, around_src c fun d => aPts (rest 15) c d.val h (gathC P)]
  iintro ⟨⟨⟨Hp, Hs⟩, Ha⟩, Hr⟩
  isplitr [Ha]
  · isplitr [Hs]
    · isplitl [Hr] <;> iassumption
    · iexact Hs
  · iexact Ha

/-- One half of the gather buffer is whole again when its sends are done. -/
theorem ag_back (c : Dev nD) {h : ℕ} (hh : h < 2) :
    iprop(agHalf P c h ∗ bigSep (Finset.Ico (62 + 15 * h) (62 + 15 * h + 15)) (waitDone P c))
      ⊢ (iprop(aAll fullShare c h (gathC P) ∗ posd c (62 + 15 * h) (62 + 15 * h + 15)) : sProp 𝕄) := by
  rw [done_eq, shift, bigSep_congr fun j hj => pay_agSend P c hh (Finset.mem_Ico.mp hj).2]
  unfold agHalf
  rw [aAll_eq, aAll_eq, around_src c fun d => aPts (rest 15) c d.val h (gathC P), around_src c fun d => aPts fullShare c d.val h (gathC P),
    share_all c c.val h 15, bigSep_congr fun j _ => share_all c (src c j).val h 15 (gathC P), bigSep_sep']
  iintro ⟨⟨⟨Hr, Hp⟩, Hs⟩, Hq, Ha⟩
  isplitr [Ha]
  · isplitl [Hr Hq]
    · isplitl [Hr] <;> iassumption
    · isplitl [Hp] <;> iassumption
  · iexact Ha

/-- So is one half of the partial result. -/
theorem p_back (c : Dev nD) {h : ℕ} (hh : h < 2) :
    iprop(pPts c c.val h (P c) ∗ bigSep (Finset.Ico (2 + 15 * h) (2 + 15 * h + 15)) (waitDone P c))
      ⊢ (iprop(pAll c h (P c) ∗ posd c (2 + 15 * h) (2 + 15 * h + 15)) : sProp 𝕄) := by
  rw [done_eq, shift, bigSep_congr fun j hj => pay_rsSend P c hh (Finset.mem_Ico.mp hj).2, pAll_eq, around c fun d => pPts c d.val h (P c)]
  iintro ⟨Hr, Hp, Ha⟩
  isplitr [Ha]
  · isplitl [Hr] <;> iassumption
  · iexact Ha

end

end Cert.Attn

end
-- ==== Proof.Values.lean ====
/-
What the body's loads read and what its stores leave, element by element, of the buffers' contents that the protocol names.
-/
module

public import proofs.«01_k».proof.Proof.Schedule

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An array with a leading axis of size one, read as the array without it, and the other way round. -/
theorem drop_one {n : ℕ} {d : Fin n → ℕ} (h : (⟨n + 1, Matrix.vecCons 1 d⟩ : Shape).numel = (⟨n, d⟩ : Shape).numel)
    (x : (⟨n + 1, Matrix.vecCons 1 d⟩ : Shape).Idx) (y : (⟨n, d⟩ : Shape).Idx) (hxy : ∀ a : Fin n, (x a.succ).val = (y a).val) :
    Shape.reshapeEquiv h x = y := by
  rw [← Shape.reshapeEquiv_symm h.symm, Equiv.symm_apply_eq, Shape.reshapeEquiv_cons_one]
  funext a
  refine Fin.cases ?_ (fun a => ?_) a
  · refine Fin.ext ?_
    have := (x 0).isLt
    have h1 : (Matrix.vecCons 1 d : Fin (n + 1) → ℕ) 0 = 1 := rfl
    show (x 0).val = 0
    have h2 : (x 0).val < 1 := this
    omega
  · exact Fin.ext (hxy a)

section

variable (P : Dev nD → Vec F S256x1024 .bf16)

/-- A device's own rows, copied from its partial result into its slot. -/
theorem own_slot (c : Dev nD) {off1 : Fin 2 → ℕ} {off2 : Fin 3 → ℕ} (h1 : off1 = ![16 * c.val, 0]) (h2 : off2 = ![c.val, 0, 0])
    (inb1 : ∀ a : Fin 2, off1 a + S16x1024.size a ≤ S256x1024.size a) (inb2 : ∀ a : Fin 3, off2 a + S1x16x1024.size a ≤ S16x16x1024.size a)
    (f : Vec F S16x16x1024 .bf16) (i : S16x16x1024.Idx) (hi : i ∈ slot c.val 0 ∪ slot c.val 1) :
    (rM.access (Rect.unit (s := S16x16x1024) off2 S1x16x1024.size inb2)).write (Elt F) f
      (k0_pay16 ((pM.access (Rect.unit (s := S256x1024) off1 S16x1024.size inb1)).read (Elt F) (P c))) Finset.univ i = recvC P c i := by
  have hi' : i ∈ (rM.access (Rect.unit (s := S16x16x1024) off2 S1x16x1024.size inb2)).set := by
    rw [show (rM.access (Rect.unit (s := S16x16x1024) off2 S1x16x1024.size inb2)).set = _ from View.set_slice_whole _ _, rect_slots h2]; exact hi
  obtain ⟨y, -, rfl⟩ := Finset.mem_map.mp hi'
  rw [View.write_emb_of_mem _ _ (Finset.mem_univ y)]
  have e : ∀ a, (((rM.access (Rect.unit (s := S16x16x1024) off2 S1x16x1024.size inb2)).emb y a : Fin _) : ℕ) = off2 a + (y a).val :=
    fun a => ValueKit.rect_emb_unit_val (s := S16x16x1024) off2 S1x16x1024.size inb2 y a
  have y0 : (y 0).val = 0 := by have : (y 0).val < 1 := (y 0).isLt; omega
  subst h1 h2
  have e0 := e 0
  have e1 := e 1
  have e2 := e 2
  unfold recvC
  have d : (⟨((rM.access (Rect.unit (s := S16x16x1024) ![c.val, 0, 0] S1x16x1024.size inb2)).emb y 0).val, rlt0 _⟩ : Dev nD) = c :=
    Fin.ext (e0.trans (by rw [y0]; rfl))
  rw [d]
  show P c ((pM.access (Rect.unit (s := S256x1024) ![16 * c.val, 0] S16x1024.size inb1)).emb (Shape.reshapeEquiv _ y)) = _
  refine congrArg (P c) (bIx_eq ?_ ?_).symm
  · refine (ValueKit.rect_emb_unit_val (s := S256x1024) ![16 * c.val, 0] S16x1024.size inb1 _ 0).trans ?_
    rw [e1, drop_one (n := 2) (d := ![16, 1024]) _ y (fun a => y a.succ) fun _ => rfl]
    show 16 * c.val + (y 1).val = 16 * c.val + (0 + (y 1).val)
    omega
  · refine (ValueKit.rect_emb_unit_val (s := S256x1024) ![16 * c.val, 0] S16x1024.size inb1 _ 1).trans ?_
    rw [e2, drop_one (n := 2) (d := ![16, 1024]) _ y (fun a => y a.succ) fun _ => rfl]
    rfl

/-- One slot's half, loaded and widened: one term of the sum. -/
theorem slab_read (c : Dev nD) {s h : ℕ} (hs : s < 16) (hh : h < 2) {off : Fin 3 → ℕ} (ho : off = ![s, 0, 512 * h])
    (inb : ∀ a : Fin 3, off a + S1x16x512.size a ≤ S16x16x1024.size a) :
    k0_pay17 ((rM.access (Rect.unit (s := S16x16x1024) off S1x16x512.size inb)).read (Elt F) (recvC P c)) = term P c ⟨h, hh⟩ ⟨s, hs⟩ := by
  subst ho
  funext y
  show FloatOps.extf .f32 bitsLt_bf16_f32 (recvC P c ((Rect.unit (s := S16x16x1024) ![s, 0, 512 * h] S1x16x512.size inb).emb (Shape.reshapeEquiv _ y))) = _
  unfold term
  congr 1
  have e : Shape.reshapeEquiv shapeCasts_S1x16x512_S16x512 y = (Fin.cons ⟨0, Nat.one_pos⟩ y : S1x16x512.Idx) :=
    Shape.reshapeEquiv_cons_one (n := 2) (d := ![16, 512]) _ y
  have ev : ∀ a, (((Rect.unit (s := S16x16x1024) ![s, 0, 512 * h] S1x16x512.size inb).emb (Shape.reshapeEquiv shapeCasts_S1x16x512_S16x512 y) a : Fin _) : ℕ)
      = (![s, 0, 512 * h] : Fin 3 → ℕ) a + ((Fin.cons ⟨0, Nat.one_pos⟩ y : S1x16x512.Idx) a).val := fun a => by
    rw [e]; exact ValueKit.rect_emb_unit_val (s := S16x16x1024) ![s, 0, 512 * h] S1x16x512.size inb _ a
  have e0 := ev 0
  have e1 := ev 1
  have e2 := ev 2
  unfold recvC
  have d : (⟨((Rect.unit (s := S16x16x1024) ![s, 0, 512 * h] S1x16x512.size inb).emb (Shape.reshapeEquiv shapeCasts_S1x16x512_S16x512 y) 0).val, rlt0 _⟩ : Dev nD)
      = (⟨s, hs⟩ : Dev nD) := Fin.ext (e0.trans (Nat.add_zero _))
  refine (congrFun (congrArg P d) _).trans (congrArg (P ⟨s, hs⟩) (bIx_eq ?_ ?_))
  · show 16 * c.val + _ = 16 * c.val + _
    rw [e1]; show 16 * c.val + (y 0).val = 16 * c.val + (0 + (y 0).val); omega
  · exact e2.symm

/-- The sixteen terms added up. -/
theorem red_eq (c : Dev nD) (h : Fin 2) (x : Vec F S1x16x512 .bf16) (hx : k0_pay17 x = term P c h 15) :
    k0_pay32 (term P c h 0) (term P c h 1) (term P c h 2) (term P c h 3) (term P c h 4) (term P c h 5) (term P c h 6) (term P c h 7) (term P c h 8)
      (term P c h 9) (term P c h 10) (term P c h 11) (term P c h 12) (term P c h 13) (term P c h 14) x = red P c h := by
  unfold red tree
  rw [← hx]
  rfl

/-- A device's slab of the sum, stored narrowed into the gather buffer. -/
theorem own_slab (c : Dev nD) {h : ℕ} (hh : h < 2) {off : Fin 2 → ℕ} (ho : off = ![16 * c.val, 512 * h])
    (inb : ∀ a : Fin 2, off a + S16x512.size a ≤ S256x1024.size a) (f : Vec F S256x1024 .bf16) (i : S256x1024.Idx) (hi : i ∈ blk c.val h) :
    (aM.access (Rect.unit (s := S256x1024) off S16x512.size inb)).write (Elt F) f
      (shapeCast S16x512 (truncf .bf16 (red P c ⟨h, hh⟩) bitsLt_bf16_f32) shapeCasts_S16x512_S16x512) Finset.univ i = gathC P i := by
  have hi' : i ∈ (aM.access (Rect.unit (s := S256x1024) off S16x512.size inb)).set := by
    rw [show (aM.access (Rect.unit (s := S256x1024) off S16x512.size inb)).set = _ from View.set_slice_whole _ _, rect_blk ho]; exact hi
  obtain ⟨y, -, rfl⟩ := Finset.mem_map.mp hi'
  rw [View.write_emb_of_mem _ _ (Finset.mem_univ y)]
  obtain ⟨e0, e1⟩ := emb_blk ho (inb := inb) y
  have hy0 : (y 0).val < 16 := (y 0).isLt
  have hy1 : (y 1).val < 512 := (y 1).isLt
  show FloatOps.truncf .bf16 bitsLt_bf16_f32 (red P c ⟨h, hh⟩ (Shape.reshapeEquiv _ y)) = FloatOps.truncf .bf16 bitsLt_bf16_f32 _
  rw [Shape.reshapeEquiv_self]
  congr 1
  have hd : devOf ((aM.access (Rect.unit (s := S256x1024) off S16x512.size inb)).emb y 0).val (lt0 _) = c := Fin.ext (by
    show ((Rect.unit (s := S256x1024) off S16x512.size inb).emb y 0).val / 16 = c.val
    rw [e0]; omega)
  have hf : halfOf ((aM.access (Rect.unit (s := S256x1024) off S16x512.size inb)).emb y 1).val (lt1 _) = ⟨h, hh⟩ := Fin.ext (by
    show ((Rect.unit (s := S256x1024) off S16x512.size inb).emb y 1).val / 512 = h
    rw [e1]; omega)
  rw [hd, hf]
  refine congrArg _ (sIx_eq ?_ ?_).symm
  · show _ = ((Rect.unit (s := S256x1024) off S16x512.size inb).emb y 0).val % 16
    rw [e0]; show (y 0).val = _; omega
  · show _ = ((Rect.unit (s := S256x1024) off S16x512.size inb).emb y 1).val % 512
    rw [e1]; show (y 1).val = _; omega

/-- The indices of a device's rows in one half of the output. -/
theorem rect_rows {d h : ℕ} {off : Fin 3 → ℕ} (ho : off = ![0, 16 * d, 512 * h]) (inb : ∀ a : Fin 3, off a + S1x16x512.size a ≤ S1x256x1024.size a)
    (i : S1x256x1024.Idx) : i ∈ (Rect.unit (s := S1x256x1024) off S1x16x512.size inb).set ↔ (i 1).val / 16 = d ∧ (i 2).val / 512 = h := by
  subst ho
  rw [Rect.mem_set_unit]
  constructor
  · intro H
    obtain ⟨a1, b1⟩ := H 1
    obtain ⟨a2, b2⟩ := H 2
    have a1' : 16 * d ≤ (i 1).val := a1
    have b1' : (i 1).val < 16 * d + 16 := b1
    have a2' : 512 * h ≤ (i 2).val := a2
    have b2' : (i 2).val < 512 * h + 512 := b2
    omega
  · rintro ⟨H1, H2⟩ a
    have h0 : (i 0).val < 1 := (i 0).isLt
    fin_cases a
    · show 0 ≤ (i 0).val ∧ (i 0).val < 0 + 1; omega
    · show 16 * d ≤ (i 1).val ∧ (i 1).val < 16 * d + 16; omega
    · show 512 * h ≤ (i 2).val ∧ (i 2).val < 512 * h + 512; omega

/-- One half of the output's staging buffer after its two stores: the gathered columns, then the device's own rows. -/
theorem out_half (c : Dev nD) {h : ℕ} (hh : h < 2) {offa : Fin 2 → ℕ} {offv offr : Fin 3 → ℕ} (ha : offa = ![0, 512 * h])
    (hv : offv = ![0, 0, 512 * h]) (hr : offr = ![0, 16 * c.val, 512 * h])
    (inba : ∀ a : Fin 2, offa a + S256x512.size a ≤ S256x1024.size a) (inbv : ∀ a : Fin 3, offv a + S1x256x512.size a ≤ S1x256x1024.size a)
    (inbr : ∀ a : Fin 3, offr a + S1x16x512.size a ≤ S1x256x1024.size a)
    (f : Vec F S1x256x1024 .f32) (i : S1x256x1024.Idx) (hi : i ∈ half h) :
    (vM.access (Rect.unit (s := S1x256x1024) offr S1x16x512.size inbr)).write (Elt F)
      ((vM.access (Rect.unit (s := S1x256x1024) offv S1x256x512.size inbv)).write (Elt F) f
        (k0_pay54 ((aM.access (Rect.unit (s := S256x1024) offa S256x512.size inba)).read (Elt F) (gathC P))) Finset.univ)
      (k0_pay53 (red P c ⟨h, hh⟩)) Finset.univ i = outC P c i := by
  have hi1 := mem_half.mp hi
  have hS : (vM.access (Rect.unit (s := S1x256x1024) offr S1x16x512.size inbr)).set = (Rect.unit (s := S1x256x1024) offr S1x16x512.size inbr).set :=
    View.set_slice_whole _ _
  by_cases hrow : (i 1).val / 16 = c.val
  · have hi' : i ∈ (vM.access (Rect.unit (s := S1x256x1024) offr S1x16x512.size inbr)).set := by
      rw [hS]; exact (rect_rows hr inbr i).mpr ⟨hrow, hi1⟩
    have ho : outC P c i = red P c (halfOf (i 2).val (olt2 i)) (sIx ((i 1).val % 16) ((i 2).val % 512) (Nat.mod_lt _ (by decide)) (Nat.mod_lt _ (by decide))) :=
      if_pos hrow
    rw [ho]
    obtain ⟨y, -, rfl⟩ := Finset.mem_map.mp hi'
    rw [View.write_emb_of_mem _ _ (Finset.mem_univ y)]
    have e : ∀ a, (((vM.access (Rect.unit (s := S1x256x1024) offr S1x16x512.size inbr)).emb y a : Fin _) : ℕ) = offr a + (y a).val :=
      fun a => ValueKit.rect_emb_unit_val (s := S1x256x1024) offr S1x16x512.size inbr y a
    subst hr
    have hy1 : (y 1).val < 16 := (y 1).isLt
    have hy2 : (y 2).val < 512 := (y 2).isLt
    have e1 : ((vM.access (Rect.unit (s := S1x256x1024) ![0, 16 * c.val, 512 * h] S1x16x512.size inbr)).emb y 1).val = 16 * c.val + (y 1).val := e 1
    have e2 : ((vM.access (Rect.unit (s := S1x256x1024) ![0, 16 * c.val, 512 * h] S1x16x512.size inbr)).emb y 2).val = 512 * h + (y 2).val := e 2
    have hf : halfOf ((vM.access (Rect.unit (s := S1x256x1024) ![0, 16 * c.val, 512 * h] S1x16x512.size inbr)).emb y 2).val (olt2 _) = ⟨h, hh⟩ :=
      Fin.ext hi1
    rw [hf]
    show red P c ⟨h, hh⟩ (Shape.reshapeEquiv _ y) = _
    rw [drop_one (n := 2) (d := ![16, 512]) _ y (fun a => y a.succ) fun _ => rfl]
    refine congrArg _ (sIx_eq ?_ ?_).symm
    · show (y 1).val = _; rw [e1]; omega
    · show (y 2).val = _; rw [e2]; omega
  · have hn : i ∉ (vM.access (Rect.unit (s := S1x256x1024) offr S1x16x512.size inbr)).set := by
      rw [hS]; exact fun H => hrow ((rect_rows hr inbr i).mp H).1
    have ho : outC P c i = FloatOps.extf .f32 bitsLt_bf16_f32 (gathC P (bIx (i 1).val (i 2).val (olt1 i) (olt2 i))) := if_neg hrow
    rw [ho, View.write_of_not_mem _ _ _ hn]
    have hi' : i ∈ (vM.access (Rect.unit (s := S1x256x1024) offv S1x256x512.size inbv)).set := by
      rw [show (vM.access (Rect.unit (s := S1x256x1024) offv S1x256x512.size inbv)).set = _ from View.set_slice_whole _ _, rect_half hv]; exact hi
    obtain ⟨y, -, rfl⟩ := Finset.mem_map.mp hi'
    rw [View.write_emb_of_mem _ _ (Finset.mem_univ y)]
    have e : ∀ a, (((vM.access (Rect.unit (s := S1x256x1024) offv S1x256x512.size inbv)).emb y a : Fin _) : ℕ) = offv a + (y a).val :=
      fun a => ValueKit.rect_emb_unit_val (s := S1x256x1024) offv S1x256x512.size inbv y a
    subst hv ha
    show FloatOps.extf .f32 bitsLt_bf16_f32 (gathC P ((Rect.unit (s := S256x1024) ![0, 512 * h] S256x512.size inba).emb (Shape.reshapeEquiv _ y))) = _
    rw [drop_one (n := 2) (d := ![256, 512]) _ y (fun a => y a.succ) fun _ => rfl]
    congr 2
    refine (bIx_eq ?_ ?_).symm
    · exact (ValueKit.rect_emb_unit_val (s := S256x1024) ![0, 512 * h] S256x512.size inba _ 0).trans (e 1).symm
    · exact (ValueKit.rect_emb_unit_val (s := S256x1024) ![0, 512 * h] S256x512.size inba _ 1).trans (e 2).symm

end

end Cert.Attn

end
-- ==== Proof.Walk.lean ====
/-
How the body is walked: its program comes in parts, and each part takes a device from one state to another. The rules for
putting parts together, for setting aside what a part does not use, and for the loads and stores.
-/
module

public import proofs.«01_k».proof.Proof.Pieces
public import proofs.«01_k».proof.Proof.Values

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the body on the buffers and semaphores that the kernel is called with. -/
abbrev onBufs.{u} {α : Type u} (f : ∀ (a0 : Memref sig .tc .vmem S1x256x1024 .f32) (_ : a0.IsWhole) (a1 : Memref sig .tc .vmem S1024x1024 .f32) (_ : a1.IsWhole) (a2 : Memref sig .tc .vmem S1024x1024 .f32) (_ : a2.IsWhole) (a3 : Memref sig .tc .vmem S1024x1024 .f32) (_ : a3.IsWhole) (a4 : Memref sig .tc .vmem S1024x1024 .f32) (_ : a4.IsWhole) (a5 : Memref sig .tc .hbm S1x256x1024 .f32) (_ : a5.IsWhole) (a6 : Memref sig .tc .vmem S1x256x1024 .f32) (_ : a6.IsWhole) (a7 : Memref sig .tc .vmem S256x1024 .bf16) (_ : a7.IsWhole) (a8 : Memref sig .tc .vmem S16x16x1024 .bf16) (_ : a8.IsWhole) (a9 : Memref sig .tc .vmem S256x1024 .bf16) (_ : a9.IsWhole) (_ : DmaSems sig S2) (_ : DmaSems sig S2x15) (_ : DmaSems sig S2x15) (_ : DmaSems sig S2x15) (_ : DmaSems sig S2x15), α) : α :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8

/-! ## Programs by their parts -/

section

variable (P : Dev nD → Vec F S256x1024 .bf16) (K : Dev nD × Fin 123 → ℕ) (c : Dev nD)

/-- Program `p` takes device `c` from `S` to `S'` and returns a value of which `φ` holds, whatever else is held. -/
def Takes {β : Type} (S : sProp 𝕄) (p : Prog (TpuEff nD τ sig (Elt F) Λ₀ .tc) β) (φ : β → Prop) (S' : sProp 𝕄) : Prop :=
  ∀ (Q : β → sProp 𝕄) (R : sProp 𝕄), (∀ r, φ r → iprop(recs P K ∗ S' ∗ R) ⊢ Q r) → iprop(recs P K ∗ S ∗ R) ⊢ run c p Q

section

variable {P} {K} {c}

/-- A program made of a first part and what follows it. -/
theorem then_ {β α : Type} {p : Prog (TpuEff nD τ sig (Elt F) Λ₀ .tc) β} {k : β → Prog (TpuEff nD τ sig (Elt F) Λ₀ .tc) α} {φ : β → Prop}
    {S S' R : sProp 𝕄} {Q : α → sProp 𝕄} (H1 : Takes P K c S p φ S')
    (H2 : ∀ r, φ r → iprop(recs P K ∗ S' ∗ R) ⊢ run c (k r) Q) : iprop(recs P K ∗ S ∗ R) ⊢ run c (p >>= k) Q := by
  unfold run
  rw [wp_bind]
  exact H1 _ _ H2

/-- What is held can be regrouped before going on. -/
theorem regrouped {S R S' R' G : sProp 𝕄} (h : iprop(S ∗ R) ⊢ iprop(S' ∗ R')) (H : iprop(recs P K ∗ S' ∗ R') ⊢ G) : iprop(recs P K ∗ S ∗ R) ⊢ G := by
  iintro ⟨#HR, HS⟩
  ihave HS := h $$ HS
  iapply H
  isplitr; · iexact HR
  iexact HS
theorem turned {S R S' G : sProp 𝕄} (h : S ⊢ S') (H : iprop(recs P K ∗ S' ∗ R) ⊢ G) : iprop(recs P K ∗ S ∗ R) ⊢ G := by
  refine regrouped ?_ H
  iintro ⟨HS, HR⟩
  isplitl [HS]
  · iapply h; iexact HS
  · iexact HR
/-- The first or the second of two, with the other set aside; -/
theorem first {A B R G : sProp 𝕄} (H : iprop(recs P K ∗ A ∗ B ∗ R) ⊢ G) : iprop(recs P K ∗ (A ∗ B) ∗ R) ⊢ G := by
  refine .trans ?_ H
  iintro ⟨H1, ⟨H2, H3⟩, H4⟩
  isplitl [H1]; · iexact H1
  isplitl [H2]; · iexact H2
  isplitl [H3] <;> iassumption
theorem second {A B R G : sProp 𝕄} (H : iprop(recs P K ∗ B ∗ A ∗ R) ⊢ G) : iprop(recs P K ∗ (A ∗ B) ∗ R) ⊢ G := by
  refine .trans ?_ H
  iintro ⟨H1, ⟨H2, H3⟩, H4⟩
  isplitl [H1]; · iexact H1
  isplitl [H3]; · iexact H3
  isplitl [H2] <;> iassumption
/-- and put together again. -/
theorem joined {A B R G : sProp 𝕄} (H : iprop(recs P K ∗ (A ∗ B) ∗ R) ⊢ G) : iprop(recs P K ∗ A ∗ B ∗ R) ⊢ G := by
  refine .trans ?_ H
  iintro ⟨H1, H2, H3, H4⟩
  isplitl [H1]; · iexact H1
  isplitr [H4]
  · isplitl [H2] <;> iassumption
  · iexact H4

theorem load_step {α : Type} {cs : CoreSpace} {s : Shape} {e : EltTy} {m : Memref sig .tc cs s e} {r : Rect s} {hl : m.view.LoadsAt r}
    {kont : (r.shape.Idx → Elt F e) → Prog (TpuEff nD τ sig (Elt F) Λ₀ .tc) α} {Q : α → sProp 𝕄} {R : sProp 𝕄}
    {D : Finset (Idx ((m.access r).loc (c : Thread nD τ)))} {q : PosShare TreeShare} {f : Buf (Elt F) ((m.access r).loc (c : Thread nD τ))}
    (hD : (m.access r).set ⊆ D)
    (H : iprop(recs P K ∗ ((m.access r).loc (c : Thread nD τ) ↦[D]{q} f) ∗ R) ⊢ run c (kont ((m.access r).read (Elt F) f)) Q) :
    iprop(recs P K ∗ ((m.access r).loc (c : Thread nD τ) ↦[D]{q} f) ∗ R) ⊢ run c (.op (.load m r hl) kont) Q := by
  iintro ⟨#HR, Hf, HS⟩
  iapply (wp_load_rect 𝒱₀ (c : Thread nD τ) none Set.univ hD) $$ Hf
  iintro Hf
  iapply H
  isplitr; · iexact HR
  isplitl [Hf] <;> iassumption

theorem store_step {α : Type} {cs : CoreSpace} {s : Shape} {e : EltTy} {m : Memref sig .tc cs s e} {r : Rect s} {w : r.shape.Idx → Elt F e} {Mk : Finset r.shape.Idx}
    {hx : (m.access r).Stores Mk} {hm : Mk = Finset.univ ∨ ∀ a, r.stride a = 1}
    {kont : PUnit → Prog (TpuEff nD τ sig (Elt F) Λ₀ .tc) α} {Q : α → sProp 𝕄} {R : sProp 𝕄}
    {D : Finset (Idx ((m.access r).loc (c : Thread nD τ)))} {f : Buf (Elt F) ((m.access r).loc (c : Thread nD τ))}
    (hD : (m.access r).setOn Mk ⊆ D)
    (H : iprop(recs P K ∗ ((m.access r).loc (c : Thread nD τ) ↦[D]{fullShare} ((m.access r).write (Elt F) f w Mk)) ∗ R) ⊢ run c (kont ⟨⟩) Q) :
    iprop(recs P K ∗ ((m.access r).loc (c : Thread nD τ) ↦[D]{fullShare} f) ∗ R) ⊢ run c (.op (.store m r w Mk hx hm) kont) Q := by
  iintro ⟨#HR, Hf, HS⟩
  iapply (wp_store 𝒱₀ (c : Thread nD τ) none Set.univ hD) $$ Hf
  iintro Hf
  iapply H
  isplitr; · iexact HR
  isplitl [Hf] <;> iassumption

/-- The end of a part. -/
theorem returned {S R : sProp 𝕄} {β : Type} {r : β} {Q : β → sProp 𝕄} (H : iprop(recs P K ∗ S ∗ R) ⊢ Q r) : iprop(recs P K ∗ S ∗ R) ⊢ run c (.ret r) Q := by
  unfold run
  rw [wp_ret]
  exact H.trans fupd_intro

end

/-! ## The states between the phases -/

/-- What the waits on the semaphores from `lo` to `hi` need, and what they leave. -/
def needs (c : Dev nD) (lo hi : ℕ) : sProp 𝕄 := bigSep (Finset.Ico lo hi) (waitNeed c)
def dones (lo hi : ℕ) : sProp 𝕄 := bigSep (Finset.Ico lo hi) (waitDone P c)
/-- The reduce sends, and the gather sends of half `h`, are out. -/
def sentRs (c : Dev nD) : sProp 𝕄 := bigSep (Finset.Ico 0 30) fun i => cred (tallyAt (dcell c (2 + i)) () N)
def sentAg (c : Dev nD) (h : ℕ) : sProp 𝕄 := bigSep (Finset.Ico 0 15) fun j => cred (tallyAt (dcell c (62 + (15 * h + j))) () N)

theorem waits_start (a lo hi : ℕ) : iprop(owesEx c a ∗ needs c lo hi) ⊢ WaitS P c a lo hi lo := by
  unfold WaitS needs
  rw [none_left]
  iintro ⟨H1, H2⟩
  isplitl [H1]; · iexact H1
  isplitl [H2]; · iexact H2
  iempintro

theorem waits_end (a lo hi : ℕ) : WaitS P c a lo hi hi ⊢ iprop(owesEx c a ∗ dones P c lo hi) := by
  unfold WaitS dones
  rw [none_left]
  iintro ⟨H1, -, H2⟩
  isplitl [H1] <;> iassumption

theorem rs_out : iprop(RsS P c 30 ∗ needs c 32 47) ⊢ iprop(WaitS P c 45 32 47 32 ∗ sentRs c) := by
  refine .trans ?_ (show iprop((owesEx c 45 ∗ needs c 32 47) ∗ sentRs c) ⊢ iprop(WaitS P c 45 32 47 32 ∗ sentRs c) from ?_)
  · unfold RsS sentRs
    iintro ⟨⟨H1, -, H2⟩, H3⟩
    isplitr [H2]
    · isplitl [H1] <;> iassumption
    · iexact H2
  · iintro ⟨H1, H2⟩
    isplitl [H1]
    · iapply (waits_start P c 45 32 47); iexact H1
    · iexact H2

/-- The gather sends of half `h` are out, and the waits on the semaphores from `lo` to `hi` come next. -/
theorem ag_out (h lo hi : ℕ) : iprop(AgS P c h 15 ∗ needs c lo hi) ⊢ iprop(WaitS P c (45 + 15 * h + 15) lo hi lo ∗ sentAg c h ∗ aPts (rest 15) c c.val h (gathC P)) := by
  refine .trans ?_ (show iprop((owesEx c (45 + 15 * h + 15) ∗ needs c lo hi) ∗ sentAg c h ∗ aPts (rest 15) c c.val h (gathC P)) ⊢ iprop(WaitS P c (45 + 15 * h + 15) lo hi lo ∗ sentAg c h ∗ aPts (rest 15) c c.val h (gathC P)) from ?_)
  · unfold AgS sentAg
    iintro ⟨⟨H1, -, H4, H2⟩, H3⟩
    isplitl [H1 H3]
    · isplitl [H1] <;> iassumption
    · isplitl [H2] <;> iassumption
  · iintro ⟨H1, H2⟩
    isplitl [H1]
    · iapply (waits_start P c (45 + 15 * h + 15) lo hi); iexact H1
    · iexact H2

/-- One half of the receive buffer is complete. -/
theorem rs_in (a : ℕ) {h : ℕ} (hh : h < 2) :
    iprop(WaitS P c a (32 + 15 * h) (32 + 15 * h + 15) (32 + 15 * h + 15) ∗ rPts c c.val h (recvC P c))
      ⊢ iprop(rAll c h (recvC P c) ∗ owesEx c a ∗ posd c (32 + 15 * h) (32 + 15 * h + 15)) := by
  iintro ⟨H1, H2⟩
  ihave H := (waits_end P c a (32 + 15 * h) (32 + 15 * h + 15)) $$ H1
  unfold dones
  icases H with ⟨H1, H3⟩
  ihave H := (received P c hh) $$ [H3 H2]
  · isplitl [H3] <;> iassumption
  icases H with ⟨H2, H3⟩
  isplitl [H2]; · iexact H2
  isplitl [H1] <;> iassumption

/-- One half of the gather buffer is complete. -/
theorem ag_in (a : ℕ) {h : ℕ} (hh : h < 2) :
    iprop(WaitS P c a (92 + 15 * h) (92 + 15 * h + 15) (92 + 15 * h + 15) ∗ aPts (rest 15) c c.val h (gathC P))
      ⊢ iprop(agHalf P c h ∗ owesEx c a ∗ posd c (92 + 15 * h) (92 + 15 * h + 15)) := by
  iintro ⟨H1, H2⟩
  ihave H := (waits_end P c a (92 + 15 * h) (92 + 15 * h + 15)) $$ H1
  unfold dones
  icases H with ⟨H1, H3⟩
  ihave H := (gathered P c hh) $$ [H3 H2]
  · isplitl [H3] <;> iassumption
  icases H with ⟨H2, H3⟩
  isplitl [H2]; · iexact H2
  isplitl [H1] <;> iassumption

/-- The gather of half `h` can start. -/
theorem ag_start (h : ℕ) : iprop(aPts fullShare c c.val h (gathC P) ∗ owesEx c (45 + 15 * h) ∗ bigSep (Finset.Ico 0 15) (agNeed c h)) ⊢ AgS P c h 0 := by
  unfold AgS
  rw [none_left]
  iintro ⟨H1, H2, H3⟩
  isplitl [H2]; · iexact H2
  isplitl [H3]; · iexact H3
  isplitl [H1]; · iexact H1
  iempintro

/-- What the copy of half `h` of the output needs beside that half: its token and the place it goes to. -/
theorem copy_args (h : ℕ) : iprop(vPts c h (outC P c) ∗ dutyTok ER (dcell c h) 0 0 ∗ ∃ f, oPts c h f)
    ⊢ (iprop(dutyTok ER (dcell c h) 0 0 ∗ vPts c h (outC P c) ∗ ∃ f, oPts c h f) : sProp 𝕄) := by
  iintro ⟨H1, H2, H3⟩
  isplitl [H2]; · iexact H2
  isplitl [H1] <;> iassumption

/-- What the waits for the two copies and for the reduce sends need. -/
theorem last_start : iprop((cred (tallyAt (dcell c 1) () (amt 1)) ∗ owesEx c 75 ∗ cred (tallyAt (dcell c 0) () (amt 0)) ∗ atPos ER (dcell c 0) 0 ∅ 0 ∗ atPos ER (dcell c 1) 0 ∅ 0)
      ∗ needs c 2 32) ⊢ WaitS P c 75 0 32 0 := by
  refine .trans ?_ (waits_start P c 75 0 32)
  unfold needs waitNeed
  rw [peel (a := 0) (b := 32) (by decide), peel (a := 0 + 1) (b := 32) (by decide)]
  iintro ⟨⟨H1, H2, H3, H4, H5⟩, H6⟩
  isplitl [H2]; · iexact H2
  isplitl [H3 H4]
  · isplitl [H3] <;> iassumption
  isplitl [H1 H5]
  · isplitl [H1] <;> iassumption
  · iexact H6

theorem next_waits (a lo hi lo' hi' : ℕ) : iprop(WaitS P c a lo hi hi ∗ needs c lo' hi') ⊢ iprop(WaitS P c a lo' hi' lo' ∗ dones P c lo hi) := by
  iintro ⟨H1, H2⟩
  ihave H := (waits_end P c a lo hi) $$ H1
  icases H with ⟨H1, H3⟩
  isplitr [H3]
  · iapply (waits_start P c a lo' hi')
    isplitl [H1] <;> iassumption
  · iexact H3

/-! ## The loads and stores of the reduction and of the output -/

section

variable {P} {K} {c}

/-- A load of one slot's half of the receive buffer. -/
theorem slab_step {s h : ℕ} (hs : s < 16) (hh : h < 2) {off : Fin 3 → ℕ} (ho : off = ![s, 0, 512 * h])
    {inb : ∀ a : Fin 3, off a + S1x16x512.size a ≤ S16x16x1024.size a} {hl : rM.view.LoadsAt (Rect.unit (s := S16x16x1024) off S1x16x512.size inb)}
    {α : Type} {kont : Vec F S1x16x512 .bf16 → Prog (TpuEff nD τ sig (Elt F) Λ₀ .tc) α} {Q : α → sProp 𝕄} {R : sProp 𝕄}
    (H : ∀ x, k0_pay17 x = term P c ⟨h, hh⟩ ⟨s, hs⟩ → iprop(recs P K ∗ rAll c h (recvC P c) ∗ R) ⊢ run c (kont x) Q) :
    iprop(recs P K ∗ rAll c h (recvC P c) ∗ R) ⊢ run c (.op (.load rM (Rect.unit (s := S16x16x1024) off S1x16x512.size inb) hl) kont) Q :=
  load_step (m := rM) (r := Rect.unit (s := S16x16x1024) off S1x16x512.size inb) (D := slots h)
    (by rw [show (rM.access (Rect.unit (s := S16x16x1024) off S1x16x512.size inb)).set = _ from View.set_slice_whole _ _, rect_slot ho]; exact slot_sub s h)
    (H _ (slab_read P c hs hh ho inb))

/-- A load of one half of the gather buffer, complete. -/
theorem gath_load {h : ℕ} {off : Fin 2 → ℕ} (ho : off = ![0, 512 * h])
    {inb : ∀ a : Fin 2, off a + S256x512.size a ≤ S256x1024.size a} {hl : aM.view.LoadsAt (Rect.unit (s := S256x1024) off S256x512.size inb)}
    {α : Type} {kont : Vec F S256x512 .bf16 → Prog (TpuEff nD τ sig (Elt F) Λ₀ .tc) α} {Q : α → sProp 𝕄} {R : sProp 𝕄}
    (H : iprop(recs P K ∗ agHalf P c h ∗ R) ⊢ run c (kont ((aM.access (Rect.unit (s := S256x1024) off S256x512.size inb)).read (Elt F) (gathC P))) Q) :
    iprop(recs P K ∗ agHalf P c h ∗ R) ⊢ run c (.op (.load aM (Rect.unit (s := S256x1024) off S256x512.size inb) hl) kont) Q := by
  unfold agHalf at H ⊢
  unfold aAll at H ⊢
  exact first (load_step (m := aM) (r := Rect.unit (s := S256x1024) off S256x512.size inb) (D := cols h)
    (by rw [show (aM.access (Rect.unit (s := S256x1024) off S256x512.size inb)).set = _ from View.set_slice_whole _ _, rect_cols ho])
    (joined H))

/-- The device's own half slab of the gather buffer is stored. -/
theorem slab_store {h : ℕ} (hh : h < 2) {off : Fin 2 → ℕ} (ho : off = ![16 * c.val, 512 * h])
    {inb : ∀ a : Fin 2, off a + S16x512.size a ≤ S256x1024.size a} {hl : aM.view.LoadsAt (Rect.unit (s := S256x1024) off S16x512.size inb)}
    {w : Vec F S16x512 .bf16} (hw : w = shapeCast S16x512 (truncf .bf16 (red P c ⟨h, hh⟩) bitsLt_bf16_f32) shapeCasts_S16x512_S16x512)
    {hx : (aM.access (Rect.unit (s := S256x1024) off S16x512.size inb)).Stores Finset.univ}
    {hm : (Finset.univ : Finset S16x512.Idx) = Finset.univ ∨ ∀ a, (Rect.unit (s := S256x1024) off S16x512.size inb).stride a = 1}
    {α : Type} {kont : PUnit → Prog (TpuEff nD τ sig (Elt F) Λ₀ .tc) α} {Q : α → sProp 𝕄} {R : sProp 𝕄}
    (H : iprop(recs P K ∗ aPts fullShare c c.val h (gathC P) ∗ R) ⊢ run c (kont ⟨⟩) Q) :
    iprop(recs P K ∗ (∃ f, aPts fullShare c c.val h f) ∗ R)
      ⊢ run c (.op (.load aM (Rect.unit (s := S256x1024) off S16x512.size inb) hl)
          fun _ => .op (.store aM (Rect.unit (s := S256x1024) off S16x512.size inb) w Finset.univ hx hm) kont) Q := by
  subst hw
  have hD : (aM.access (Rect.unit (s := S256x1024) off S16x512.size inb)).set ⊆ blk c.val h := by
    rw [show (aM.access (Rect.unit (s := S256x1024) off S16x512.size inb)).set = _ from View.set_slice_whole _ _, rect_blk ho]
  unfold aPts at H ⊢
  iintro ⟨#HR, ⟨%f, Hf⟩, HS⟩
  iapply (load_step (P := P) (K := K) (m := aM) (r := Rect.unit (s := S256x1024) off S16x512.size inb) (D := blk c.val h) (f := f) (q := fullShare) (R := R) hD
    (store_step (P := P) (K := K) (m := aM) (r := Rect.unit (s := S256x1024) off S16x512.size inb) (D := blk c.val h) (f := f) (R := R) hD
      (by rw [pointsTo_congr (own_slab P c hh ho inb f)]; exact H)))
  isplitr; · iexact HR
  isplitl [Hf] <;> iassumption

/-- One half of the output is put together: the gathered rows, and the device's own rows as they were before they were narrowed. -/
theorem out_store {h : ℕ} (hh : h < 2) {offa : Fin 2 → ℕ} {offv offr : Fin 3 → ℕ} (ha : offa = ![0, 512 * h])
    (hv : offv = ![0, 0, 512 * h]) (hr : offr = ![0, 16 * c.val, 512 * h])
    {inba : ∀ a : Fin 2, offa a + S256x512.size a ≤ S256x1024.size a} {inbv : ∀ a : Fin 3, offv a + S1x256x512.size a ≤ S1x256x1024.size a}
    {inbr : ∀ a : Fin 3, offr a + S1x16x512.size a ≤ S1x256x1024.size a}
    {w : Vec F S1x256x512 .f32} (hw : w = k0_pay54 ((aM.access (Rect.unit (s := S256x1024) offa S256x512.size inba)).read (Elt F) (gathC P)))
    {hlv : vM.view.LoadsAt (Rect.unit (s := S1x256x1024) offv S1x256x512.size inbv)} {hlr : vM.view.LoadsAt (Rect.unit (s := S1x256x1024) offr S1x16x512.size inbr)}
    {hxv : (vM.access (Rect.unit (s := S1x256x1024) offv S1x256x512.size inbv)).Stores Finset.univ}
    {hxr : (vM.access (Rect.unit (s := S1x256x1024) offr S1x16x512.size inbr)).Stores Finset.univ}
    {hmv : (Finset.univ : Finset S1x256x512.Idx) = Finset.univ ∨ ∀ a, (Rect.unit (s := S1x256x1024) offv S1x256x512.size inbv).stride a = 1}
    {hmr : (Finset.univ : Finset S1x16x512.Idx) = Finset.univ ∨ ∀ a, (Rect.unit (s := S1x256x1024) offr S1x16x512.size inbr).stride a = 1}
    {α : Type} {kont : PUnit → Prog (TpuEff nD τ sig (Elt F) Λ₀ .tc) α} {Q : α → sProp 𝕄} {R : sProp 𝕄}
    (H : iprop(recs P K ∗ vPts c h (outC P c) ∗ R) ⊢ run c (kont ⟨⟩) Q) :
    iprop(recs P K ∗ (∃ f, vPts c h f) ∗ R)
      ⊢ run c (.op (.load vM (Rect.unit (s := S1x256x1024) offv S1x256x512.size inbv) hlv)
          fun _ => .op (.store vM (Rect.unit (s := S1x256x1024) offv S1x256x512.size inbv) w Finset.univ hxv hmv)
          fun _ => .op (.load vM (Rect.unit (s := S1x256x1024) offr S1x16x512.size inbr) hlr)
          fun _ => .op (.store vM (Rect.unit (s := S1x256x1024) offr S1x16x512.size inbr) (k0_pay53 (red P c ⟨h, hh⟩)) Finset.univ hxr hmr) kont) Q := by
  subst hw
  have hDv : (vM.access (Rect.unit (s := S1x256x1024) offv S1x256x512.size inbv)).set ⊆ half h := by
    rw [show (vM.access (Rect.unit (s := S1x256x1024) offv S1x256x512.size inbv)).set = _ from View.set_slice_whole _ _, rect_half hv]
  have hDr : (vM.access (Rect.unit (s := S1x256x1024) offr S1x16x512.size inbr)).set ⊆ half h := by
    rw [show (vM.access (Rect.unit (s := S1x256x1024) offr S1x16x512.size inbr)).set = _ from View.set_slice_whole _ _]
    exact fun i hi => mem_half.mpr ((rect_rows hr inbr i).mp hi).2
  unfold vPts at H ⊢
  iintro ⟨#HR, ⟨%f, Hf⟩, HS⟩
  iapply (load_step (P := P) (K := K) (m := vM) (r := Rect.unit (s := S1x256x1024) offv S1x256x512.size inbv) (D := half h) (f := f) (q := fullShare) (R := R) hDv
    (store_step (P := P) (K := K) (m := vM) (r := Rect.unit (s := S1x256x1024) offv S1x256x512.size inbv) (D := half h) (f := f) (R := R) hDv
      (load_step (P := P) (K := K) (m := vM) (r := Rect.unit (s := S1x256x1024) offr S1x16x512.size inbr) (D := half h) (q := fullShare) (R := R) hDr
        (store_step (P := P) (K := K) (m := vM) (r := Rect.unit (s := S1x256x1024) offr S1x16x512.size inbr) (D := half h) (R := R) hDr
          (by rw [pointsTo_congr (out_half P c hh ha hv hr inba inbv inbr f)]; exact H)))))
  isplitr; · iexact HR
  isplitl [Hf] <;> iassumption

end

end

end Cert.Attn

end
-- ==== Proof.PartsA.lean ====
/-
The parts of the body that only signal or only send rows to be reduced.
-/
module

public import proofs.«01_k».proof.Proof.Walk

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (P : Dev nD → Vec F S256x1024 .bf16) (K : Dev nD × Fin 123 → ℕ) (c : Dev nD)

/-- The first signals; the device learns its number. -/
theorem part1 : Takes P K c (SigS c 0) (onBufs (k0_part1 (F := F)) )
    (fun r => ∃ a b e, r = ⟨c, a, SemArray.scalar (sig.barrier 0 rfl), b, e⟩) (SigS c 4) := by
  intro Q R H
  simp only [onBufs, k0_part1_eq_skeleton, k0_part1_skel, semSignalWord, semWaitWord, Prog.lift, Prog.bind_op, Prog.bind_ret, Prog.pure_eq_ret, wp_deviceId]
  refine sig_step P K c 0 (k0_dev1_eq c) (H := ?_)
  refine sig_step P K c 1 (k0_dev2_eq c) (H := ?_)
  refine sig_step P K c 2 (k0_dev3_eq c) (H := ?_)
  refine sig_step P K c 3 (k0_dev4_eq c) (H := ?_)
  exact returned (H _ ⟨_, _, _, rfl⟩)

/-- Signals 4 to 8. -/
theorem part2 (v2 v25 c16_i32_22 : BitVec 32) : Takes P K c (SigS c 4) (onBufs (k0_part2 (F := F)) c v2 (SemArray.scalar (sig.barrier 0 rfl)) v25 c16_i32_22)
    (fun _ => True) (SigS c 9) := by
  intro Q R H
  simp only [onBufs, k0_part2_eq_skeleton, k0_part2_skel, semSignalWord, semWaitWord, Prog.lift, Prog.bind_op, Prog.bind_ret, Prog.pure_eq_ret]
  refine sig_step P K c 4 (k0_dev5_eq c) (H := ?_)
  refine sig_step P K c 5 (k0_dev6_eq c) (H := ?_)
  refine sig_step P K c 6 (k0_dev7_eq c) (H := ?_)
  refine sig_step P K c 7 (k0_dev8_eq c) (H := ?_)
  refine sig_step P K c 8 (k0_dev9_eq c) (H := ?_)
  exact returned (H _ trivial)

/-- Signals 9 to 13. -/
theorem part3 (v2 v50 c16_i32_47 : BitVec 32) : Takes P K c (SigS c 9) (onBufs (k0_part3 (F := F)) c v2 (SemArray.scalar (sig.barrier 0 rfl)) v50 c16_i32_47)
    (fun _ => True) (SigS c 14) := by
  intro Q R H
  simp only [onBufs, k0_part3_eq_skeleton, k0_part3_skel, semSignalWord, semWaitWord, Prog.lift, Prog.bind_op, Prog.bind_ret, Prog.pure_eq_ret]
  refine sig_step P K c 9 (k0_dev10_eq c) (H := ?_)
  refine sig_step P K c 10 (k0_dev11_eq c) (H := ?_)
  refine sig_step P K c 11 (k0_dev12_eq c) (H := ?_)
  refine sig_step P K c 12 (k0_dev13_eq c) (H := ?_)
  refine sig_step P K c 13 (k0_dev14_eq c) (H := ?_)
  exact returned (H _ trivial)

/-- Reduce sends 0 to 1. -/
theorem part9 (v2 : BitVec 32) : Takes P K c (RsS P c 0) (onBufs (k0_part9 (F := F)) c v2)
    (fun _ => True) (RsS P c 2) := by
  intro Q R H
  simp only [onBufs, k0_part9_eq_skeleton, k0_part9_skel, semSignalWord, semWaitWord, Prog.lift, Prog.bind_op, Prog.bind_ret, Prog.pure_eq_ret]
  refine rs_step P K c 0 0 (k0_dev16_eq c) (k0_off4_eq c 0) (k0_off3_eq c) (H := ?_)
  refine rs_step P K c 0 1 (k0_dev17_eq c) (k0_off4_eq c 1) (k0_off3_eq c) (H := ?_)
  exact returned (H _ trivial)

/-- Reduce sends 2 to 4. -/
theorem part10 (v2 : BitVec 32) : Takes P K c (RsS P c 2) (onBufs (k0_part10 (F := F)) c v2)
    (fun _ => True) (RsS P c 5) := by
  intro Q R H
  simp only [onBufs, k0_part10_eq_skeleton, k0_part10_skel, semSignalWord, semWaitWord, Prog.lift, Prog.bind_op, Prog.bind_ret, Prog.pure_eq_ret]
  refine rs_step P K c 0 2 (k0_dev18_eq c) (k0_off4_eq c 2) (k0_off3_eq c) (H := ?_)
  refine rs_step P K c 0 3 (k0_dev19_eq c) (k0_off4_eq c 3) (k0_off3_eq c) (H := ?_)
  refine rs_step P K c 0 4 (k0_dev20_eq c) (k0_off4_eq c 4) (k0_off3_eq c) (H := ?_)
  exact returned (H _ trivial)

/-- Reduce sends 5 to 6. -/
theorem part11 (v2 c1_i32_209 : BitVec 32) : Takes P K c (RsS P c 5) (onBufs (k0_part11 (F := F)) c v2 c1_i32_209)
    (fun _ => True) (RsS P c 7) := by
  intro Q R H
  simp only [onBufs, k0_part11_eq_skeleton, k0_part11_skel, semSignalWord, semWaitWord, Prog.lift, Prog.bind_op, Prog.bind_ret, Prog.pure_eq_ret]
  refine rs_step P K c 0 5 (k0_dev21_eq c) (k0_off4_eq c 5) (k0_off3_eq c) (H := ?_)
  refine rs_step P K c 0 6 (k0_dev22_eq c) (k0_off4_eq c 6) (k0_off3_eq c) (H := ?_)
  exact returned (H _ trivial)

/-- Reduce sends 7 to 8. -/
theorem part12 (v2 v374 c16_i32_238 : BitVec 32) : Takes P K c (RsS P c 7) (onBufs (k0_part12 (F := F)) c v2 v374 c16_i32_238)
    (fun _ => True) (RsS P c 9) := by
  intro Q R H
  simp only [onBufs, k0_part12_eq_skeleton, k0_part12_skel, semSignalWord, semWaitWord, Prog.lift, Prog.bind_op, Prog.bind_ret, Prog.pure_eq_ret]
  refine rs_step P K c 0 7 (k0_dev23_eq c) (k0_off4_eq c 7) (k0_off3_eq c) (H := ?_)
  refine rs_step P K c 0 8 (k0_dev24_eq c) (k0_off4_eq c 8) (k0_off3_eq c) (H := ?_)
  exact returned (H _ trivial)

/-- Reduce sends 9 to 10. -/
theorem part13 (v2 v400 c1_i32_269 : BitVec 32) : Takes P K c (RsS P c 9) (onBufs (k0_part13 (F := F)) c v2 v400 c1_i32_269)
    (fun _ => True) (RsS P c 11) := by
  intro Q R H
  simp only [onBufs, k0_part13_eq_skeleton, k0_part13_skel, semSignalWord, semWaitWord, Prog.lift, Prog.bind_op, Prog.bind_ret, Prog.pure_eq_ret]
  refine rs_step P K c 0 9 (k0_dev25_eq c) (k0_off4_eq c 9) (k0_off3_eq c) (H := ?_)
  refine rs_step P K c 0 10 (k0_dev26_eq c) (k0_off4_eq c 10) (k0_off3_eq c) (H := ?_)
  exact returned (H _ trivial)

/-- Reduce sends 11 to 12. -/
theorem part14 (v2 : BitVec 32) : Takes P K c (RsS P c 11) (onBufs (k0_part14 (F := F)) c v2)
    (fun _ => True) (RsS P c 13) := by
  intro Q R H
  simp only [onBufs, k0_part14_eq_skeleton, k0_part14_skel, semSignalWord, semWaitWord, Prog.lift, Prog.bind_op, Prog.bind_ret, Prog.pure_eq_ret]
  refine rs_step P K c 0 11 (k0_dev27_eq c) (k0_off4_eq c 11) (k0_off3_eq c) (H := ?_)
  refine rs_step P K c 0 12 (k0_dev28_eq c) (k0_off4_eq c 12) (k0_off3_eq c) (H := ?_)
  exact returned (H _ trivial)

/-- Reduce sends 13 to 15. -/
theorem part15 (v2 : BitVec 32) : Takes P K c (RsS P c 13) (onBufs (k0_part15 (F := F)) c v2)
    (fun _ => True) (RsS P c 16) := by
  intro Q R H
  simp only [onBufs, k0_part15_eq_skeleton, k0_part15_skel, semSignalWord, semWaitWord, Prog.lift, Prog.bind_op, Prog.bind_ret, Prog.pure_eq_ret]
  refine rs_step P K c 0 13 (k0_dev29_eq c) (k0_off4_eq c 13) (k0_off3_eq c) (H := ?_)
  refine rs_step P K c 0 14 (k0_dev30_eq c) (k0_off4_eq c 14) (k0_off3_eq c) (H := ?_)
  refine rs_step P K c 1 0 (k0_dev31_eq c) (k0_off6_eq c 0) (k0_off5_eq c) (H := ?_)
  exact returned (H _ trivial)

/-- Reduce sends 16 to 17. -/
theorem part16 (v2 v490 : BitVec 32) : Takes P K c (RsS P c 16) (onBufs (k0_part16 (F := F)) c v2 v490)
    (fun _ => True) (RsS P c 18) := by
  intro Q R H
  simp only [onBufs, k0_part16_eq_skeleton, k0_part16_skel, semSignalWord, semWaitWord, Prog.lift, Prog.bind_op, Prog.bind_ret, Prog.pure_eq_ret]
  refine rs_step P K c 1 1 (k0_dev32_eq c) (k0_off6_eq c 1) (k0_off5_eq c) (H := ?_)
  refine rs_step P K c 1 2 (k0_dev33_eq c) (k0_off6_eq c 2) (k0_off5_eq c) (H := ?_)
  exact returned (H _ trivial)

/-- Reduce sends 18 to 19. -/
theorem part17 (v2 v517 : BitVec 32) : Takes P K c (RsS P c 18) (onBufs (k0_part17 (F := F)) c v2 v517)
    (fun _ => True) (RsS P c 20) := by
  intro Q R H
  simp only [onBufs, k0_part17_eq_skeleton, k0_part17_skel, semSignalWord, semWaitWord, Prog.lift, Prog.bind_op, Prog.bind_ret, Prog.pure_eq_ret]
  refine rs_step P K c 1 3 (k0_dev34_eq c) (k0_off6_eq c 3) (k0_off5_eq c) (H := ?_)
  refine rs_step P K c 1 4 (k0_dev35_eq c) (k0_off6_eq c 4) (k0_off5_eq c) (H := ?_)
  exact returned (H _ trivial)

/-- Reduce sends 20 to 21. -/
theorem part18 (v2 : BitVec 32) : Takes P K c (RsS P c 20) (onBufs (k0_part18 (F := F)) c v2)
    (fun _ => True) (RsS P c 22) := by
  intro Q R H
  simp only [onBufs, k0_part18_eq_skeleton, k0_part18_skel, semSignalWord, semWaitWord, Prog.lift, Prog.bind_op, Prog.bind_ret, Prog.pure_eq_ret]
  refine rs_step P K c 1 5 (k0_dev36_eq c) (k0_off6_eq c 5) (k0_off5_eq c) (H := ?_)
  refine rs_step P K c 1 6 (k0_dev37_eq c) (k0_off6_eq c 6) (k0_off5_eq c) (H := ?_)
  exact returned (H _ trivial)

/-- Reduce sends 22 to 24. -/
theorem part19 (v2 : BitVec 32) : Takes P K c (RsS P c 22) (onBufs (k0_part19 (F := F)) c v2)
    (fun _ => True) (RsS P c 25) := by
  intro Q R H
  simp only [onBufs, k0_part19_eq_skeleton, k0_part19_skel, semSignalWord, semWaitWord, Prog.lift, Prog.bind_op, Prog.bind_ret, Prog.pure_eq_ret]
  refine rs_step P K c 1 7 (k0_dev38_eq c) (k0_off6_eq c 7) (k0_off5_eq c) (H := ?_)
  refine rs_step P K c 1 8 (k0_dev39_eq c) (k0_off6_eq c 8) (k0_off5_eq c) (H := ?_)
  refine rs_step P K c 1 9 (k0_dev40_eq c) (k0_off6_eq c 9) (k0_off5_eq c) (H := ?_)
  exact returned (H _ trivial)

/-- Reduce sends 25 to 26. -/
theorem part20 (v2 c1_i32_468 : BitVec 32) : Takes P K c (RsS P c 25) (onBufs (k0_part20 (F := F)) c v2 c1_i32_468)
    (fun _ => True) (RsS P c 27) := by
  intro Q R H
  simp only [onBufs, k0_part20_eq_skeleton, k0_part20_skel, semSignalWord, semWaitWord, Prog.lift, Prog.bind_op, Prog.bind_ret, Prog.pure_eq_ret]
  refine rs_step P K c 1 10 (k0_dev41_eq c) (k0_off6_eq c 10) (k0_off5_eq c) (H := ?_)
  refine rs_step P K c 1 11 (k0_dev42_eq c) (k0_off6_eq c 11) (k0_off5_eq c) (H := ?_)
  exact returned (H _ trivial)

/-- Reduce sends 27 to 28. -/
theorem part21 (v2 v634 c16_i32_497 : BitVec 32) : Takes P K c (RsS P c 27) (onBufs (k0_part21 (F := F)) c v2 v634 c16_i32_497)
    (fun _ => True) (RsS P c 29) := by
  intro Q R H
  simp only [onBufs, k0_part21_eq_skeleton, k0_part21_skel, semSignalWord, semWaitWord, Prog.lift, Prog.bind_op, Prog.bind_ret, Prog.pure_eq_ret]
  refine rs_step P K c 1 12 (k0_dev43_eq c) (k0_off6_eq c 12) (k0_off5_eq c) (H := ?_)
  refine rs_step P K c 1 13 (k0_dev44_eq c) (k0_off6_eq c 13) (k0_off5_eq c) (H := ?_)
  exact returned (H _ trivial)

end

end Cert.Attn

end
-- ==== Proof.PartsB.lean ====
/-
The parts of the body that only send gathered rows.
-/
module

public import proofs.«01_k».proof.Proof.Walk

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (P : Dev nD → Vec F S256x1024 .bf16) (K : Dev nD × Fin 123 → ℕ) (c : Dev nD)

/-- Gather sends 1 to 3 of half 0. -/
theorem part29 (v2 v857 : BitVec 32) : Takes P K c (AgS P c 0 1) (onBufs (k0_part29 (F := F)) c v2 v857)
    (fun _ => True) (AgS P c 0 4) := by
  intro Q R H
  simp only [onBufs, k0_part29_eq_skeleton, k0_part29_skel, semSignalWord, semWaitWord, Prog.lift, Prog.bind_op, Prog.bind_ret, Prog.pure_eq_ret]
  refine ag_step P K c 0 1 (k0_dev47_eq c) (k0_off8_eq c) (H := ?_)
  refine ag_step P K c 0 2 (k0_dev48_eq c) (k0_off8_eq c) (H := ?_)
  refine ag_step P K c 0 3 (k0_dev49_eq c) (k0_off8_eq c) (H := ?_)
  exact returned (H _ trivial)

/-- Gather sends 4 to 5 of half 0. -/
theorem part30 (v2 c1_i32_746 : BitVec 32) : Takes P K c (AgS P c 0 4) (onBufs (k0_part30 (F := F)) c v2 c1_i32_746)
    (fun _ => True) (AgS P c 0 6) := by
  intro Q R H
  simp only [onBufs, k0_part30_eq_skeleton, k0_part30_skel, semSignalWord, semWaitWord, Prog.lift, Prog.bind_op, Prog.bind_ret, Prog.pure_eq_ret]
  refine ag_step P K c 0 4 (k0_dev50_eq c) (k0_off8_eq c) (H := ?_)
  refine ag_step P K c 0 5 (k0_dev51_eq c) (k0_off8_eq c) (H := ?_)
  exact returned (H _ trivial)

/-- Gather sends 6 to 8 of half 0. -/
theorem part31 (v2 : BitVec 32) : Takes P K c (AgS P c 0 6) (onBufs (k0_part31 (F := F)) c v2)
    (fun _ => True) (AgS P c 0 9) := by
  intro Q R H
  simp only [onBufs, k0_part31_eq_skeleton, k0_part31_skel, semSignalWord, semWaitWord, Prog.lift, Prog.bind_op, Prog.bind_ret, Prog.pure_eq_ret]
  refine ag_step P K c 0 6 (k0_dev52_eq c) (k0_off8_eq c) (H := ?_)
  refine ag_step P K c 0 7 (k0_dev53_eq c) (k0_off8_eq c) (H := ?_)
  refine ag_step P K c 0 8 (k0_dev54_eq c) (k0_off8_eq c) (H := ?_)
  exact returned (H _ trivial)

/-- Gather sends 9 to 10 of half 0. -/
theorem part32 (v2 v945 : BitVec 32) : Takes P K c (AgS P c 0 9) (onBufs (k0_part32 (F := F)) c v2 v945)
    (fun _ => True) (AgS P c 0 11) := by
  intro Q R H
  simp only [onBufs, k0_part32_eq_skeleton, k0_part32_skel, semSignalWord, semWaitWord, Prog.lift, Prog.bind_op, Prog.bind_ret, Prog.pure_eq_ret]
  refine ag_step P K c 0 9 (k0_dev55_eq c) (k0_off8_eq c) (H := ?_)
  refine ag_step P K c 0 10 (k0_dev56_eq c) (k0_off8_eq c) (H := ?_)
  exact returned (H _ trivial)

/-- Gather sends 11 to 13 of half 0. -/
theorem part33 (v2 : BitVec 32) : Takes P K c (AgS P c 0 11) (onBufs (k0_part33 (F := F)) c v2)
    (fun _ => True) (AgS P c 0 14) := by
  intro Q R H
  simp only [onBufs, k0_part33_eq_skeleton, k0_part33_skel, semSignalWord, semWaitWord, Prog.lift, Prog.bind_op, Prog.bind_ret, Prog.pure_eq_ret]
  refine ag_step P K c 0 11 (k0_dev57_eq c) (k0_off8_eq c) (H := ?_)
  refine ag_step P K c 0 12 (k0_dev58_eq c) (k0_off8_eq c) (H := ?_)
  refine ag_step P K c 0 13 (k0_dev59_eq c) (k0_off8_eq c) (H := ?_)
  exact returned (H _ trivial)

/-- Gather sends 1 to 3 of half 1. -/
theorem part41 (v2 v1196 : BitVec 32) : Takes P K c (AgS P c 1 1) (onBufs (k0_part41 (F := F)) c v2 v1196)
    (fun _ => True) (AgS P c 1 4) := by
  intro Q R H
  simp only [onBufs, k0_part41_eq_skeleton, k0_part41_skel, semSignalWord, semWaitWord, Prog.lift, Prog.bind_op, Prog.bind_ret, Prog.pure_eq_ret]
  refine ag_step P K c 1 1 (k0_dev62_eq c) (k0_off10_eq c) (H := ?_)
  refine ag_step P K c 1 2 (k0_dev63_eq c) (k0_off10_eq c) (H := ?_)
  refine ag_step P K c 1 3 (k0_dev64_eq c) (k0_off10_eq c) (H := ?_)
  exact returned (H _ trivial)

/-- Gather sends 4 to 5 of half 1. -/
theorem part42 (v2 v1226 c4_i32_1095 : BitVec 32) : Takes P K c (AgS P c 1 4) (onBufs (k0_part42 (F := F)) c v2 v1226 c4_i32_1095)
    (fun _ => True) (AgS P c 1 6) := by
  intro Q R H
  simp only [onBufs, k0_part42_eq_skeleton, k0_part42_skel, semSignalWord, semWaitWord, Prog.lift, Prog.bind_op, Prog.bind_ret, Prog.pure_eq_ret]
  refine ag_step P K c 1 4 (k0_dev65_eq c) (k0_off10_eq c) (H := ?_)
  refine ag_step P K c 1 5 (k0_dev66_eq c) (k0_off10_eq c) (H := ?_)
  exact returned (H _ trivial)

/-- Gather sends 6 to 8 of half 1. -/
theorem part43 (v2 : BitVec 32) : Takes P K c (AgS P c 1 6) (onBufs (k0_part43 (F := F)) c v2)
    (fun _ => True) (AgS P c 1 9) := by
  intro Q R H
  simp only [onBufs, k0_part43_eq_skeleton, k0_part43_skel, semSignalWord, semWaitWord, Prog.lift, Prog.bind_op, Prog.bind_ret, Prog.pure_eq_ret]
  refine ag_step P K c 1 6 (k0_dev67_eq c) (k0_off10_eq c) (H := ?_)
  refine ag_step P K c 1 7 (k0_dev68_eq c) (k0_off10_eq c) (H := ?_)
  refine ag_step P K c 1 8 (k0_dev69_eq c) (k0_off10_eq c) (H := ?_)
  exact returned (H _ trivial)

/-- Gather sends 9 to 10 of half 1. -/
theorem part44 (v2 v1283 : BitVec 32) : Takes P K c (AgS P c 1 9) (onBufs (k0_part44 (F := F)) c v2 v1283)
    (fun _ => True) (AgS P c 1 11) := by
  intro Q R H
  simp only [onBufs, k0_part44_eq_skeleton, k0_part44_skel, semSignalWord, semWaitWord, Prog.lift, Prog.bind_op, Prog.bind_ret, Prog.pure_eq_ret]
  refine ag_step P K c 1 9 (k0_dev70_eq c) (k0_off10_eq c) (H := ?_)
  refine ag_step P K c 1 10 (k0_dev71_eq c) (k0_off10_eq c) (H := ?_)
  exact returned (H _ trivial)

/-- Gather sends 11 to 13 of half 1. -/
theorem part45 (v2 : BitVec 32) : Takes P K c (AgS P c 1 11) (onBufs (k0_part45 (F := F)) c v2)
    (fun _ => True) (AgS P c 1 14) := by
  intro Q R H
  simp only [onBufs, k0_part45_eq_skeleton, k0_part45_skel, semSignalWord, semWaitWord, Prog.lift, Prog.bind_op, Prog.bind_ret, Prog.pure_eq_ret]
  refine ag_step P K c 1 11 (k0_dev72_eq c) (k0_off10_eq c) (H := ?_)
  refine ag_step P K c 1 12 (k0_dev73_eq c) (k0_off10_eq c) (H := ?_)
  refine ag_step P K c 1 13 (k0_dev74_eq c) (k0_off10_eq c) (H := ?_)
  exact returned (H _ trivial)

end

end Cert.Attn

end
-- ==== Proof.PartsC.lean ====
/-
The parts of the body that only wait.
-/
module

public import proofs.«01_k».proof.Proof.Walk

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (P : Dev nD → Vec F S256x1024 .bf16) (K : Dev nD × Fin 123 → ℕ) (c : Dev nD)

/-- The waits on semaphores 34 to 37. -/
theorem part23 (v322 v335 v348 : BitVec 32) : Takes P K c (WaitS P c 45 32 47 34) (onBufs (k0_part23 (F := F)) c v322 v335 v348)
    (fun _ => True) (WaitS P c 45 32 47 38) := by
  intro Q R H
  simp only [onBufs, k0_part23_eq_skeleton, k0_part23_skel, semSignalWord, semWaitWord, Prog.lift, Prog.bind_op, Prog.bind_ret, Prog.pure_eq_ret]
  iterate 4 refine wait_step P K c _ _ _ _ (H := ?_)
  exact returned (H _ trivial)

/-- The waits on semaphores 38 to 40. -/
theorem part24 (v361 v374 v387 v400 : BitVec 32) : Takes P K c (WaitS P c 45 32 47 38) (onBufs (k0_part24 (F := F)) c v361 v374 v387 v400)
    (fun _ => True) (WaitS P c 45 32 47 41) := by
  intro Q R H
  simp only [onBufs, k0_part24_eq_skeleton, k0_part24_skel, semSignalWord, semWaitWord, Prog.lift, Prog.bind_op, Prog.bind_ret, Prog.pure_eq_ret]
  iterate 3 refine wait_step P K c _ _ _ _ (H := ?_)
  exact returned (H _ trivial)

/-- The waits on semaphores 41 to 44. -/
theorem part25 (v413 v426 v439 : BitVec 32) : Takes P K c (WaitS P c 45 32 47 41) (onBufs (k0_part25 (F := F)) c v413 v426 v439)
    (fun _ => True) (WaitS P c 45 32 47 45) := by
  intro Q R H
  simp only [onBufs, k0_part25_eq_skeleton, k0_part25_skel, semSignalWord, semWaitWord, Prog.lift, Prog.bind_op, Prog.bind_ret, Prog.pure_eq_ret]
  iterate 4 refine wait_step P K c _ _ _ _ (H := ?_)
  exact returned (H _ trivial)

/-- The waits on semaphores 49 to 52. -/
theorem part35 (v517 v530 v543 v556 : BitVec 32) : Takes P K c (WaitS P c 60 47 62 49) (onBufs (k0_part35 (F := F)) c v517 v530 v543 v556)
    (fun _ => True) (WaitS P c 60 47 62 53) := by
  intro Q R H
  simp only [onBufs, k0_part35_eq_skeleton, k0_part35_skel, semSignalWord, semWaitWord, Prog.lift, Prog.bind_op, Prog.bind_ret, Prog.pure_eq_ret]
  iterate 4 refine wait_step P K c _ _ _ _ (H := ?_)
  exact returned (H _ trivial)

/-- The waits on semaphores 53 to 55. -/
theorem part36 (v569 v582 v595 v1051 : BitVec 32) : Takes P K c (WaitS P c 60 47 62 53) (onBufs (k0_part36 (F := F)) c v569 v582 v595 v1051)
    (fun _ => True) (WaitS P c 60 47 62 56) := by
  intro Q R H
  simp only [onBufs, k0_part36_eq_skeleton, k0_part36_skel, semSignalWord, semWaitWord, Prog.lift, Prog.bind_op, Prog.bind_ret, Prog.pure_eq_ret]
  iterate 3 refine wait_step P K c _ _ _ _ (H := ?_)
  exact returned (H _ trivial)

/-- The waits on semaphores 56 to 59. -/
theorem part37 (v608 v621 v634 v647 : BitVec 32) : Takes P K c (WaitS P c 60 47 62 56) (onBufs (k0_part37 (F := F)) c v608 v621 v634 v647)
    (fun _ => True) (WaitS P c 60 47 62 60) := by
  intro Q R H
  simp only [onBufs, k0_part37_eq_skeleton, k0_part37_skel, semSignalWord, semWaitWord, Prog.lift, Prog.bind_op, Prog.bind_ret, Prog.pure_eq_ret]
  iterate 4 refine wait_step P K c _ _ _ _ (H := ?_)
  exact returned (H _ trivial)

/-- The waits on semaphores 95 to 98. -/
theorem part47 (v879 v890 v901 v912 c1_i32_1243 : BitVec 32) : Takes P K c (WaitS P c 75 92 107 95) (onBufs (k0_part47 (F := F)) c v879 v890 v901 v912 c1_i32_1243)
    (fun _ => True) (WaitS P c 75 92 107 99) := by
  intro Q R H
  simp only [onBufs, k0_part47_eq_skeleton, k0_part47_skel, semSignalWord, semWaitWord, Prog.lift, Prog.bind_op, Prog.bind_ret, Prog.pure_eq_ret]
  iterate 4 refine wait_step P K c _ _ _ _ (H := ?_)
  exact returned (H _ trivial)

/-- The waits on semaphores 99 to 102. -/
theorem part48 (v923 v934 v945 v956 c1_i32_1275 : BitVec 32) : Takes P K c (WaitS P c 75 92 107 99) (onBufs (k0_part48 (F := F)) c v923 v934 v945 v956 c1_i32_1275)
    (fun _ => True) (WaitS P c 75 92 107 103) := by
  intro Q R H
  simp only [onBufs, k0_part48_eq_skeleton, k0_part48_skel, semSignalWord, semWaitWord, Prog.lift, Prog.bind_op, Prog.bind_ret, Prog.pure_eq_ret]
  iterate 4 refine wait_step P K c _ _ _ _ (H := ?_)
  exact returned (H _ trivial)

/-- The waits on semaphores 109 to 112. -/
theorem part51 (v1206 v1217 v1228 v1239 c1_i32_1369 : BitVec 32) : Takes P K c (WaitS P c 75 107 122 109) (onBufs (k0_part51 (F := F)) c v1206 v1217 v1228 v1239 c1_i32_1369)
    (fun _ => True) (WaitS P c 75 107 122 113) := by
  intro Q R H
  simp only [onBufs, k0_part51_eq_skeleton, k0_part51_skel, semSignalWord, semWaitWord, Prog.lift, Prog.bind_op, Prog.bind_ret, Prog.pure_eq_ret]
  iterate 4 refine wait_step P K c _ _ _ _ (H := ?_)
  exact returned (H _ trivial)

/-- The waits on semaphores 113 to 116. -/
theorem part52 (v1250 v1261 v1272 v1283 c1_i32_1401 : BitVec 32) : Takes P K c (WaitS P c 75 107 122 113) (onBufs (k0_part52 (F := F)) c v1250 v1261 v1272 v1283 c1_i32_1401)
    (fun _ => True) (WaitS P c 75 107 122 117) := by
  intro Q R H
  simp only [onBufs, k0_part52_eq_skeleton, k0_part52_skel, semSignalWord, semWaitWord, Prog.lift, Prog.bind_op, Prog.bind_ret, Prog.pure_eq_ret]
  iterate 4 refine wait_step P K c _ _ _ _ (H := ?_)
  exact returned (H _ trivial)

/-- The waits on semaphores 117 to 120. -/
theorem part53 (v1294 v1305 v1316 v1327 c1_i32_1433 : BitVec 32) : Takes P K c (WaitS P c 75 107 122 117) (onBufs (k0_part53 (F := F)) c v1294 v1305 v1316 v1327 c1_i32_1433)
    (fun _ => True) (WaitS P c 75 107 122 121) := by
  intro Q R H
  simp only [onBufs, k0_part53_eq_skeleton, k0_part53_skel, semSignalWord, semWaitWord, Prog.lift, Prog.bind_op, Prog.bind_ret, Prog.pure_eq_ret]
  iterate 4 refine wait_step P K c _ _ _ _ (H := ?_)
  exact returned (H _ trivial)

/-- The waits on semaphores 1 to 5. -/
theorem part55 : Takes P K c (WaitS P c 75 0 32 1) (onBufs (k0_part55 (F := F)) c)
    (fun _ => True) (WaitS P c 75 0 32 6) := by
  intro Q R H
  simp only [onBufs, k0_part55_eq_skeleton, k0_part55_skel, semSignalWord, semWaitWord, Prog.lift, Prog.bind_op, Prog.bind_ret, Prog.pure_eq_ret]
  iterate 5 refine wait_step P K c _ _ _ _ (H := ?_)
  exact returned (H _ trivial)

/-- The waits on semaphores 6 to 9. -/
theorem part56 : Takes P K c (WaitS P c 75 0 32 6) (onBufs (k0_part56 (F := F)) c)
    (fun _ => True) (WaitS P c 75 0 32 10) := by
  intro Q R H
  simp only [onBufs, k0_part56_eq_skeleton, k0_part56_skel, semSignalWord, semWaitWord, Prog.lift, Prog.bind_op, Prog.bind_ret, Prog.pure_eq_ret]
  iterate 4 refine wait_step P K c _ _ _ _ (H := ?_)
  exact returned (H _ trivial)

/-- The waits on semaphores 10 to 13. -/
theorem part57 : Takes P K c (WaitS P c 75 0 32 10) (onBufs (k0_part57 (F := F)) c)
    (fun _ => True) (WaitS P c 75 0 32 14) := by
  intro Q R H
  simp only [onBufs, k0_part57_eq_skeleton, k0_part57_skel, semSignalWord, semWaitWord, Prog.lift, Prog.bind_op, Prog.bind_ret, Prog.pure_eq_ret]
  iterate 4 refine wait_step P K c _ _ _ _ (H := ?_)
  exact returned (H _ trivial)

/-- The waits on semaphores 14 to 17. -/
theorem part58 : Takes P K c (WaitS P c 75 0 32 14) (onBufs (k0_part58 (F := F)) c)
    (fun _ => True) (WaitS P c 75 0 32 18) := by
  intro Q R H
  simp only [onBufs, k0_part58_eq_skeleton, k0_part58_skel, semSignalWord, semWaitWord, Prog.lift, Prog.bind_op, Prog.bind_ret, Prog.pure_eq_ret]
  iterate 4 refine wait_step P K c _ _ _ _ (H := ?_)
  exact returned (H _ trivial)

/-- The waits on semaphores 18 to 22. -/
theorem part59 : Takes P K c (WaitS P c 75 0 32 18) (onBufs (k0_part59 (F := F)) c)
    (fun _ => True) (WaitS P c 75 0 32 23) := by
  intro Q R H
  simp only [onBufs, k0_part59_eq_skeleton, k0_part59_skel, semSignalWord, semWaitWord, Prog.lift, Prog.bind_op, Prog.bind_ret, Prog.pure_eq_ret]
  iterate 5 refine wait_step P K c _ _ _ _ (H := ?_)
  exact returned (H _ trivial)

/-- The waits on semaphores 23 to 26. -/
theorem part60 : Takes P K c (WaitS P c 75 0 32 23) (onBufs (k0_part60 (F := F)) c)
    (fun _ => True) (WaitS P c 75 0 32 27) := by
  intro Q R H
  simp only [onBufs, k0_part60_eq_skeleton, k0_part60_skel, semSignalWord, semWaitWord, Prog.lift, Prog.bind_op, Prog.bind_ret, Prog.pure_eq_ret]
  iterate 4 refine wait_step P K c _ _ _ _ (H := ?_)
  exact returned (H _ trivial)

/-- The waits on semaphores 27 to 30. -/
theorem part61 : Takes P K c (WaitS P c 75 0 32 27) (onBufs (k0_part61 (F := F)) c)
    (fun _ => True) (WaitS P c 75 0 32 31) := by
  intro Q R H
  simp only [onBufs, k0_part61_eq_skeleton, k0_part61_skel, semSignalWord, semWaitWord, Prog.lift, Prog.bind_op, Prog.bind_ret, Prog.pure_eq_ret]
  iterate 4 refine wait_step P K c _ _ _ _ (H := ?_)
  exact returned (H _ trivial)

/-- The waits on semaphores 66 to 70. -/
theorem part63 : Takes P K c (WaitS P c 75 62 92 66) (onBufs (k0_part63 (F := F)) c)
    (fun _ => True) (WaitS P c 75 62 92 71) := by
  intro Q R H
  simp only [onBufs, k0_part63_eq_skeleton, k0_part63_skel, semSignalWord, semWaitWord, Prog.lift, Prog.bind_op, Prog.bind_ret, Prog.pure_eq_ret]
  iterate 5 refine wait_step P K c _ _ _ _ (H := ?_)
  exact returned (H _ trivial)

/-- The waits on semaphores 71 to 75. -/
theorem part64 : Takes P K c (WaitS P c 75 62 92 71) (onBufs (k0_part64 (F := F)) c)
    (fun _ => True) (WaitS P c 75 62 92 76) := by
  intro Q R H
  simp only [onBufs, k0_part64_eq_skeleton, k0_part64_skel, semSignalWord, semWaitWord, Prog.lift, Prog.bind_op, Prog.bind_ret, Prog.pure_eq_ret]
  iterate 5 refine wait_step P K c _ _ _ _ (H := ?_)
  exact returned (H _ trivial)

/-- The waits on semaphores 76 to 80. -/
theorem part65 : Takes P K c (WaitS P c 75 62 92 76) (onBufs (k0_part65 (F := F)) c)
    (fun _ => True) (WaitS P c 75 62 92 81) := by
  intro Q R H
  simp only [onBufs, k0_part65_eq_skeleton, k0_part65_skel, semSignalWord, semWaitWord, Prog.lift, Prog.bind_op, Prog.bind_ret, Prog.pure_eq_ret]
  iterate 5 refine wait_step P K c _ _ _ _ (H := ?_)
  exact returned (H _ trivial)

/-- The waits on semaphores 81 to 85. -/
theorem part66 : Takes P K c (WaitS P c 75 62 92 81) (onBufs (k0_part66 (F := F)) c)
    (fun _ => True) (WaitS P c 75 62 92 86) := by
  intro Q R H
  simp only [onBufs, k0_part66_eq_skeleton, k0_part66_skel, semSignalWord, semWaitWord, Prog.lift, Prog.bind_op, Prog.bind_ret, Prog.pure_eq_ret]
  iterate 5 refine wait_step P K c _ _ _ _ (H := ?_)
  exact returned (H _ trivial)

/-- The waits on semaphores 86 to 90. -/
theorem part67 : Takes P K c (WaitS P c 75 62 92 86) (onBufs (k0_part67 (F := F)) c)
    (fun _ => True) (WaitS P c 75 62 92 91) := by
  intro Q R H
  simp only [onBufs, k0_part67_eq_skeleton, k0_part67_skel, semSignalWord, semWaitWord, Prog.lift, Prog.bind_op, Prog.bind_ret, Prog.pure_eq_ret]
  iterate 5 refine wait_step P K c _ _ _ _ (H := ?_)
  exact returned (H _ trivial)

end

end Cert.Attn

end
-- ==== Proof.PartsD.lean ====
/-
The parts of the body that compute the partial result.
-/
module

public import proofs.«01_k».proof.Proof.Walk

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (P : Dev nD → Vec F S256x1024 .bf16) (K : Dev nD × Fin 123 → ℕ) (c : Dev nD)

/-- The operands as the device holds them: the activations and the four weight blocks. -/
def ops (c : Dev nD) (x : Vec F S1x256x1024 .f32) (wq wo wk wv : Vec F S1024x1024 .f32) : sProp 𝕄 :=
  iprop(((c : Thread nD τ).loc cc0_stg0_0 ↦{fullShare} x) ∗ ((c : Thread nD τ).loc cc0_stg1_0 ↦{fullShare} wq) ∗ ((c : Thread nD τ).loc cc0_stg2_0 ↦{fullShare} wo)
    ∗ ((c : Thread nD τ).loc cc0_stg3_0 ↦{fullShare} wk) ∗ ((c : Thread nD τ).loc cc0_stg4_0 ↦{fullShare} wv))

theorem zero2 : (![0, 0] : Fin 2 → ℕ) = fun _ => 0 := by funext a; fin_cases a <;> rfl
theorem zero3 : (![0, 0, 0] : Fin 3 → ℕ) = fun _ => 0 := by funext a; fin_cases a <;> rfl

theorem part4 (x : Vec F S1x256x1024 .f32) (wq wo wk wv : Vec F S1024x1024 .f32) (v75 c16_i32_72 : BitVec 32) :
    Takes P K c iprop(SigS c 14 ∗ ops c x wq wo wk wv) (onBufs (k0_part4 (F := F)) c (SemArray.scalar (sig.barrier 0 rfl)) v75 c16_i32_72)
      (fun r => r = ⟨k0_pay2 x wq, k0_pay3 x wk, k0_pay4 x wv, k0_pay5 wo, k0_pay6 (F := F), k0_pay7 x wq wk, k0_pay8 x wq wk⟩)
      iprop(SigS c 15 ∗ ops c x wq wo wk wv) := by
  intro Q R H
  simp only [onBufs, k0_part4_eq_skeleton, k0_part4_skel, semSignalWord, semWaitWord, Prog.lift, Prog.bind_op, Prog.bind_ret, Prog.pure_eq_ret]
  refine first (sig_step P K c 14 (k0_dev15_eq c) (H := ?_))
  have e0 : ((Memref.whole cc0_stg0_0).access (Rect.unit (s := S1x256x1024) ![0, 0, 0] S1x256x1024.size inb_S1x256x1024_S1x256x1024_0_0_0)).read (Elt F) x = x :=
    Memref.readAt_unit_zero (Elt F) cc0_stg0_0 zero3 inb_S1x256x1024_S1x256x1024_0_0_0 x
  have e1 : ((Memref.whole cc0_stg1_0).access (Rect.unit (s := S1024x1024) ![0, 0] S1024x1024.size inb_S1024x1024_S1024x1024_0_0)).read (Elt F) wq = wq :=
    Memref.readAt_unit_zero (Elt F) cc0_stg1_0 zero2 inb_S1024x1024_S1024x1024_0_0 wq
  have e2 : ((Memref.whole cc0_stg2_0).access (Rect.unit (s := S1024x1024) ![0, 0] S1024x1024.size inb_S1024x1024_S1024x1024_0_0)).read (Elt F) wo = wo :=
    Memref.readAt_unit_zero (Elt F) cc0_stg2_0 zero2 inb_S1024x1024_S1024x1024_0_0 wo
  have e3 : ((Memref.whole cc0_stg3_0).access (Rect.unit (s := S1024x1024) ![0, 0] S1024x1024.size inb_S1024x1024_S1024x1024_0_0)).read (Elt F) wk = wk :=
    Memref.readAt_unit_zero (Elt F) cc0_stg3_0 zero2 inb_S1024x1024_S1024x1024_0_0 wk
  have e4 : ((Memref.whole cc0_stg4_0).access (Rect.unit (s := S1024x1024) ![0, 0] S1024x1024.size inb_S1024x1024_S1024x1024_0_0)).read (Elt F) wv = wv :=
    Memref.readAt_unit_zero (Elt F) cc0_stg4_0 zero2 inb_S1024x1024_S1024x1024_0_0 wv
  unfold ops at H ⊢
  iintro ⟨#HR, HS, ⟨H0, H1, H2, H3, H4⟩, HF⟩
  iapply (wp_load_rect 𝒱₀ (c : Thread nD τ) none Set.univ (m := Memref.whole cc0_stg0_0) (r := Rect.unit (s := S1x256x1024) ![0, 0, 0] S1x256x1024.size inb_S1x256x1024_S1x256x1024_0_0_0) (Finset.subset_univ _)) $$ H0; iintro H0
  iapply (wp_load_rect 𝒱₀ (c : Thread nD τ) none Set.univ (m := Memref.whole cc0_stg1_0) (r := Rect.unit (s := S1024x1024) ![0, 0] S1024x1024.size inb_S1024x1024_S1024x1024_0_0) (Finset.subset_univ _)) $$ H1; iintro H1
  iapply (wp_load_rect 𝒱₀ (c : Thread nD τ) none Set.univ (m := Memref.whole cc0_stg3_0) (r := Rect.unit (s := S1024x1024) ![0, 0] S1024x1024.size inb_S1024x1024_S1024x1024_0_0) (Finset.subset_univ _)) $$ H3; iintro H3
  iapply (wp_load_rect 𝒱₀ (c : Thread nD τ) none Set.univ (m := Memref.whole cc0_stg4_0) (r := Rect.unit (s := S1024x1024) ![0, 0] S1024x1024.size inb_S1024x1024_S1024x1024_0_0) (Finset.subset_univ _)) $$ H4; iintro H4
  iapply (wp_load_rect 𝒱₀ (c : Thread nD τ) none Set.univ (m := Memref.whole cc0_stg2_0) (r := Rect.unit (s := S1024x1024) ![0, 0] S1024x1024.size inb_S1024x1024_S1024x1024_0_0) (Finset.subset_univ _)) $$ H2; iintro H2
  iapply (returned (H _ (by rw [e0, e1, e2, e3, e4])))
  isplitr; · iexact HR
  isplitr [HF]
  · isplitl [HS]; · iexact HS
    isplitl [H0]; · iexact H0
    isplitl [H1]; · iexact H1
    isplitl [H2]; · iexact H2
    isplitl [H3] <;> iassumption
  · iexact HF

/-- Part 5 computes only. -/
theorem part5 (S : sProp 𝕄) (v94 v95 v96 : FVec F S256x1024 .bf16) (v99 : FVec F S1024x1024 .bf16) (v100 : FVec F S256x1024 .f32) (v110 : FVec F S256x256 .f32) (v112 : FVec F S256x1 .f32) : Takes P K c S (onBufs (k0_part5 (F := F)) v94 v95 v96 v99 v100 v110 v112)
    (fun r => r = ⟨k0_pay9 v94 v95 v96 v99 v100 v110 v112, k0_pay10 v94 v95 v96⟩) S := by
  intro Q R H
  simp only [onBufs, k0_part5_eq_skeleton, k0_part5_skel, semSignalWord, semWaitWord, Prog.lift, Prog.bind_op, Prog.bind_ret, Prog.pure_eq_ret]
  exact returned (H _ rfl)

/-- Part 6 computes only. -/
theorem part6 (S : sProp 𝕄) (v94 v95 v96 : FVec F S256x1024 .bf16) (v99 : FVec F S1024x1024 .bf16) (v142 : FVec F S256x1024 .f32) (v159 : FVec F S256x128 .f32) : Takes P K c S (onBufs (k0_part6 (F := F)) v94 v95 v96 v99 v142 v159)
    (fun r => r = ⟨k0_pay11 v94 v95 v96 v99 v142 v159, k0_pay12 v94⟩) S := by
  intro Q R H
  simp only [onBufs, k0_part6_eq_skeleton, k0_part6_skel, semSignalWord, semWaitWord, Prog.lift, Prog.bind_op, Prog.bind_ret, Prog.pure_eq_ret]
  exact returned (H _ rfl)

/-- Part 7 computes only. -/
theorem part7 (S : sProp 𝕄) (v94 v95 v96 : FVec F S256x1024 .bf16) (v99 : FVec F S1024x1024 .bf16) (v205 : FVec F S256x1024 .f32) (v206 : FVec F S256x128 .bf16) : Takes P K c S (onBufs (k0_part7 (F := F)) v94 v95 v96 v99 v205 v206)
    (fun r => r = ⟨k0_pay13 v94 v95 v96 v99 v205 v206, k0_pay14 v94 v95⟩) S := by
  intro Q R H
  simp only [onBufs, k0_part7_eq_skeleton, k0_part7_skel, semSignalWord, semWaitWord, Prog.lift, Prog.bind_op, Prog.bind_ret, Prog.pure_eq_ret]
  exact returned (H _ rfl)

/-- The device's own slot, both halves together. -/
theorem own_slots (f : Vec F S16x16x1024 .bf16) :
    iprop(rPts c c.val 0 f ∗ rPts c c.val 1 f) ⊣⊢ ((c : Thread nD τ).loc cc0_scratch2 ↦[slot c.val 0 ∪ slot c.val 1]{fullShare} f : sProp 𝕄) := by
  unfold rPts
  have hd : Disjoint (slot c.val 0) (slot c.val 1) := slot_disjoint (by omega)
  exact ⟨(pointsTo_union hd).2, (pointsTo_union hd).1⟩

theorem own_sub {off : Fin 3 → ℕ} (ho : off = ![c.val, 0, 0]) (inb : ∀ a : Fin 3, off a + S1x16x1024.size a ≤ S16x16x1024.size a) :
    (rM.access (Rect.unit (s := S16x16x1024) off S1x16x1024.size inb)).set ⊆ slot c.val 0 ∪ slot c.val 1 := by
  rw [show (rM.access (Rect.unit (s := S16x16x1024) off S1x16x1024.size inb)).set = _ from View.set_slice_whole _ _, rect_slots ho]

theorem own_stored (f : Vec F S16x16x1024 .bf16) {off1 : Fin 2 → ℕ} {off2 : Fin 3 → ℕ} (h1 : off1 = ![16 * c.val, 0]) (h2 : off2 = ![c.val, 0, 0])
    (inb1 : ∀ a : Fin 2, off1 a + S16x1024.size a ≤ S256x1024.size a) (inb2 : ∀ a : Fin 3, off2 a + S1x16x1024.size a ≤ S16x16x1024.size a) :
    ((c : Thread nD τ).loc cc0_scratch2 ↦[slot c.val 0 ∪ slot c.val 1]{fullShare}
      ((rM.access (Rect.unit (s := S16x16x1024) off2 S1x16x1024.size inb2)).write (Elt F) f
        (k0_pay16 ((pM.access (Rect.unit (s := S256x1024) off1 S16x1024.size inb1)).read (Elt F) (P c))) Finset.univ))
      ⊢ ((c : Thread nD τ).loc cc0_scratch2 ↦[slot c.val 0 ∪ slot c.val 1]{fullShare} recvC P c : sProp 𝕄) := by
  rw [pointsTo_congr (own_slot P c h1 h2 inb1 inb2 f)]

theorem own_whole (f : Vec F S256x1024 .bf16) :
    ((c : Thread nD τ).loc cc0_scratch1 ↦{fullShare}
      ((pM.access (Rect.unit (s := S256x1024) ![0, 0] S256x1024.size inb_S256x1024_S256x1024_0_0)).write (Elt F) f (P c) Finset.univ))
      ⊢ ((c : Thread nD τ).loc cc0_scratch1 ↦{fullShare} P c : sProp 𝕄) :=
  Entails.of_eq (congrArg (fun g => ((c : Thread nD τ).loc cc0_scratch1 ↦{fullShare} g : sProp 𝕄))
    (Memref.write_access_unit_zero_univ (Elt F) cc0_scratch1 zero2 inb_S256x1024_S256x1024_0_0 f (P c)))

/-- The partial result is stored, the device's own rows of it go to their slot, and all other devices have arrived. -/
theorem part8 (v2 : BitVec 32) (v96 : FVec F S256x1024 .bf16) (v99 : FVec F S1024x1024 .bf16) (v247 : FVec F S256x1024 .f32) (v252 : FVec F S256x256 .f32)
    (hP : P c = k0_pay15 v96 v99 v247 v252) :
    Takes P K c iprop((SigS c 15 ∗ cred (tallyAt (barCell c) () 15) ∗ atPos ER (barCell c) 0 ∅ 0)
        ∗ (∃ f, (c : Thread nD τ).loc cc0_scratch1 ↦{fullShare} f) ∗ (∃ f, rPts c c.val 0 f ∗ rPts c c.val 1 f))
      (onBufs (k0_part8 (F := F)) c v2 (SemArray.scalar (sig.barrier 0 rfl)) v96 v99 v247 v252) (fun _ => True)
      iprop((owesEx c 15 ∗ atPos ER (barCell c) 1 ∅ 0 ∗ bigSep (Finset.Ico 0 15) fun j => lend (tgt c j) c)
        ∗ ((c : Thread nD τ).loc cc0_scratch1 ↦{fullShare} P c) ∗ rPts c c.val 0 (recvC P c) ∗ rPts c c.val 1 (recvC P c)) := by
  intro Q R H
  simp only [onBufs, k0_part8_eq_skeleton, k0_part8_skel, semSignalWord, semWaitWord, Prog.lift, Prog.bind_op, Prog.bind_ret, Prog.pure_eq_ret]
  rw [← hP]
  iintro ⟨#HR, ⟨HS, ⟨%f, Hp⟩, ⟨%g, Hr⟩⟩, HF⟩
  iapply (wp_load_rect 𝒱₀ (c : Thread nD τ) none Set.univ (m := pM) (r := Rect.unit (s := S256x1024) ![0, 0] S256x1024.size inb_S256x1024_S256x1024_0_0) (Finset.subset_univ _)) $$ Hp; iintro Hp
  iapply (wp_store 𝒱₀ (c : Thread nD τ) none Set.univ (m := pM) (r := Rect.unit (s := S256x1024) ![0, 0] S256x1024.size inb_S256x1024_S256x1024_0_0) (Finset.subset_univ _)) $$ Hp; iintro Hp
  ihave Hp := (own_whole P c f) $$ Hp
  iapply (wp_load_rect 𝒱₀ (c : Thread nD τ) none Set.univ (m := pM) (r := Rect.unit (s := S256x1024) (k0_off1 c) S16x1024.size (k0_off1_inb c)) (Finset.subset_univ _)) $$ Hp; iintro Hp
  ihave Hr := (own_slots c g).1 $$ Hr
  iapply (wp_load_rect 𝒱₀ (c : Thread nD τ) none Set.univ (m := rM) (r := Rect.unit (s := S16x16x1024) (k0_off2 c) S1x16x1024.size (k0_off2_inb c)) (own_sub c (k0_off2_eq c) _)) $$ Hr; iintro Hr
  iapply (wp_store 𝒱₀ (c : Thread nD τ) none Set.univ (m := rM) (r := Rect.unit (s := S16x16x1024) (k0_off2 c) S1x16x1024.size (k0_off2_inb c)) (own_sub c (k0_off2_eq c) _)) $$ Hr; iintro Hr
  ihave Hr := (own_stored P c g (k0_off1_eq c) (k0_off2_eq c) _ _) $$ Hr
  ihave Hr := (own_slots c (recvC P c)).2 $$ Hr
  iapply (bar_step P K c (R := iprop((((c : Thread nD τ).loc cc0_scratch1 ↦{fullShare} P c) ∗ rPts c c.val 0 (recvC P c) ∗ rPts c c.val 1 (recvC P c)) ∗ R))
    (H := joined (returned (H _ trivial))))
  isplitr; · iexact HR
  isplitl [HS]; · iexact HS
  isplitr [HF]
  · isplitl [Hp] <;> iassumption
  · iexact HF

end

end Cert.Attn

end
-- ==== Proof.PartsE.lean ====
/-
The parts of the body that reduce rows, put the output together, or change from one kind of step to another.
-/
module

public import proofs.«01_k».proof.Proof.Walk

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (P : Dev nD → Vec F S256x1024 .bf16) (K : Dev nD × Fin 123 → ℕ) (c : Dev nD)

/-- The last reduce send, and the first waits for rows of half 0. -/
theorem part22 (v283 v296 v309 v660 c1_i32_528 : BitVec 32) : Takes P K c iprop(RsS P c 29 ∗ needs c 32 47) (onBufs (k0_part22 (F := F)) c v283 v296 v309 v660 c1_i32_528)
    (fun _ => True) iprop(WaitS P c 45 32 47 34 ∗ sentRs c) := by
  intro Q R H
  simp only [onBufs, k0_part22_eq_skeleton, k0_part22_skel, semSignalWord, semWaitWord, Prog.lift, Prog.bind_op, Prog.bind_ret, Prog.pure_eq_ret]
  refine first (rs_step P K c 1 14 (k0_dev45_eq c) (k0_off6_eq c 14) (k0_off5_eq c) (H := joined (turned (rs_out P c) (first ?_))))
  iterate 2 refine wait_step P K c _ _ _ _ (H := ?_)
  exact joined (returned (H _ trivial))

/-- The last waits for rows of half 0, and the first slots read. -/
theorem part26 (v452 v465 c1_i32_654 : BitVec 32) : Takes P K c iprop(WaitS P c 45 32 47 45 ∗ rPts c c.val 0 (recvC P c)) (onBufs (k0_part26 (F := F)) c v452 v465 c1_i32_654)
    (fun r => r = ⟨term P c 0 0, term P c 0 1, term P c 0 2, term P c 0 3, term P c 0 4⟩) iprop(rAll c 0 (recvC P c) ∗ owesEx c 45 ∗ posd c 32 47) := by
  intro Q R H
  simp only [onBufs, k0_part26_eq_skeleton, k0_part26_skel, semSignalWord, semWaitWord, Prog.lift, Prog.bind_op, Prog.bind_ret, Prog.pure_eq_ret]
  refine first ?_
  iterate 2 refine wait_step P K c _ _ _ _ (H := ?_)
  refine joined (turned (rs_in P c 45 (h := 0) (by decide)) (first ?_))
  refine slab_step (s := 0) (h := 0) (by decide) (by decide) rfl (H := fun x0 h0 => ?_)
  refine slab_step (s := 1) (h := 0) (by decide) (by decide) rfl (H := fun x1 h1 => ?_)
  refine slab_step (s := 2) (h := 0) (by decide) (by decide) rfl (H := fun x2 h2 => ?_)
  refine slab_step (s := 3) (h := 0) (by decide) (by decide) rfl (H := fun x3 h3 => ?_)
  refine slab_step (s := 4) (h := 0) (by decide) (by decide) rfl (H := fun x4 h4 => ?_)
  exact joined (returned (H _ (by rw [← show _ = term P c 0 0 from h0, ← show _ = term P c 0 1 from h1, ← show _ = term P c 0 2 from h2, ← show _ = term P c 0 3 from h3, ← show _ = term P c 0 4 from h4]; rfl)))

/-- More slots of half 0 read. -/
theorem part27 : Takes P K c (rAll c 0 (recvC P c)) (onBufs (k0_part27 (F := F)) )
    (fun r => r = ⟨term P c 0 5, term P c 0 6, term P c 0 7, term P c 0 8, term P c 0 9, term P c 0 10, term P c 0 11, term P c 0 12, term P c 0 13, term P c 0 14⟩) (rAll c 0 (recvC P c)) := by
  intro Q R H
  simp only [onBufs, k0_part27_eq_skeleton, k0_part27_skel, semSignalWord, semWaitWord, Prog.lift, Prog.bind_op, Prog.bind_ret, Prog.pure_eq_ret]
  refine slab_step (s := 5) (h := 0) (by decide) (by decide) rfl (H := fun x5 h5 => ?_)
  refine slab_step (s := 6) (h := 0) (by decide) (by decide) rfl (H := fun x6 h6 => ?_)
  refine slab_step (s := 7) (h := 0) (by decide) (by decide) rfl (H := fun x7 h7 => ?_)
  refine slab_step (s := 8) (h := 0) (by decide) (by decide) rfl (H := fun x8 h8 => ?_)
  refine slab_step (s := 9) (h := 0) (by decide) (by decide) rfl (H := fun x9 h9 => ?_)
  refine slab_step (s := 10) (h := 0) (by decide) (by decide) rfl (H := fun x10 h10 => ?_)
  refine slab_step (s := 11) (h := 0) (by decide) (by decide) rfl (H := fun x11 h11 => ?_)
  refine slab_step (s := 12) (h := 0) (by decide) (by decide) rfl (H := fun x12 h12 => ?_)
  refine slab_step (s := 13) (h := 0) (by decide) (by decide) rfl (H := fun x13 h13 => ?_)
  refine slab_step (s := 14) (h := 0) (by decide) (by decide) rfl (H := fun x14 h14 => ?_)
  exact returned (H _ (by rw [← show _ = term P c 0 5 from h5, ← show _ = term P c 0 6 from h6, ← show _ = term P c 0 7 from h7, ← show _ = term P c 0 8 from h8, ← show _ = term P c 0 9 from h9, ← show _ = term P c 0 10 from h10, ← show _ = term P c 0 11 from h11, ← show _ = term P c 0 12 from h12, ← show _ = term P c 0 13 from h13, ← show _ = term P c 0 14 from h14]; rfl))

/-- Half 0 of the device's own rows is summed and stored, and its gather starts. -/
theorem part28 (v2 v280 : BitVec 32) : Takes P K c iprop(rAll c 0 (recvC P c) ∗ (∃ f, aPts fullShare c c.val 0 f) ∗ owesEx c 45 ∗ bigSep (Finset.Ico 0 15) (agNeed c 0)) (onBufs (k0_part28 (F := F)) c v2 v280 (term P c 0 0) (term P c 0 1) (term P c 0 2) (term P c 0 3) (term P c 0 4) (term P c 0 5) (term P c 0 6) (term P c 0 7) (term P c 0 8) (term P c 0 9) (term P c 0 10) (term P c 0 11) (term P c 0 12) (term P c 0 13) (term P c 0 14))
    (fun r => r.1 = red P c 0) iprop(AgS P c 0 1 ∗ rAll c 0 (recvC P c)) := by
  intro Q R H
  simp only [onBufs, k0_part28_eq_skeleton, k0_part28_skel, semSignalWord, semWaitWord, Prog.lift, Prog.bind_op, Prog.bind_ret, Prog.pure_eq_ret]
  refine first (slab_step (s := 15) (h := 0) (by decide) (by decide) rfl (H := fun x hx => joined (second (first ?_))))
  refine slab_store (h := 0) (by decide) (k0_off7_eq c) (by rw [← show _ = red P c ⟨0, _⟩ from red_eq P c 0 x hx]; rfl) (H := ?_)
  refine joined (turned (ag_start P c 0) ?_)
  refine ag_step P K c 0 0 (k0_dev46_eq c) (k0_off8_eq c) (H := joined (returned (H _ ?_)))
  exact red_eq P c 0 x hx

/-- The last waits for rows of half 1, and the first slots read. -/
theorem part38 (v660 v1100 c0_i32_989 : BitVec 32) : Takes P K c iprop(WaitS P c 60 47 62 60 ∗ rPts c c.val 1 (recvC P c)) (onBufs (k0_part38 (F := F)) c v660 v1100 c0_i32_989)
    (fun r => r = ⟨term P c 1 0, term P c 1 1, term P c 1 2, term P c 1 3, term P c 1 4⟩) iprop(rAll c 1 (recvC P c) ∗ owesEx c 60 ∗ posd c 47 62) := by
  intro Q R H
  simp only [onBufs, k0_part38_eq_skeleton, k0_part38_skel, semSignalWord, semWaitWord, Prog.lift, Prog.bind_op, Prog.bind_ret, Prog.pure_eq_ret]
  refine first ?_
  iterate 2 refine wait_step P K c _ _ _ _ (H := ?_)
  refine joined (turned (rs_in P c 60 (h := 1) (by decide)) (first ?_))
  refine slab_step (s := 0) (h := 1) (by decide) (by decide) rfl (H := fun x0 h0 => ?_)
  refine slab_step (s := 1) (h := 1) (by decide) (by decide) rfl (H := fun x1 h1 => ?_)
  refine slab_step (s := 2) (h := 1) (by decide) (by decide) rfl (H := fun x2 h2 => ?_)
  refine slab_step (s := 3) (h := 1) (by decide) (by decide) rfl (H := fun x3 h3 => ?_)
  refine slab_step (s := 4) (h := 1) (by decide) (by decide) rfl (H := fun x4 h4 => ?_)
  exact joined (returned (H _ (by rw [← show _ = term P c 1 0 from h0, ← show _ = term P c 1 1 from h1, ← show _ = term P c 1 2 from h2, ← show _ = term P c 1 3 from h3, ← show _ = term P c 1 4 from h4]; rfl)))

/-- More slots of half 1 read. -/
theorem part39 : Takes P K c (rAll c 1 (recvC P c)) (onBufs (k0_part39 (F := F)) )
    (fun r => r = ⟨term P c 1 5, term P c 1 6, term P c 1 7, term P c 1 8, term P c 1 9, term P c 1 10, term P c 1 11, term P c 1 12, term P c 1 13, term P c 1 14⟩) (rAll c 1 (recvC P c)) := by
  intro Q R H
  simp only [onBufs, k0_part39_eq_skeleton, k0_part39_skel, semSignalWord, semWaitWord, Prog.lift, Prog.bind_op, Prog.bind_ret, Prog.pure_eq_ret]
  refine slab_step (s := 5) (h := 1) (by decide) (by decide) rfl (H := fun x5 h5 => ?_)
  refine slab_step (s := 6) (h := 1) (by decide) (by decide) rfl (H := fun x6 h6 => ?_)
  refine slab_step (s := 7) (h := 1) (by decide) (by decide) rfl (H := fun x7 h7 => ?_)
  refine slab_step (s := 8) (h := 1) (by decide) (by decide) rfl (H := fun x8 h8 => ?_)
  refine slab_step (s := 9) (h := 1) (by decide) (by decide) rfl (H := fun x9 h9 => ?_)
  refine slab_step (s := 10) (h := 1) (by decide) (by decide) rfl (H := fun x10 h10 => ?_)
  refine slab_step (s := 11) (h := 1) (by decide) (by decide) rfl (H := fun x11 h11 => ?_)
  refine slab_step (s := 12) (h := 1) (by decide) (by decide) rfl (H := fun x12 h12 => ?_)
  refine slab_step (s := 13) (h := 1) (by decide) (by decide) rfl (H := fun x13 h13 => ?_)
  refine slab_step (s := 14) (h := 1) (by decide) (by decide) rfl (H := fun x14 h14 => ?_)
  exact returned (H _ (by rw [← show _ = term P c 1 5 from h5, ← show _ = term P c 1 6 from h6, ← show _ = term P c 1 7 from h7, ← show _ = term P c 1 8 from h8, ← show _ = term P c 1 9 from h9, ← show _ = term P c 1 10 from h10, ← show _ = term P c 1 11 from h11, ← show _ = term P c 1 12 from h12, ← show _ = term P c 1 13 from h13, ← show _ = term P c 1 14 from h14]; rfl))

/-- Half 1 of the device's own rows is summed and stored, and its gather starts. -/
theorem part40 (v2 v280 : BitVec 32) : Takes P K c iprop(rAll c 1 (recvC P c) ∗ (∃ f, aPts fullShare c c.val 1 f) ∗ owesEx c 60 ∗ bigSep (Finset.Ico 0 15) (agNeed c 1)) (onBufs (k0_part40 (F := F)) c v2 v280 (term P c 1 0) (term P c 1 1) (term P c 1 2) (term P c 1 3) (term P c 1 4) (term P c 1 5) (term P c 1 6) (term P c 1 7) (term P c 1 8) (term P c 1 9) (term P c 1 10) (term P c 1 11) (term P c 1 12) (term P c 1 13) (term P c 1 14))
    (fun r => r.1 = red P c 1) iprop(AgS P c 1 1 ∗ rAll c 1 (recvC P c)) := by
  intro Q R H
  simp only [onBufs, k0_part40_eq_skeleton, k0_part40_skel, semSignalWord, semWaitWord, Prog.lift, Prog.bind_op, Prog.bind_ret, Prog.pure_eq_ret]
  refine first (slab_step (s := 15) (h := 1) (by decide) (by decide) rfl (H := fun x hx => joined (second (first ?_))))
  refine slab_store (h := 1) (by decide) (k0_off9_eq c) (by rw [← show _ = red P c ⟨1, _⟩ from red_eq P c 1 x hx]; rfl) (H := ?_)
  refine joined (turned (ag_start P c 1) ?_)
  refine ag_step P K c 1 0 (k0_dev61_eq c) (k0_off10_eq c) (H := joined (returned (H _ ?_)))
  exact red_eq P c 1 x hx

/-- The last gather send of half 0, and the first waits after it. -/
theorem part34 (v478 v491 v504 v1000 c1_i32_863 : BitVec 32) : Takes P K c iprop(AgS P c 0 14 ∗ needs c 47 62) (onBufs (k0_part34 (F := F)) c v478 v491 v504 v1000 c1_i32_863)
    (fun _ => True) iprop(WaitS P c 60 47 62 49 ∗ sentAg c 0 ∗ aPts (rest 15) c c.val 0 (gathC P)) := by
  intro Q R H
  simp only [onBufs, k0_part34_eq_skeleton, k0_part34_skel, semSignalWord, semWaitWord, Prog.lift, Prog.bind_op, Prog.bind_ret, Prog.pure_eq_ret]
  refine first (ag_step P K c 0 14 (k0_dev60_eq c) (k0_off8_eq c) (H := joined (turned (ag_out P c 0 47 62) (first ?_))))
  iterate 2 refine wait_step P K c _ _ _ _ (H := ?_)
  exact joined (returned (H _ trivial))

/-- The last gather send of half 1, and the first waits after it. -/
theorem part46 (v846 v857 v868 v1339 c0_i32_1212 : BitVec 32) : Takes P K c iprop(AgS P c 1 14 ∗ needs c 92 107) (onBufs (k0_part46 (F := F)) c v846 v857 v868 v1339 c0_i32_1212)
    (fun _ => True) iprop(WaitS P c 75 92 107 95 ∗ sentAg c 1 ∗ aPts (rest 15) c c.val 1 (gathC P)) := by
  intro Q R H
  simp only [onBufs, k0_part46_eq_skeleton, k0_part46_skel, semSignalWord, semWaitWord, Prog.lift, Prog.bind_op, Prog.bind_ret, Prog.pure_eq_ret]
  refine first (ag_step P K c 1 14 (k0_dev75_eq c) (k0_off10_eq c) (H := joined (turned (ag_out P c 1 92 107) (first ?_))))
  iterate 3 refine wait_step P K c _ _ _ _ (H := ?_)
  exact joined (returned (H _ trivial))

/-- The last waits for gathered rows of half 0, which are read. -/
theorem part49 (v967 v978 v989 v1000 c1_i32_1307 : BitVec 32) : Takes P K c iprop(WaitS P c 75 92 107 103 ∗ aPts (rest 15) c c.val 0 (gathC P)) (onBufs (k0_part49 (F := F)) c v967 v978 v989 v1000 c1_i32_1307)
    (fun r => r = k0_pay51 ((aM.access (Rect.unit (s := S256x1024) ![0, 0] S256x512.size inb_S256x1024_S256x512_0_0)).read (Elt F) (gathC P))) iprop(agHalf P c 0 ∗ owesEx c 75 ∗ posd c 92 107) := by
  intro Q R H
  simp only [onBufs, k0_part49_eq_skeleton, k0_part49_skel, semSignalWord, semWaitWord, Prog.lift, Prog.bind_op, Prog.bind_ret, Prog.pure_eq_ret]
  refine first ?_
  iterate 4 refine wait_step P K c _ _ _ _ (H := ?_)
  refine joined (turned (ag_in P c 75 (h := 0) (by decide)) (first ?_))
  refine gath_load (h := 0) rfl (H := ?_)
  exact joined (returned (H _ rfl))

/-- Half 0 of the output is put together and its copy starts; the first waits for gathered rows of half 1. -/
theorem part50 (v280 v1184 v1195 : BitVec 32) : Takes P K c iprop(((∃ f, vPts c 0 f) ∗ dutyTok ER (dcell c 0) 0 0 ∗ ∃ f, oPts c 0 f) ∗ owesEx c 75 ∗ needs c 107 122) (onBufs (k0_part50 (F := F)) c v280 (red P c 0) v1184 v1195 (k0_pay51 ((aM.access (Rect.unit (s := S256x1024) ![0, 0] S256x512.size inb_S256x1024_S256x512_0_0)).read (Elt F) (gathC P))))
    (fun _ => True) iprop(WaitS P c 75 107 122 109 ∗ cred (tallyAt (dcell c 0) () (amt 0))) := by
  intro Q R H
  simp only [onBufs, k0_part50_eq_skeleton, k0_part50_skel, semSignalWord, semWaitWord, Prog.lift, Prog.bind_op, Prog.bind_ret, Prog.pure_eq_ret]
  refine first (first (out_store (h := 0) (by decide) (offa := ![0, 0]) (inba := inb_S256x1024_S256x512_0_0) rfl rfl (k0_off11_eq c) rfl (H := joined (turned (copy_args P c 0) (copy_step P K c 0 rfl (H := ?_))))))
  refine joined (second (turned (waits_start P c 75 107 122) ?_))
  iterate 2 refine wait_step P K c _ _ _ _ (H := ?_)
  exact joined (returned (H _ trivial))

/-- The last wait for gathered rows of half 1; that half of the output is put together and its copy starts; the copy of half 0 is done. -/
theorem part54 (v280 v1338 c1_i32_1465 : BitVec 32) : Takes P K c iprop((WaitS P c 75 107 122 121 ∗ aPts (rest 15) c c.val 1 (gathC P)) ∗ ((∃ f, vPts c 1 f) ∗ dutyTok ER (dcell c 1) 0 0 ∗ ∃ f, oPts c 1 f)
      ∗ cred (tallyAt (dcell c 0) () (amt 0)) ∗ atPos ER (dcell c 0) 0 ∅ 0 ∗ atPos ER (dcell c 1) 0 ∅ 0 ∗ needs c 2 32) (onBufs (k0_part54 (F := F)) c v280 (red P c 1) v1338 c1_i32_1465)
    (fun _ => True) iprop(WaitS P c 75 0 32 1 ∗ agHalf P c 1 ∗ posd c 107 122) := by
  intro Q R H
  simp only [onBufs, k0_part54_eq_skeleton, k0_part54_skel, semSignalWord, semWaitWord, Prog.lift, Prog.bind_op, Prog.bind_ret, Prog.pure_eq_ret]
  refine first (first (wait_step P K c _ _ _ _ (H := ?_)))
  refine joined (turned (ag_in P c 75 (h := 1) (by decide)) (first (gath_load (h := 1) rfl (H := ?_))))
  refine regrouped (S' := iprop((∃ f, vPts c 1 f) ∗ dutyTok ER (dcell c 1) 0 0 ∗ ∃ f, oPts c 1 f))
    (R' := iprop((owesEx c 75 ∗ cred (tallyAt (dcell c 0) () (amt 0)) ∗ atPos ER (dcell c 0) 0 ∅ 0 ∗ atPos ER (dcell c 1) 0 ∅ 0) ∗ needs c 2 32 ∗ (agHalf P c 1 ∗ posd c 107 122) ∗ R)) ?_ ?_
  · iintro ⟨H1, ⟨H2, H3⟩, ⟨H4, H5, H6, H7, H8⟩, H9⟩
    isplitl [H4]; · iexact H4
    isplitl [H2 H5 H6 H7]
    · isplitl [H2]; · iexact H2
      isplitl [H5]; · iexact H5
      isplitl [H6] <;> iassumption
    isplitl [H8]; · iexact H8
    isplitl [H1 H3]
    · isplitl [H1] <;> iassumption
    · iexact H9
  refine first (out_store (h := 1) (by decide) (offa := ![0, 512]) (inba := inb_S256x1024_S256x512_0_512) rfl rfl (k0_off12_eq c) rfl (H := joined (turned (copy_args P c 1) (copy_step P K c 1 rfl (H := ?_)))))
  refine joined (joined (turned (last_start P c) ?_))
  refine wait_step P K c _ _ _ _ (H := ?_)
  exact joined (returned (H _ trivial))

/-- The last wait for a reduce send, and the first waits for the gather sends. -/
theorem part62 : Takes P K c iprop(WaitS P c 75 0 32 31 ∗ needs c 62 92) (onBufs (k0_part62 (F := F)) c)
    (fun _ => True) iprop(WaitS P c 75 62 92 66 ∗ dones P c 0 32) := by
  intro Q R H
  simp only [onBufs, k0_part62_eq_skeleton, k0_part62_skel, semSignalWord, semWaitWord, Prog.lift, Prog.bind_op, Prog.bind_ret, Prog.pure_eq_ret]
  refine first (wait_step P K c _ _ _ _ (H := ?_))
  refine joined (turned (next_waits P c 75 0 32 62 92) (first ?_))
  iterate 4 refine wait_step P K c _ _ _ _ (H := ?_)
  exact joined (returned (H _ trivial))

end

end Cert.Attn

end
-- ==== Proof.Body.lean ====
/-
The body of the kernel on one device, from what it is given to what it leaves.
-/
module

public import proofs.«01_k».proof.Proof.PartsA
public import proofs.«01_k».proof.Proof.PartsB
public import proofs.«01_k».proof.Proof.PartsC
public import proofs.«01_k».proof.Proof.PartsD
public import proofs.«01_k».proof.Proof.PartsE

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (P : Dev nD → Vec F S256x1024 .bf16) (K : Dev nD × Fin 123 → ℕ) (c : Dev nD)

section

variable {P} {K} {c}

/-- A program made of a first part and what follows it, with everything else kept at hand. -/
theorem walk_ {β α : Type} {p : Prog (TpuEff nD τ sig (Elt F) Λ₀ .tc) β} {k : β → Prog (TpuEff nD τ sig (Elt F) Λ₀ .tc) α} {φ : β → Prop}
    {S S' : sProp 𝕄} {Q : α → sProp 𝕄} (H : Takes P K c S p φ S') :
    iprop(recs P K ∗ S ∗ (∀ r, ⌜φ r⌝ -∗ S' -∗ run c (k r) Q)) ⊢ run c (p >>= k) Q :=
  then_ H fun r hr => by
    iintro ⟨#HR, HS, H⟩
    iapply H $$ %r %hr HS

end

/-- The partial result of a device from its operands. -/
def partVal (x : Vec F S1x256x1024 .f32) (wq wo wk wv : Vec F S1024x1024 .f32) : Vec F S256x1024 .bf16 :=
  let q := k0_pay2 x wq
  let k := k0_pay3 x wk
  let v := k0_pay4 x wv
  let w := k0_pay5 wo
  k0_pay15 v w (k0_pay13 q k v w (k0_pay11 q k v w (k0_pay9 q k v w (k0_pay6 (F := F)) (k0_pay7 x wq wk) (k0_pay8 x wq wk)) (k0_pay10 q k v)) (k0_pay12 q)) (k0_pay14 q k)

/-- The device's own slot, its halves with contents of their own. -/
theorem own_join : iprop((∃ f, rPts c c.val 0 f) ∗ (∃ f, rPts c c.val 1 f)) ⊢ (iprop(∃ f, rPts c c.val 0 f ∗ rPts c c.val 1 f) : sProp 𝕄) := by
  iintro ⟨⟨%f, H0⟩, ⟨%g, H1⟩⟩
  have hd : Disjoint (slot c.val 0) (slot c.val 1) := slot_disjoint (by omega)
  iexists ((slot c.val 1).piecewise g f)
  iapply (own_slots c ((slot c.val 1).piecewise g f)).2
  unfold rPts
  iapply (pointsTo_join hd)
  isplitl [H0] <;> iassumption

/-- The device's place at each of the semaphores from `lo` to `hi`, before its wait. -/
def posn (c : Dev nD) (lo hi : ℕ) : sProp 𝕄 := bigSep (Finset.Ico lo hi) fun i => atPos ER (dcell c i) 0 ∅ 0

theorem needs_rs : iprop(sentRs c ∗ posn c 2 32) ⊢ (needs c 2 32 : sProp 𝕄) := by
  unfold sentRs posn needs
  rw [show (32 : ℕ) = 2 + 30 from rfl, shift, shift, ← bigSep_sep']
  refine Entails.of_eq (bigSep_congr fun i hi => ?_)
  have hi : i < 30 := (Finset.mem_Ico.mp hi).2
  unfold waitNeed
  rw [show amt (2 + i) = N from if_neg (by omega)]

theorem needs_ag : iprop((sentAg c 0 ∗ sentAg c 1) ∗ posn c 62 92) ⊢ (needs c 62 92 : sProp 𝕄) := by
  unfold sentAg posn needs
  have e : (iprop((bigSep (Finset.Ico 0 15) fun j => cred (tallyAt (dcell c (62 + (15 * 0 + j))) () N)) ∗ bigSep (Finset.Ico 0 15) fun j => cred (tallyAt (dcell c (62 + (15 * 1 + j))) () N)) : sProp 𝕄)
      = bigSep (Finset.Ico 0 30) fun j => cred (tallyAt (dcell c (62 + j)) () N) := by
    rw [cut (a := 0) (b := 15) (c := 30) (by decide) (by decide), show (30 : ℕ) = 15 + 15 from rfl, shift 15 15]
    simp only [Nat.mul_zero, Nat.zero_add, Nat.mul_one]
  rw [e, show (92 : ℕ) = 62 + 30 from rfl, shift, shift, ← bigSep_sep']
  refine Entails.of_eq (bigSep_congr fun i hi => ?_)
  have hi : i < 30 := (Finset.mem_Ico.mp hi).2
  unfold waitNeed
  rw [show amt (62 + i) = N from if_neg (by omega)]

theorem lend_eq : (lend c c : sProp 𝕄) = iprop(((∃ f, rPts c c.val 0 f) ∗ (∃ f, rPts c c.val 1 f)) ∗ (∃ f, aPts fullShare c c.val 0 f) ∗ (∃ f, aPts fullShare c c.val 1 f)) := rfl

/-- What the body starts from, beside the operands: what its signals need, the barrier's credit and the place at it, the partial
    result's buffer, the places that are its own, the tokens of its sends, what its waits for rows need, what the output's two copies
    need, and its places at the semaphores of the copies and the sends. -/
def start (c : Dev nD) : sProp 𝕄 :=
  iprop(SigS c 0 ∗ (cred (tallyAt (barCell c) () 15) ∗ atPos ER (barCell c) 0 ∅ 0) ∗ (∃ f, (c : Thread nD τ).loc cc0_scratch1 ↦{fullShare} f) ∗ lend c c
    ∗ (rsTok c 0 ∗ rsTok c 1 ∗ agTok c 0 ∗ agTok c 1)
    ∗ (needs c 32 47 ∗ needs c 47 62 ∗ needs c 92 107 ∗ needs c 107 122)
    ∗ (((∃ f, vPts c 0 f) ∗ dutyTok ER (dcell c 0) 0 0 ∗ ∃ f, oPts c 0 f) ∗ ((∃ f, vPts c 1 f) ∗ dutyTok ER (dcell c 1) 0 0 ∗ ∃ f, oPts c 1 f))
    ∗ (atPos ER (dcell c 0) 0 ∅ 0 ∗ atPos ER (dcell c 1) 0 ∅ 0 ∗ posn c 2 32 ∗ posn c 62 92))

/-- What the body holds when only the gather sends are left to wait for. -/
def almost (c : Dev nD) : sProp 𝕄 :=
  iprop(atPos ER (barCell c) 1 ∅ 0 ∗ (pPts c c.val 0 (P c) ∗ pPts c c.val 1 (P c)) ∗ (rAll c 0 (recvC P c) ∗ rAll c 1 (recvC P c))
    ∗ (agHalf P c 0 ∗ agHalf P c 1) ∗ (posd c 32 47 ∗ posd c 47 62 ∗ posd c 92 107 ∗ posd c 107 122))

/-- The body up to the waits for its own sends. -/
theorem part68 (x : Vec F S1x256x1024 .f32) (wq wo wk wv : Vec F S1024x1024 .f32) (hP : P c = partVal x wq wo wk wv) :
    Takes P K c iprop(ops c x wq wo wk wv ∗ start c) (onBufs (k0_part68 (F := F))) (fun r => r = c)
      iprop(ops c x wq wo wk wv ∗ almost P c ∗ WaitS P c 75 0 32 27 ∗ (sentAg c 0 ∗ sentAg c 1) ∗ posn c 62 92) := by
  intro Q R H
  unfold partVal at hP
  unfold start
  simp only [onBufs, k0_part68_eq_skeleton, k0_part68_skel]
  iintro ⟨#HR, ⟨Hops, HS, ⟨Hbc, Hba⟩, Hp, Hl, ⟨Ht0, Ht1, Ht2, Ht3⟩, ⟨Hn0, Hn1, Hn2, Hn3⟩, ⟨Ho0, Ho1⟩, ⟨Hq1, Hq2, Hq0, Hq3⟩⟩, HF⟩
  iapply (walk_ (part1 P K c))
  isplitr; · iexact HR
  isplitl [HS]
  · iexact HS
  iintro %r %hr HS
  obtain ⟨a, b, e, rfl⟩ := hr
  iapply (walk_ (part2 P K c _ _ _))
  isplitr; · iexact HR
  isplitl [HS]
  · iexact HS
  iintro %r %hr HS
  obtain ⟨_, _⟩ := r
  iapply (walk_ (part3 P K c _ _ _))
  isplitr; · iexact HR
  isplitl [HS]
  · iexact HS
  iintro %r %hr HS
  obtain ⟨_, _⟩ := r
  iapply (walk_ (part4 P K c x wq wo wk wv _ _))
  isplitr; · iexact HR
  isplitl [HS Hops]
  · isplitl [HS]
    · iexact HS
    iexact Hops
  iintro %r %hr ⟨HS, Hops⟩
  subst hr
  iapply (walk_ (part5 P K c (SigS c 15) _ _ _ _ _ _ _))
  isplitr; · iexact HR
  isplitl [HS]
  · iexact HS
  iintro %r %hr HS
  subst hr
  iapply (walk_ (part6 P K c (SigS c 15) _ _ _ _ _ _))
  isplitr; · iexact HR
  isplitl [HS]
  · iexact HS
  iintro %r %hr HS
  subst hr
  iapply (walk_ (part7 P K c (SigS c 15) _ _ _ _ _ _))
  isplitr; · iexact HR
  isplitl [HS]
  · iexact HS
  iintro %r %hr HS
  subst hr
  ihave Hl := (Entails.of_eq (lend_eq c)) $$ Hl
  icases Hl with ⟨⟨Hr0, Hr1⟩, Ha0, Ha1⟩
  ihave Hr := (own_join c) $$ [Hr0 Hr1]
  · isplitl [Hr0] <;> iassumption
  iapply (walk_ (part8 P K c _ _ _ _ _ hP))
  isplitr; · iexact HR
  isplitl [HS Hbc Hba Hp Hr]
  · isplitl [HS Hbc Hba]
    · isplitl [HS]
      · iexact HS
      isplitl [Hbc]
      · iexact Hbc
      iexact Hba
    isplitl [Hp]
    · iexact Hp
    iexact Hr
  iintro %r %hr ⟨⟨HO, Hba, Hl⟩, Hp, Hr0, Hr1⟩
  obtain ⟨_, _⟩ := r
  ihave H := (to_sends P c) $$ [HO Hl Hp Ht0 Ht1 Ht2 Ht3]
  · isplitl [HO]; · iexact HO
    isplitl [Hl]; · iexact Hl
    isplitl [Hp]; · iexact Hp
    isplitl [Ht0]; · iexact Ht0
    isplitl [Ht1]; · iexact Ht1
    isplitl [Ht2] <;> iassumption
  icases H with ⟨HS, ⟨Hg0, Hg1⟩, Hp0, Hp1⟩
  iapply (walk_ (part9 P K c _))
  isplitr; · iexact HR
  isplitl [HS]
  · iexact HS
  iintro %r %hr HS
  obtain ⟨_, _⟩ := r
  iapply (walk_ (part10 P K c _))
  isplitr; · iexact HR
  isplitl [HS]
  · iexact HS
  iintro %r %hr HS
  obtain ⟨_, _, _⟩ := r
  iapply (walk_ (part11 P K c _ _))
  isplitr; · iexact HR
  isplitl [HS]
  · iexact HS
  iintro %r %hr HS
  obtain ⟨_, _, _, _⟩ := r
  iapply (walk_ (part12 P K c _ _ _))
  isplitr; · iexact HR
  isplitl [HS]
  · iexact HS
  iintro %r %hr HS
  obtain ⟨_, _, _⟩ := r
  iapply (walk_ (part13 P K c _ _ _))
  isplitr; · iexact HR
  isplitl [HS]
  · iexact HS
  iintro %r %hr HS
  obtain ⟨_, _⟩ := r
  iapply (walk_ (part14 P K c _))
  isplitr; · iexact HR
  isplitl [HS]
  · iexact HS
  iintro %r %hr HS
  obtain ⟨_, _⟩ := r
  iapply (walk_ (part15 P K c _))
  isplitr; · iexact HR
  isplitl [HS]
  · iexact HS
  iintro %r %hr HS
  obtain ⟨_, _, _⟩ := r
  iapply (walk_ (part16 P K c _ _))
  isplitr; · iexact HR
  isplitl [HS]
  · iexact HS
  iintro %r %hr HS
  obtain ⟨_, _, _⟩ := r
  iapply (walk_ (part17 P K c _ _))
  isplitr; · iexact HR
  isplitl [HS]
  · iexact HS
  iintro %r %hr HS
  obtain ⟨_, _⟩ := r
  iapply (walk_ (part18 P K c _))
  isplitr; · iexact HR
  isplitl [HS]
  · iexact HS
  iintro %r %hr HS
  obtain ⟨_, _⟩ := r
  iapply (walk_ (part19 P K c _))
  isplitr; · iexact HR
  isplitl [HS]
  · iexact HS
  iintro %r %hr HS
  obtain ⟨_, _, _⟩ := r
  iapply (walk_ (part20 P K c _ _))
  isplitr; · iexact HR
  isplitl [HS]
  · iexact HS
  iintro %r %hr HS
  obtain ⟨_, _, _, _⟩ := r
  iapply (walk_ (part21 P K c _ _ _))
  isplitr; · iexact HR
  isplitl [HS]
  · iexact HS
  iintro %r %hr HS
  obtain ⟨_, _, _⟩ := r
  iapply (walk_ (part22 P K c _ _ _ _ _))
  isplitr; · iexact HR
  isplitl [HS Hn0]
  · isplitl [HS]
    · iexact HS
    iexact Hn0
  iintro %r %hr ⟨HS, Hc0⟩
  iapply (walk_ (part23 P K c _ _ _))
  isplitr; · iexact HR
  isplitl [HS]
  · iexact HS
  iintro %r %hr HS
  iapply (walk_ (part24 P K c _ _ _ _))
  isplitr; · iexact HR
  isplitl [HS]
  · iexact HS
  iintro %r %hr HS
  iapply (walk_ (part25 P K c _ _ _))
  isplitr; · iexact HR
  isplitl [HS]
  · iexact HS
  iintro %r %hr HS
  iapply (walk_ (part26 P K c _ _ _))
  isplitr; · iexact HR
  isplitl [HS Hr0]
  · isplitl [HS]
    · iexact HS
    iexact Hr0
  iintro %r %hr ⟨Hr0, HO, Hd0⟩
  subst hr
  iapply (walk_ (part27 P K c))
  isplitr; · iexact HR
  isplitl [Hr0]
  · iexact Hr0
  iintro %r %hr Hr0
  subst hr
  iapply (walk_ (part28 P K c _ _))
  isplitr; · iexact HR
  isplitl [Hr0 Ha0 HO Hg0]
  · isplitl [Hr0]
    · iexact Hr0
    isplitl [Ha0]
    · iexact Ha0
    isplitl [HO]
    · iexact HO
    iexact Hg0
  iintro %r %hr ⟨HS, Hr0⟩
  obtain ⟨r0, _, _⟩ := r
  obtain rfl : r0 = red P c 0 := hr
  iapply (walk_ (part29 P K c _ _))
  isplitr; · iexact HR
  isplitl [HS]
  · iexact HS
  iintro %r %hr HS
  obtain ⟨_, _, _⟩ := r
  iapply (walk_ (part30 P K c _ _))
  isplitr; · iexact HR
  isplitl [HS]
  · iexact HS
  iintro %r %hr HS
  obtain ⟨_, _, _⟩ := r
  iapply (walk_ (part31 P K c _))
  isplitr; · iexact HR
  isplitl [HS]
  · iexact HS
  iintro %r %hr HS
  obtain ⟨_, _, _⟩ := r
  iapply (walk_ (part32 P K c _ _))
  isplitr; · iexact HR
  isplitl [HS]
  · iexact HS
  iintro %r %hr HS
  obtain ⟨_, _⟩ := r
  iapply (walk_ (part33 P K c _))
  isplitr; · iexact HR
  isplitl [HS]
  · iexact HS
  iintro %r %hr HS
  obtain ⟨_, _, _, _⟩ := r
  iapply (walk_ (part34 P K c _ _ _ _ _))
  isplitr; · iexact HR
  isplitl [HS Hn1]
  · isplitl [HS]
    · iexact HS
    iexact Hn1
  iintro %r %hr ⟨HS, Hs0, Ha0⟩
  iapply (walk_ (part35 P K c _ _ _ _))
  isplitr; · iexact HR
  isplitl [HS]
  · iexact HS
  iintro %r %hr HS
  iapply (walk_ (part36 P K c _ _ _ _))
  isplitr; · iexact HR
  isplitl [HS]
  · iexact HS
  iintro %r %hr HS
  iapply (walk_ (part37 P K c _ _ _ _))
  isplitr; · iexact HR
  isplitl [HS]
  · iexact HS
  iintro %r %hr HS
  obtain ⟨_, _⟩ := r
  iapply (walk_ (part38 P K c _ _ _))
  isplitr; · iexact HR
  isplitl [HS Hr1]
  · isplitl [HS]
    · iexact HS
    iexact Hr1
  iintro %r %hr ⟨Hr1, HO, Hd1⟩
  subst hr
  iapply (walk_ (part39 P K c))
  isplitr; · iexact HR
  isplitl [Hr1]
  · iexact Hr1
  iintro %r %hr Hr1
  subst hr
  iapply (walk_ (part40 P K c _ _))
  isplitr; · iexact HR
  isplitl [Hr1 Ha1 HO Hg1]
  · isplitl [Hr1]
    · iexact Hr1
    isplitl [Ha1]
    · iexact Ha1
    isplitl [HO]
    · iexact HO
    iexact Hg1
  iintro %r %hr ⟨HS, Hr1⟩
  obtain ⟨r1, _, _, _⟩ := r
  obtain rfl : r1 = red P c 1 := hr
  iapply (walk_ (part41 P K c _ _))
  isplitr; · iexact HR
  isplitl [HS]
  · iexact HS
  iintro %r %hr HS
  obtain ⟨_, _, _, _⟩ := r
  iapply (walk_ (part42 P K c _ _ _))
  isplitr; · iexact HR
  isplitl [HS]
  · iexact HS
  iintro %r %hr HS
  obtain ⟨_, _, _⟩ := r
  iapply (walk_ (part43 P K c _))
  isplitr; · iexact HR
  isplitl [HS]
  · iexact HS
  iintro %r %hr HS
  obtain ⟨_, _, _⟩ := r
  iapply (walk_ (part44 P K c _ _))
  isplitr; · iexact HR
  isplitl [HS]
  · iexact HS
  iintro %r %hr HS
  obtain ⟨_, _⟩ := r
  iapply (walk_ (part45 P K c _))
  isplitr; · iexact HR
  isplitl [HS]
  · iexact HS
  iintro %r %hr HS
  obtain ⟨_, _, _, _, _⟩ := r
  iapply (walk_ (part46 P K c _ _ _ _ _))
  isplitr; · iexact HR
  isplitl [HS Hn2]
  · isplitl [HS]
    · iexact HS
    iexact Hn2
  iintro %r %hr ⟨HS, Hs1, Ha1⟩
  iapply (walk_ (part47 P K c _ _ _ _ _))
  isplitr; · iexact HR
  isplitl [HS]
  · iexact HS
  iintro %r %hr HS
  iapply (walk_ (part48 P K c _ _ _ _ _))
  isplitr; · iexact HR
  isplitl [HS]
  · iexact HS
  iintro %r %hr HS
  iapply (walk_ (part49 P K c _ _ _ _ _))
  isplitr; · iexact HR
  isplitl [HS Ha0]
  · isplitl [HS]
    · iexact HS
    iexact Ha0
  iintro %r %hr ⟨Ha0, HO, Hd2⟩
  subst hr
  iapply (walk_ (part50 P K c _ _ _))
  isplitr; · iexact HR
  isplitl [Ho0 HO Hn3]
  · isplitl [Ho0]
    · iexact Ho0
    isplitl [HO]
    · iexact HO
    iexact Hn3
  iintro %r %hr ⟨HS, Hk0⟩
  iapply (walk_ (part51 P K c _ _ _ _ _))
  isplitr; · iexact HR
  isplitl [HS]
  · iexact HS
  iintro %r %hr HS
  iapply (walk_ (part52 P K c _ _ _ _ _))
  isplitr; · iexact HR
  isplitl [HS]
  · iexact HS
  iintro %r %hr HS
  iapply (walk_ (part53 P K c _ _ _ _ _))
  isplitr; · iexact HR
  isplitl [HS]
  · iexact HS
  iintro %r %hr HS
  ihave Hn := (needs_rs c) $$ [Hc0 Hq0]
  · isplitl [Hc0] <;> iassumption
  iapply (walk_ (part54 P K c _ _ _))
  isplitr; · iexact HR
  isplitl [HS Ha1 Ho1 Hk0 Hq1 Hq2 Hn]
  · isplitl [HS Ha1]
    · isplitl [HS]
      · iexact HS
      iexact Ha1
    isplitl [Ho1]
    · iexact Ho1
    isplitl [Hk0]
    · iexact Hk0
    isplitl [Hq1]
    · iexact Hq1
    isplitl [Hq2]
    · iexact Hq2
    iexact Hn
  iintro %r %hr ⟨HS, Ha1, Hd3⟩
  iapply (walk_ (part55 P K c))
  isplitr; · iexact HR
  isplitl [HS]
  · iexact HS
  iintro %r %hr HS
  iapply (walk_ (part56 P K c))
  isplitr; · iexact HR
  isplitl [HS]
  · iexact HS
  iintro %r %hr HS
  iapply (walk_ (part57 P K c))
  isplitr; · iexact HR
  isplitl [HS]
  · iexact HS
  iintro %r %hr HS
  iapply (walk_ (part58 P K c))
  isplitr; · iexact HR
  isplitl [HS]
  · iexact HS
  iintro %r %hr HS
  iapply (walk_ (part59 P K c))
  isplitr; · iexact HR
  isplitl [HS]
  · iexact HS
  iintro %r %hr HS
  iapply (walk_ (part60 P K c))
  isplitr; · iexact HR
  isplitl [HS]
  · iexact HS
  iintro %r %hr HS
  rw [Prog.pure_eq_ret]
  iapply (returned (H _ rfl))
  isplitr; · iexact HR
  isplitr [HF]
  · unfold almost
    isplitl [Hops]
    · iexact Hops
    isplitl [Hba Hp0 Hp1 Hr0 Hr1 Ha0 Ha1 Hd0 Hd1 Hd2 Hd3]
    · isplitl [Hba]
      · iexact Hba
      isplitl [Hp0 Hp1]
      · isplitl [Hp0]
        · iexact Hp0
        iexact Hp1
      isplitl [Hr0 Hr1]
      · isplitl [Hr0]
        · iexact Hr0
        iexact Hr1
      isplitl [Ha0 Ha1]
      · isplitl [Ha0]
        · iexact Ha0
        iexact Ha1
      isplitl [Hd0]
      · iexact Hd0
      isplitl [Hd1]
      · iexact Hd1
      isplitl [Hd2]
      · iexact Hd2
      iexact Hd3
    isplitl [HS]
    · iexact HS
    isplitl [Hs0 Hs1]
    · isplitl [Hs0]
      · iexact Hs0
      iexact Hs1
    iexact Hq3
  · iexact HF

/-- The whole body: from what it starts from, with the partial result that its operands give. -/
theorem body (x : Vec F S1x256x1024 .f32) (wq wo wk wv : Vec F S1024x1024 .f32) (hP : P c = partVal x wq wo wk wv) :
    Takes P K c iprop(ops c x wq wo wk wv ∗ start c) (onBufs (cc0_body (F := F))) (fun _ => True)
      iprop(ops c x wq wo wk wv ∗ almost P c ∗ owesEx c 75 ∗ dones P c 0 32 ∗ dones P c 62 92) := by
  intro Q R H
  simp only [onBufs, cc0_body_eq_skeleton, cc0_body_skel]
  iintro ⟨#HR, HS, HF⟩
  iapply (walk_ (part68 P K c x wq wo wk wv hP))
  isplitr; · iexact HR
  isplitl [HS]; · iexact HS
  iintro %r %hr ⟨Hops, Hal, HS, ⟨Hs0, Hs1⟩, Hq3⟩
  rw [show r = c from hr]
  iapply (walk_ (part61 P K c))
  isplitr; · iexact HR
  isplitl [HS]
  · iexact HS
  iintro %r %hr HS
  ihave Hn := (needs_ag c) $$ [Hs0 Hs1 Hq3]
  · isplitl [Hs0 Hs1]
    · isplitl [Hs0] <;> iassumption
    · iexact Hq3
  iapply (walk_ (part62 P K c))
  isplitr; · iexact HR
  isplitl [HS Hn]
  · isplitl [HS]
    · iexact HS
    iexact Hn
  iintro %r %hr ⟨HS, Hd4⟩
  iapply (walk_ (part63 P K c))
  isplitr; · iexact HR
  isplitl [HS]
  · iexact HS
  iintro %r %hr HS
  iapply (walk_ (part64 P K c))
  isplitr; · iexact HR
  isplitl [HS]
  · iexact HS
  iintro %r %hr HS
  iapply (walk_ (part65 P K c))
  isplitr; · iexact HR
  isplitl [HS]
  · iexact HS
  iintro %r %hr HS
  iapply (walk_ (part66 P K c))
  isplitr; · iexact HR
  isplitl [HS]
  · iexact HS
  iintro %r %hr HS
  iapply (walk_ (part67 P K c))
  isplitr; · iexact HR
  isplitl [HS]
  · iexact HS
  iintro %r %hr HS
  simp only [Prog.lift, Prog.bind_op, Prog.bind_ret, Prog.pure_eq_ret]
  iapply (wait_step P K c 75 62 92 91 (R := iprop(ops c x wq wo wk wv ∗ almost P c ∗ dones P c 0 32 ∗ R)) (H := turned (waits_end P c 75 62 92) (returned (.trans ?_ (H ⟨⟩ trivial)))))
  · iintro ⟨#HR, ⟨HO, Hd⟩, Hops, Hal, Hd4, HF⟩
    isplitr; · iexact HR
    isplitr [HF]
    · isplitl [Hops]; · iexact Hops
      isplitl [Hal]; · iexact Hal
      isplitl [HO]; · iexact HO
      isplitl [Hd4] <;> iassumption
    · iexact HF
  isplitr; · iexact HR
  isplitl [HS]; · iexact HS
  isplitl [Hops]; · iexact Hops
  isplitl [Hal]; · iexact Hal
  isplitl [Hd4] <;> iassumption

end

end Cert.Attn

end
-- ==== Proof.Finish.lean ====
/-
The end of a device's body: what its waits have brought back, put together, makes every buffer whole again, and its semaphores
are left at zero.
-/
module

public import proofs.«01_k».proof.Proof.Body

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A device's semaphores one by one -/

/-- Over the first `n` numbers, however they are given. -/
theorem by_number (n : ℕ) (Φ : ℕ → sProp 𝕄) : bigSep Finset.univ (fun k : Fin n => Φ k.val) = bigSep (Finset.Ico 0 n) Φ := by
  have e : (Finset.Ico 0 n) = (Finset.univ : Finset (Fin n)).map Fin.valEmbedding := by
    ext x
    rw [Finset.mem_Ico, Finset.mem_map]
    exact ⟨fun h => ⟨⟨x, h.2⟩, Finset.mem_univ _, rfl⟩, fun ⟨k, _, h⟩ => h ▸ ⟨Nat.zero_le _, k.isLt⟩⟩
  rw [e, bigSep_map]; rfl

/-- A device's semaphores: the barrier's and the transfers'. -/
theorem cells_eq (c : Dev nD) (Φ : GSem nD τ sig → sProp 𝕄) :
    bigSep Finset.univ (fun k : Fin 123 => Φ (kcell (c, k))) = iprop(Φ (barCell c) ∗ bigSep (Finset.Ico 0 122) fun i => Φ (dcell c i)) := by
  refine (by_number 123 fun k => Φ ((c : Thread nD τ), if k = 0 then .reg barS else .dma (dsem (k - 1)))).trans ?_
  rw [peel (by decide), shift 1 122]
  congr 1

/-! ## The end of the body -/

/-- All of a device's semaphores past their round. -/
def ended (c : Dev nD) : sProp 𝕄 := bigSep Finset.univ fun k : Fin 123 => atPos ER (kcell (c, k)) 1 ∅ 0

section

variable (P : Dev nD → Vec F S256x1024 .bf16) (K : Dev nD × Fin 123 → ℕ)

/-- The two copies of the output are done: both buffers hold it. -/
theorem stored (c : Dev nD) :
    bigSep (Finset.Ico 0 2) (waitDone P c) ⊢ (iprop(((c : Thread nD τ).loc main_v1 ↦{fullShare} outC P c) ∗ ((c : Thread nD τ).loc cc0_scratch0 ↦{fullShare} outC P c) ∗ posd c 0 2) : sProp 𝕄) := by
  rw [both (o_halves c (outC P c)).1 (o_halves c (outC P c)).2, both (v_halves c (outC P c)).1 (v_halves c (outC P c)).2, done_eq,
    peel (by decide), peel (by decide), none_left, pay_store P c (by decide), pay_store P c (by decide)]
  iintro ⟨⟨⟨Ho0, Hv0⟩, ⟨Ho1, Hv1⟩, -⟩, Ha⟩
  isplitl [Ho0 Ho1]
  · isplitl [Ho0] <;> iassumption
  isplitl [Hv0 Hv1]
  · isplitl [Hv0] <;> iassumption
  iexact Ha

/-- The body's end: every buffer whole again, every semaphore past its round. -/
theorem finish (c : Dev nD) :
    iprop(almost P c ∗ dones P c 0 32 ∗ dones P c 62 92)
      ⊢ (iprop(ended c ∗ ((c : Thread nD τ).loc cc0_scratch0 ↦{fullShare} outC P c) ∗ ((c : Thread nD τ).loc cc0_scratch1 ↦{fullShare} P c)
        ∗ ((c : Thread nD τ).loc cc0_scratch2 ↦{fullShare} recvC P c) ∗ ((c : Thread nD τ).loc cc0_scratch3 ↦{fullShare} gathC P)
        ∗ ((c : Thread nD τ).loc main_v1 ↦{fullShare} outC P c)) : sProp 𝕄) := by
  unfold ended almost dones
  rw [cells_eq c fun g => atPos ER g 1 ∅ 0, cut (a := 0) (b := 2) (c := 122) (by decide) (by decide), cut (a := 2) (b := 17) (c := 122) (by decide) (by decide),
    cut (a := 17) (b := 32) (c := 122) (by decide) (by decide), cut (a := 32) (b := 47) (c := 122) (by decide) (by decide),
    cut (a := 47) (b := 62) (c := 122) (by decide) (by decide), cut (a := 62) (b := 77) (c := 122) (by decide) (by decide),
    cut (a := 77) (b := 92) (c := 122) (by decide) (by decide), cut (a := 92) (b := 107) (c := 122) (by decide) (by decide),
    cut (a := 0) (b := 2) (c := 32) (by decide) (by decide), cut (a := 2) (b := 17) (c := 32) (by decide) (by decide),
    cut (a := 62) (b := 77) (c := 92) (by decide) (by decide),
    both (p_halves c (P c)).1 (p_halves c (P c)).2, both (r_halves c (recvC P c)).1 (r_halves c (recvC P c)).2, both (a_halves c (gathC P)).1 (a_halves c (gathC P)).2]
  iintro ⟨⟨Hb, ⟨Hp0, Hp1⟩, Hr, ⟨Hg0, Hg1⟩, H32, H47, H92, H107⟩, ⟨Hs, Hd2, Hd17⟩, Hd62, Hd77⟩
  ihave Hs := (stored P c) $$ Hs
  icases Hs with ⟨Ho, Hv, H0⟩
  ihave Hp0 := (p_back P c (h := 0) (by decide)) $$ [Hp0 Hd2]
  · isplitl [Hp0] <;> iassumption
  icases Hp0 with ⟨Hp0, H2⟩
  ihave Hp1 := (p_back P c (h := 1) (by decide)) $$ [Hp1 Hd17]
  · isplitl [Hp1] <;> iassumption
  icases Hp1 with ⟨Hp1, H17⟩
  ihave Hg0 := (ag_back P c (h := 0) (by decide)) $$ [Hg0 Hd62]
  · isplitl [Hg0] <;> iassumption
  icases Hg0 with ⟨Hg0, H62⟩
  ihave Hg1 := (ag_back P c (h := 1) (by decide)) $$ [Hg1 Hd77]
  · isplitl [Hg1] <;> iassumption
  icases Hg1 with ⟨Hg1, H77⟩
  unfold posd
  isplitl [Hb H0 H2 H17 H32 H47 H62 H77 H92 H107]
  · isplitl [Hb]; · iexact Hb
    isplitl [H0]; · iexact H0
    isplitl [H2]; · iexact H2
    isplitl [H17]; · iexact H17
    isplitl [H32]; · iexact H32
    isplitl [H47]; · iexact H47
    isplitl [H62]; · iexact H62
    isplitl [H77]; · iexact H77
    isplitl [H92] <;> iassumption
  isplitl [Hv]; · iexact Hv
  isplitl [Hp0 Hp1]
  · isplitl [Hp0] <;> iassumption
  isplitl [Hr]; · iexact Hr
  isplitl [Hg0 Hg1]
  · isplitl [Hg0] <;> iassumption
  iexact Ho

/-- What holds of every part, with a fact that may be used at all times at hand, holds of all of them. -/
theorem for_all {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  (sep_mono_left (bigSep_of_persistent S R)).trans (by rw [← bigSep_sep']; exact bigSep_mono h)

theorem close_one (c : Dev nD) (k : Fin 123) : iprop(recs P K ∗ atPos ER (kcell (c, k)) 1 ∅ 0) ⊢ (|={Set.univ}=> semVal (kcell (c, k)) 0 : sProp 𝕄) := by
  iintro ⟨#HR, Hat⟩
  iapply (Rounds.cell_close ER (sched P) (κ := K (c, k)) (Set.mem_univ _) (fun h => h) (R := 1) (duties_later P _))
  isplitr
  · iapply (recs_inv P K (c, k)); iexact HR
  · iexact Hat

/-- Past its round a semaphore stays at zero. -/
theorem close_all (c : Dev nD) : iprop(recs P K ∗ ended c) ⊢ (|={Set.univ}=> bigSep Finset.univ fun k : Fin 123 => semVal (kcell (c, k)) 0 : sProp 𝕄) :=
  (for_all fun k _ => close_one P K c k).trans (bigSep_fupd _ _)

end

end Cert.Attn

end
-- ==== Proof.Deal.lean ====
/-
What the launch deals out: the semaphores, the tokens of the payments, dealt to the devices that pay, and the credits of what is
waited for.
-/
module

public import proofs.«01_k».proof.Proof.Finish

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Semaphores -/

/-- The kernel's own semaphores. -/
def osem (i : Fin 122) : SemLoc sig := .dma (dsem i.val)

theorem ownSemFacts : Pipeline.OwnSemFacts cfg0.spec osem where
  isScoped := by decide
  inj i j h := Fin.ext (dsem_inj i.isLt j.isLt (SemLoc.dma.inj h))
  disj i w s h := by
    have h5 : (dsem i.val).val = ((cfg0.spec w).sem s).val := congrArg Fin.val (SemLoc.dma.inj h)
    rw [dsem_val i.isLt] at h5
    have hs : ∀ (w : Fin 5) (s : Fin (spec0 w).nbuf), ((spec0 w).sem s).val < 5 := by decide
    have := hs w s
    rw [← h5] at this
    omega

theorem kcell_injective : Function.Injective (kcell : Dev nD × Fin 123 → GSem nD τ sig) := by
  rintro ⟨c, k⟩ ⟨c', k'⟩ h
  obtain rfl : c = c' := congrArg (fun g : GSem nD τ sig => g.1.1) h
  have h2 : csem k = csem k' := congrArg Prod.snd h
  refine Prod.ext rfl (Fin.ext ?_)
  have hk := k.isLt
  have hk' := k'.isLt
  unfold csem at h2
  show k.val = k'.val
  split at h2 <;> split at h2
  · omega
  · cases h2
  · cases h2
  · have := dsem_inj (by omega) (by omega) (SemLoc.dma.inj h2)
    omega

theorem ownSems0_eq (c : Dev nD) :
    (Pipeline.ownSems0 (Ix := Unit) (Name := ℕ) (U := UU) (Lvl := ℕ) (Val := Elt F) (τ := τ) osem c : sProp 𝕄) = bigSep (Finset.Ico 0 122) fun i => semVal (dcell c i) 0 :=
  by_number 122 fun i => semVal (dcell c i) 0
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The semaphores the launch hands over, and takes back. -/
theorem sems0_eq (c : Dev nD) :
    (bigSep Finset.univ fun k : Fin 123 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq]; exact cells_eq c fun g => semVal g 0

/-! ## Tokens -/

/-- The tokens of device `c`'s semaphores: fifteen of its barrier's, then one of each transfer semaphore's. -/
def tokAt (c : Dev nD) (t : ℕ) : GSem nD τ sig × ℕ × ℕ := if t < 15 then (barCell c, 0, 14 - t) else (dcell c (t - 15), 0, 0)
def tokOf (ct : Dev nD × Fin 137) : GSem nD τ sig × ℕ × ℕ := tokAt ct.1 ct.2.val

theorem tokOf_injective : Function.Injective tokOf := by
  rintro ⟨c, t⟩ ⟨c', t'⟩ h
  have h1 : ∀ d s, (tokOf (d, s)).1.1.1 = d := fun d s => by unfold tokOf tokAt; dsimp only; split <;> rfl
  obtain rfl : c = c' := by rw [← h1 c t, h, h1]
  refine Prod.ext rfl (Fin.ext ?_)
  have ht := t.isLt
  have ht' := t'.isLt
  unfold tokOf tokAt at h
  dsimp only at h
  show t.val = t'.val
  split at h <;> split at h
  · have : 14 - t.val = 14 - t'.val := congrArg (fun x : GSem nD τ sig × ℕ × ℕ => x.2.2) h
    omega
  · cases congrArg (fun x : GSem nD τ sig × ℕ × ℕ => x.1.2) h
  · cases congrArg (fun x : GSem nD τ sig × ℕ × ℕ => x.1.2) h
  · have := dsem_inj (by omega) (by omega) (SemLoc.dma.inj (congrArg (fun x : GSem nD τ sig × ℕ × ℕ => x.1.2) h))
    omega

def allCells : Finset (GSem nD τ sig) := Finset.univ.map ⟨kcell, kcell_injective⟩
def allToks : Finset (GSem nD τ sig × ℕ × ℕ) := Finset.univ.map ⟨tokOf, tokOf_injective⟩

/-- The tokens of `c`'s own semaphores; -/
def toks (c : Dev nD) : sProp 𝕄 :=
  iprop((bigSep (Finset.Ico 0 15) fun j => dutyTok ER (barCell c) 0 (14 - j)) ∗ bigSep (Finset.Ico 0 122) fun i => dutyTok ER (dcell c i) 0 0)
/-- the tokens of what `c` pays. -/
def payToks (c : Dev nD) : sProp 𝕄 :=
  iprop((bigSep (Finset.Ico 0 15) fun j => dutyTok ER (barCell (tgt c j)) 0 (14 - j)) ∗ (rsTok c 0 ∗ rsTok c 1 ∗ agTok c 0 ∗ agTok c 1)
    ∗ dutyTok ER (dcell c 0) 0 0 ∗ dutyTok ER (dcell c 1) 0 0)

theorem toks_eq (c : Dev nD) : bigSep Finset.univ (fun t : Fin 137 => (dutyTok ER (tokOf (c, t)).1 (tokOf (c, t)).2.1 (tokOf (c, t)).2.2 : sProp 𝕄)) = toks c := by
  refine (by_number 137 fun t => (dutyTok ER (tokAt c t).1 (tokAt c t).2.1 (tokAt c t).2.2 : sProp 𝕄)).trans ?_
  unfold toks
  rw [cut (a := 0) (b := 15) (c := 137) (by decide) (by decide), shift 15 122]
  exact congrArg₂ _ (bigSep_congr fun j hj => by unfold tokAt; rw [if_pos (Finset.mem_Ico.mp hj).2])
    (bigSep_congr fun j hj => by unfold tokAt; rw [if_neg (by omega), Nat.add_sub_cancel_left])

/-- Of fifteen things on every device, thing `j` dealt to the device whose message `j` goes there. -/
theorem dealt (n : ℕ) (Φ : Dev nD → ℕ → sProp 𝕄) :
    (bigSep Finset.univ fun c : Dev nD => bigSep (Finset.Ico 0 n) fun j => Φ c j) = bigSep Finset.univ fun c : Dev nD => bigSep (Finset.Ico 0 n) fun j => Φ (tgt c j) j := by
  induction n with
  | zero => simp only [none_left]
  | succ n ih =>
    simp only [grow (Nat.zero_le n), bigSep_sep']
    rw [ih, bigSep_univ_equiv (turn n) fun c => Φ c n]; rfl

/-- Fifteen of a device's transfer semaphores' tokens. -/
theorem toks_cut (c : Dev nD) : (toks c : sProp 𝕄) = iprop((bigSep (Finset.Ico 0 15) fun j => dutyTok ER (barCell c) 0 (14 - j))
    ∗ (dutyTok ER (dcell c 0) 0 0 ∗ dutyTok ER (dcell c 1) 0 0)
    ∗ ((bigSep (Finset.Ico 0 15) fun j => dutyTok ER (dcell c (2 + (15 * 0 + j))) 0 0) ∗ (bigSep (Finset.Ico 0 15) fun j => dutyTok ER (dcell c (2 + (15 * 1 + j))) 0 0))
    ∗ ((bigSep (Finset.Ico 0 15) fun j => dutyTok ER (dcell c (32 + (15 * 0 + j))) 0 0) ∗ (bigSep (Finset.Ico 0 15) fun j => dutyTok ER (dcell c (32 + (15 * 1 + j))) 0 0))
    ∗ ((bigSep (Finset.Ico 0 15) fun j => dutyTok ER (dcell c (62 + (15 * 0 + j))) 0 0) ∗ (bigSep (Finset.Ico 0 15) fun j => dutyTok ER (dcell c (62 + (15 * 1 + j))) 0 0))
    ∗ ((bigSep (Finset.Ico 0 15) fun j => dutyTok ER (dcell c (92 + (15 * 0 + j))) 0 0) ∗ (bigSep (Finset.Ico 0 15) fun j => dutyTok ER (dcell c (92 + (15 * 1 + j))) 0 0))) := by
  have e : ∀ lo, (bigSep (Finset.Ico lo (lo + 30)) fun i => (dutyTok ER (dcell c i) 0 0 : sProp 𝕄))
      = iprop((bigSep (Finset.Ico 0 15) fun j => dutyTok ER (dcell c (lo + (15 * 0 + j))) 0 0) ∗ (bigSep (Finset.Ico 0 15) fun j => dutyTok ER (dcell c (lo + (15 * 1 + j))) 0 0)) := fun lo => by
    rw [shift, cut (a := 0) (b := 15) (c := 30) (by decide) (by decide), shift 15 15]
    simp only [Nat.mul_zero, Nat.zero_add, Nat.mul_one]
  unfold toks
  rw [← e 2, ← e 32, ← e 62, ← e 92, cut (a := 0) (b := 2) (c := 122) (by decide) (by decide), cut (a := 2) (b := 2 + 30) (c := 122) (by decide) (by decide),
    cut (a := 2 + 30) (b := 32 + 30) (c := 122) (by decide) (by decide), cut (a := 32 + 30) (b := 62 + 30) (c := 122) (by decide) (by decide),
    peel (a := 0) (b := 2) (by decide), peel (a := 1) (b := 2) (by decide), none_left]
  refine both ?_ ?_
  · iintro ⟨HB, ⟨H0, H1, -⟩, H2, H3, H4, H5⟩
    isplitl [HB]; · iexact HB
    isplitl [H0 H1]
    · isplitl [H0] <;> iassumption
    isplitl [H2]; · iexact H2
    isplitl [H3]; · iexact H3
    isplitl [H4] <;> iassumption
  · iintro ⟨HB, ⟨H0, H1⟩, H2, H3, H4, H5⟩
    isplitl [HB]; · iexact HB
    isplitl [H0 H1]
    · isplitl [H0]; · iexact H0
      isplitl [H1]; · iexact H1
      iempintro
    isplitl [H2]; · iexact H2
    isplitl [H3]; · iexact H3
    isplitl [H4] <;> iassumption

/-- All tokens, dealt to the devices that pay with them. -/
theorem toks_dealt : (bigSep Finset.univ fun c : Dev nD => (toks c : sProp 𝕄)) ⊢ bigSep Finset.univ fun c : Dev nD => payToks c := by
  simp only [toks_cut]
  unfold payToks rsTok agTok
  simp only [bigSep_sep']
  rw [dealt 15 fun c j => (dutyTok ER (barCell c) 0 (14 - j) : sProp 𝕄), dealt 15 fun c j => (dutyTok ER (dcell c (32 + (15 * 0 + j))) 0 0 : sProp 𝕄),
    dealt 15 fun c j => (dutyTok ER (dcell c (32 + (15 * 1 + j))) 0 0 : sProp 𝕄), dealt 15 fun c j => (dutyTok ER (dcell c (92 + (15 * 0 + j))) 0 0 : sProp 𝕄),
    dealt 15 fun c j => (dutyTok ER (dcell c (92 + (15 * 1 + j))) 0 0 : sProp 𝕄)]
  iintro ⟨HB, ⟨H0, H1⟩, ⟨H2, H3⟩, ⟨H4, H5⟩, ⟨H6, H7⟩, H8, H9⟩
  isplitl [HB]; · iexact HB
  isplitr [H0 H1]
  · isplitl [H2 H4]
    · isplitl [H2] <;> iassumption
    isplitl [H3 H5]
    · isplitl [H3] <;> iassumption
    isplitl [H6 H8]
    · isplitl [H6] <;> iassumption
    · isplitl [H7] <;> iassumption
  · isplitl [H0] <;> iassumption

/-! ## Credits -/

/-- The semaphore of device `c` that action `a` of another device pays. -/
def ownCell (c : Dev nD) (a : ℕ) : SemLoc sig := if a < 15 then .reg barS else if a < 45 then .dma (dsem (32 + (a - 15))) else .dma (dsem (92 + (a - 45)))

theorem payCell_eq (c : Dev nD) (a : ℕ) : ∃ j, ∀ c : Dev nD, payCell c a = ((tgt c j : Thread nD τ), ownCell c a) := by
  by_cases h1 : a < 15
  · exact ⟨a, fun c => by unfold payCell ownCell; rw [if_pos h1, if_pos h1]⟩
  by_cases h2 : a < 45
  · exact ⟨(a - 15) % 15, fun c => by unfold payCell ownCell; rw [if_neg h1, if_neg h1, if_pos h2, if_pos h2]⟩
  · exact ⟨(a - 45) % 15, fun c => by unfold payCell ownCell; rw [if_neg h1, if_neg h1, if_neg h2, if_neg h2]⟩

theorem cred_one (c : Dev nD) (a : ℕ) :
    (Pipeline.launchCred (fun d => tallyAt (payCell d a) () (payAmt a)) c : sProp 𝕄) ⊢ cred (tallyAt ((c : Thread nD τ), ownCell c a) () (payAmt a)) := by
  obtain ⟨j, hj⟩ := payCell_eq c a
  have e : (fun d : Dev nD => (tallyAt (payCell d a) () (payAmt a) : CellTallies nD τ sig Unit)) = fun d => tallyAt ((tgt d j : Thread nD τ), ownCell c a) () (payAmt a) :=
    funext fun d => by rw [hj d]; rfl
  rw [e]
  exact Pipeline.launchCred_tallyAt (ownCell c a) (fun d => tgt d j) (fun d => src d j) (fun d => tgt_src d j) (fun d => src_tgt d j) () (payAmt a) c

/-- `n` credits of one unit. -/
theorem units (g : GSem nD τ sig) (n : ℕ) : (bigSep (Finset.Ico 0 n) fun _ => cred (tallyAt g () 1) : sProp 𝕄) = cred (tallyAt g () n) := by
  induction n with
  | zero => rw [none_left, tallyAt_zero, cred_zero]
  | succ n ih => rw [grow (Nat.zero_le n), ih, Nat.add_comm n 1, ← tallyAt_add]; exact both (cred_add _ _).2 (cred_add _ _).1

/-- What a device waits for, credited at launch. -/
def creds (c : Dev nD) : sProp 𝕄 :=
  iprop(cred (tallyAt (barCell c) () 15) ∗ (bigSep (Finset.Ico 32 62) fun i => cred (tallyAt (dcell c i) () (amt i))) ∗ bigSep (Finset.Ico 92 122) fun i => cred (tallyAt (dcell c i) () (amt i)))

theorem creds_intro (c : Dev nD) : (Pipeline.launchCred (fun d => Ow d 0) c : sProp 𝕄) ⊢ creds c := by
  have h : (Pipeline.launchCred (fun d => Ow d 0) c : sProp 𝕄) ⊢ bigSep (Finset.Ico 0 75) fun a => cred (tallyAt ((c : Thread nD τ), ownCell c a) () (payAmt a)) := by
    unfold Ow
    rw [Pipeline.launchCred_sum]
    exact bigSep_mono fun a _ => cred_one c a
  refine h.trans ?_
  rw [cut (a := 0) (b := 15) (c := 75) (by decide) (by decide), cut (a := 15) (b := 45) (c := 75) (by decide) (by decide)]
  unfold creds
  rw [← units (barCell c) 15, shift 15 30, shift 45 30, shift 32 30, shift 92 30]
  refine Entails.of_eq (congrArg₂ _ (bigSep_congr fun a ha => ?_) (congrArg₂ _ (bigSep_congr fun a ha => ?_) (bigSep_congr fun a ha => ?_)))
  · unfold ownCell payAmt; rw [if_pos (Finset.mem_Ico.mp ha).2, if_pos (Finset.mem_Ico.mp ha).2]
  · have := (Finset.mem_Ico.mp ha).2
    unfold ownCell payAmt; rw [if_neg (by omega), if_pos (by omega), if_neg (by omega), Nat.add_sub_cancel_left, amt_of_le (by omega)]
  · have := (Finset.mem_Ico.mp ha).2
    unfold ownCell payAmt; rw [if_neg (by omega), if_neg (by omega), if_neg (by omega), Nat.add_sub_cancel_left, amt_of_le (by omega)]

end Cert.Attn

end
-- ==== Proof.Run.lean ====
/-
The launch: every device's semaphores made ready, the kernel's call on one device, and the run of all sixteen to its end.
-/
module

public import proofs.«01_k».proof.Proof.Deal
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The operands -/

/-- A whole array's only block is the array. -/
theorem blk_read {s : Shape} {e : EltTy} {cs : CoreSpace} (arr : Memref sig .tc .hbm s e) (o y : Bool) (stage : Memref sig .tc (.core cs) ⟨s.rank, s.size⟩ e)
    (q : DmaSem sig) (ha : arr.IsWhole) (hs : stage.IsWhole) (t : Fin Pipeline.Grid.none.N) (f : arr.view.ref.ty.Contents (Elt F)) :
    ((Pipeline.Window.whole arr o y stage q ha hs).blk t).view.read (Elt F) f = arr.view.read (Elt F) f := by
  funext i
  show arr.view.read (Elt F) f _ = _
  refine congrArg _ (funext fun a => Fin.ext ?_)
  show _ + _ = _
  simp
  exact Or.inl rfl

variable (m : (ℓ : Loc nD τ sig) → Buf (Elt F) ℓ) (ρ : Dev nD → PrngReg)

/-- Device `c`'s operands, as launched. -/
def xOf (c : Dev nD) : Vec F S1x256x1024 .f32 := m ((c : Thread nD τ).loc main_arg0)
def wqOf (c : Dev nD) : Vec F S1024x1024 .f32 := m ((c : Thread nD τ).loc main_arg1)
def wkOf (c : Dev nD) : Vec F S1024x1024 .f32 := m ((c : Thread nD τ).loc main_arg2)
def wvOf (c : Dev nD) : Vec F S1024x1024 .f32 := m ((c : Thread nD τ).loc main_arg3)
def woOf (c : Dev nD) : Vec F S1024x1024 .f32 := m ((c : Thread nD τ).loc main_arg4)

/-- Device `c`'s partial result. -/
def parts (c : Dev nD) : Vec F S256x1024 .bf16 := partVal (xOf m c) (wqOf m c) (woOf m c) (wkOf m c) (wvOf m c)

/-! ## The launch -/

def u₀ : UU := (initOf (Pipeline.cells cfgs cellOf_inj) (Pipeline.launchToks cfgs cellOf_inj), initOf allCells allToks)

/-- What the launch deals device `c`: its semaphores' round states, its places at them, that they are in round 0, their tokens. -/
def G (c : Dev nD) : sProp 𝕄 :=
  iprop((bigSep Finset.univ fun k : Fin 123 => roundState ER (sched (parts m)) (kcell (c, k)) 0)
    ∗ (bigSep Finset.univ fun k : Fin 123 => iprop(atPos ER (kcell (c, k)) 0 ∅ 0 ∗ reached ER (kcell (c, k)) 0)) ∗ toks c)

/-- Every semaphore's invariant, and that each is in its round. -/
def invs (K : Dev nD × Fin 123 → ℕ) : sProp 𝕄 :=
  iprop((bigSep Finset.univ fun ck : Dev nD × Fin 123 => cellInv ER (sched (parts m)) (K ck) (kcell ck))
    ∗ bigSep Finset.univ fun ck : Dev nD × Fin 123 => reached ER (kcell ck) 0)
instance invs_persistent (K : Dev nD × Fin 123 → ℕ) : Persistent (invs m K) := by unfold invs; infer_instance

/-- Device `c`'s places at its semaphores and the tokens it pays with. -/
def lin (c : Dev nD) : sProp 𝕄 := iprop((bigSep Finset.univ fun k : Fin 123 => atPos ER (kcell (c, k)) 0 ∅ 0) ∗ payToks c)
/-- What it starts its run with. -/
def G' (c : Dev nD) : sProp 𝕄 := iprop(∃ K, invs m K ∗ lin c)

theorem fund_all : own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 123 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched (parts m)) allCells allToks) $$ HX with ⟨Hst, Hr, Hat, Htok⟩
  imodintro
  ihave Hst := (Entails.of_eq (hX fun g => roundState ER (sched (parts m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem alloc_all (c : Dev nD) :
    iprop((bigSep Finset.univ fun k : Fin 123 => semVal (kcell (c, k)) 0) ∗ bigSep Finset.univ fun k : Fin 123 => roundState ER (sched (parts m)) (kcell (c, k)) 0)
      ⊢ (|={Set.univ}=> bigSep Finset.univ fun k => iprop(∃ κ : ℕ, cellInv ER (sched (parts m)) κ (kcell (c, k))) : sProp 𝕄) := by
  rw [← bigSep_sep']
  exact (bigSep_mono fun k _ => (Rounds.body_intro ER (sched (parts m)) (kcell (c, k))).trans inv_alloc).trans (bigSep_fupd _ _)

/-- One device's share of the launch, its semaphores' invariants made. -/
def made (c : Dev nD) : sProp 𝕄 :=
  iprop((bigSep Finset.univ fun k => iprop(∃ κ : ℕ, cellInv ER (sched (parts m)) κ (kcell (c, k))))
    ∗ (bigSep Finset.univ fun k : Fin 123 => iprop(atPos ER (kcell (c, k)) 0 ∅ 0 ∗ reached ER (kcell (c, k)) 0)) ∗ toks c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> made m c := by
  unfold G made
  iintro ⟨Hos, Hus, Hst, Hat, Htok⟩
  ihave Hv := (Entails.of_eq (sems0_eq (F := F) c).symm) $$ [Hos Hus]
  · isplitl [Hus] <;> iassumption
  imod (alloc_all m c) $$ [Hv Hst] with Hinv
  · isplitl [Hv] <;> iassumption
  imodintro
  isplitl [Hinv]; · iexact Hinv
  isplitl [Hat] <;> iassumption

theorem lin_intro (K : Dev nD × Fin 123 → ℕ) (c : Dev nD) : iprop(invs m K ∗ lin c) ⊢ G' m c := by
  unfold G'
  iintro H
  iexists K
  iexact H

theorem regroup : (bigSep Finset.univ fun c : Dev nD => made m c) ⊢ bigSep Finset.univ (G' m) := by
  unfold made
  rw [bigSep_sep', bigSep_sep', ← bigSep_univ_prod (fun ck : Dev nD × Fin 123 => iprop(∃ κ : ℕ, cellInv ER (sched (parts m)) κ (kcell ck))),
    bigSep_congr (s := Finset.univ) (fun (c : Dev nD) _ => bigSep_sep' Finset.univ (fun k : Fin 123 => (atPos ER (kcell (c, k)) 0 ∅ 0 : sProp 𝕄)) (fun k => reached ER (kcell (c, k)) 0)),
    bigSep_sep', ← bigSep_univ_prod (fun ck : Dev nD × Fin 123 => (reached ER (kcell ck) 0 : sProp 𝕄))]
  iintro ⟨HI, ⟨Hat, #HR⟩, Htok⟩
  ihave HK := (bigSep_exists_pi Finset.univ (fun (ck : Dev nD × Fin 123) (κ : ℕ) => (cellInv ER (sched (parts m)) κ (kcell ck) : sProp 𝕄))) $$ HI
  icases HK with ⟨%K, #HI⟩
  ihave Htk := (toks_dealt (F := F)) $$ Htok
  iapply (for_all (R := invs m K) fun c _ => lin_intro m K c)
  isplitr
  · unfold invs; isplitl; · iexact HI
    iexact HR
  · iapply (Entails.of_eq (bigSep_sep' Finset.univ (fun c : Dev nD => bigSep Finset.univ fun k : Fin 123 => (atPos ER (kcell (c, k)) 0 ∅ 0 : sProp 𝕄)) payToks).symm)
    isplitl [Hat] <;> iassumption

/-- All devices' semaphores made ready at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (fupd_mono (regroup m))

/-! ## The kernel's call -/

/-- What device `c` enters the kernel with beside its scratch: what it starts its run with, the levels, the credits, and its output array. -/
def X (c : Dev nD) : sProp 𝕄 := iprop((∃ K, recs (parts m) K ∗ lin c) ∗ creds c ∗ ∃ f, (c : Thread nD τ).loc main_v1 ↦{fullShare} f)

/-- The scratch buffers, at any contents. -/
def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ ∃ f : Buf (Elt F) ((c : Thread nD τ).loc cc0_scratch3), ((c : Thread nD τ).loc cc0_scratch3) ↦{fullShare} f)

/-- What it leaves the kernel with: its semaphores at zero, and its output. -/
def Y (c : Dev nD) : sProp 𝕄 := iprop(unscopedSems0 c ∗ ((c : Thread nD τ).loc main_v1 ↦{fullShare} outC (parts m) c))
def left (c : Dev nD) : sProp 𝕄 := iprop(Y m c ∗ Pipeline.ownSems0 (Ix := Unit) (Name := ℕ) (U := UU) (Lvl := ℕ) (Val := Elt F) (τ := τ) osem c ∗ scratch c)

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => wqOf m c
    | ⟨2, _⟩ => woOf m c
    | ⟨3, _⟩ => wkOf m c
    | ⟨4, _⟩ => wvOf m c
  Φ t := match t with
    | ⟨0, _⟩ => iprop(X m c ∗ scratch c)
    | ⟨_ + 1, _⟩ => left m c
  q _ := fullShare
  owed t := match t with
    | ⟨0, _⟩ => Ow c 0
    | ⟨_ + 1, _⟩ => 0

theorem owns_whole_eq (c : Dev nD) (b : Ref sig .tc) (g : b.ty.Contents (Elt F)) :
    (owns (Ix := Unit) (Name := ℕ) (U := UU) (Lvl := ℕ) (c : Thread nD τ) (Memref.whole b) fullShare g : sProp 𝕄)
      = iprop(∃ f : Buf (Elt F) (((c : Dev nD) : Thread nD τ).loc b), ⌜f = g⌝ ∗ (((c : Thread nD τ).loc b) ↦{fullShare} f)) := by
  unfold owns; simp only [Memref.view_whole, View.read_whole, View.set_whole]

/-- A staging buffer at given contents. -/
abbrev stg (c : Dev nD) (b : Ref sig .tc) (g : b.ty.Contents (Elt F)) : sProp 𝕄 :=
  owns (Ix := Unit) (Name := ℕ) (U := UU) (Lvl := ℕ) (c : Thread nD τ) (Memref.whole b) fullShare g

/-- The pieces a device enters with make up what the body starts from. -/
theorem ready (c : Dev nD) :
    iprop(owesEx c 0 ∗ lin c ∗ creds c ∗ (∃ f, (c : Thread nD τ).loc main_v1 ↦{fullShare} f) ∗ scratch c) ⊢ (start c : sProp 𝕄) := by
  unfold lin payToks creds scratch start SigS needs waitNeed posn
  rw [cells_eq c fun g => (atPos ER g 0 ∅ 0 : sProp 𝕄), cut (a := 0) (b := 2) (c := 122) (by decide) (by decide), cut (a := 2) (b := 32) (c := 122) (by decide) (by decide),
    cut (a := 32) (b := 47) (c := 122) (by decide) (by decide), cut (a := 47) (b := 62) (c := 122) (by decide) (by decide),
    cut (a := 62) (b := 92) (c := 122) (by decide) (by decide), cut (a := 92) (b := 107) (c := 122) (by decide) (by decide),
    peel (a := 0) (b := 2) (by decide), peel (a := 1) (b := 2) (by decide), none_left,
    cut (a := 32) (b := 47) (c := 62) (by decide) (by decide), cut (a := 92) (b := 107) (c := 122) (by decide) (by decide)]
  simp only [bigSep_sep']
  iintro ⟨HO, ⟨⟨Hab, ⟨Ha0, Ha1, -⟩, Ha2, Ha32, Ha47, Ha62, Ha92, Ha107⟩, Htb, Htok, Ht0, Ht1⟩, ⟨Hcb, ⟨Hc32, Hc47⟩, Hc92, Hc107⟩, ⟨%fo, Ho⟩, ⟨%fv, Hv⟩, Hp, ⟨%fr, Hr⟩, ⟨%fa, Ha⟩⟩
  ihave Hl := (lend_all c fr fa) $$ [Hr Ha]
  · isplitl [Hr] <;> iassumption
  icases Hl with ⟨Hl0, Hl⟩
  ihave Hv := (v_halves c fv).1 $$ Hv
  icases Hv with ⟨Hv0, Hv1⟩
  ihave Ho := (o_halves c fo).1 $$ Ho
  icases Ho with ⟨Ho0, Ho1⟩
  isplitl [HO Htb Hl]
  · isplitl [HO]; · iexact HO
    isplitl [Htb] <;> iassumption
  isplitl [Hcb Hab]
  · isplitl [Hcb] <;> iassumption
  isplitl [Hp]; · iexact Hp
  isplitl [Hl0]; · iexact Hl0
  isplitl [Htok]; · iexact Htok
  isplitl [Hc32 Hc47 Hc92 Hc107 Ha32 Ha47 Ha92 Ha107]
  · isplitl [Hc32 Ha32]
    · isplitl [Hc32] <;> iassumption
    isplitl [Hc47 Ha47]
    · isplitl [Hc47] <;> iassumption
    isplitl [Hc92 Ha92]
    · isplitl [Hc92] <;> iassumption
    · isplitl [Hc107] <;> iassumption
  isplitl [Hv0 Hv1 Ht0 Ht1 Ho0 Ho1]
  · isplitl [Hv0 Ht0 Ho0]
    · isplitl [Hv0]; · iexists fv; iexact Hv0
      isplitl [Ht0]; · iexact Ht0
      iexists fo; iexact Ho0
    · isplitl [Hv1]; · iexists fv; iexact Hv1
      isplitl [Ht1]; · iexact Ht1
      iexists fo; iexact Ho1
  isplitl [Ha0]; · iexact Ha0
  isplitl [Ha1]; · iexact Ha1
  isplitl [Ha2] <;> iassumption

/-- The whole kernel on device `c`. -/
theorem kernel_run (K : Dev nD × Fin 123 → ℕ) (c : Dev nD) :
    iprop(recs (parts m) K ∗ (ops c (xOf m c) (wqOf m c) (woOf m c) (wkOf m c) (wvOf m c) ∗ start c) ∗ emp)
      ⊢ run c (onBufs (cc0_body (F := F))) fun _ => iprop(left m c ∗ owesEx c 75 ∗ ops c (xOf m c) (wqOf m c) (woOf m c) (wkOf m c) (wvOf m c)) := by
  refine BIBase.Entails.trans ?_ (wp_fupd _ _ _ _ _)
  refine body (parts m) K c _ _ _ _ _ rfl _ _ fun _ _ => ?_
  iintro ⟨#HR, ⟨Hops, Hal, HO, Hd, Hd'⟩, -⟩
  ihave H := (finish (parts m) c) $$ [Hal Hd Hd']
  · isplitl [Hal]; · iexact Hal
    isplitl [Hd] <;> iassumption
  icases H with ⟨He, Hv, Hp, Hr, Ha, Ho⟩
  imod (close_all (parts m) K c) $$ [He] with Hz
  · isplitr; · iexact HR
    iexact He
  ihave Hz := (Entails.of_eq (sems0_eq (F := F) c)) $$ Hz
  icases Hz with ⟨Hu, Hs⟩
  imodintro
  isplitr [HO Hops]
  · unfold left Y scratch
    isplitl [Hu Ho]
    · isplitl [Hu] <;> iassumption
    isplitl [Hs]; · iexact Hs
    isplitl [Hv]; · iexists (outC (parts m) c); iexact Hv
    isplitl [Hp]; · iexists (parts m c); iexact Hp
    isplitl [Hr]; · iexists (recvC (parts m) c); iexact Hr
    iexists (gathC (parts m)); iexact Ha
  · isplitl [HO] <;> iassumption

/-- The staged operands at point `t`, and all else the call gives. -/
def pre (c : Dev nD) : sProp 𝕄 :=
  iprop((X m c ∗ scratch c) ∗ (dats m 0 c).owesAt () (t0_0 : Fin cfg0.N).castSucc
    ∗ (∃ d, stg c cc0_stg0_0 ((dats m 0 c).before (0 : Fin 5) t0_0 d)) ∗ (∃ d, stg c cc0_stg1_0 ((dats m 0 c).before (1 : Fin 5) t0_0 d))
    ∗ (∃ d, stg c cc0_stg2_0 ((dats m 0 c).before (2 : Fin 5) t0_0 d)) ∗ (∃ d, stg c cc0_stg3_0 ((dats m 0 c).before (3 : Fin 5) t0_0 d))
    ∗ (∃ d, stg c cc0_stg4_0 ((dats m 0 c).before (4 : Fin 5) t0_0 d)))
def post (c : Dev nD) : sProp 𝕄 :=
  iprop(left m c ∗ (dats m 0 c).owesAt () (t0_0 : Fin cfg0.N).succ
    ∗ stg c cc0_stg0_0 (xOf m c) ∗ stg c cc0_stg1_0 (wqOf m c) ∗ stg c cc0_stg2_0 (woOf m c) ∗ stg c cc0_stg3_0 (wkOf m c) ∗ stg c cc0_stg4_0 (wvOf m c))

/-- An operand's staging buffer holds the operand. -/
theorem before0 (c : Dev nD) (d) : (dats m 0 c).before (0 : Fin 5) t0_0 d = xOf m c := by
  unfold Dat.before; rw [if_pos (fetch0_0 t0_0)]
  show (dats m 0 c).blockOf (0 : Fin 5) t0_0 = xOf m c
  exact blk_read (F := F) _ _ _ _ _ (Memref.isWhole_whole _) (Memref.isWhole_whole _) _ _
theorem before1 (c : Dev nD) (d) : (dats m 0 c).before (1 : Fin 5) t0_0 d = wqOf m c := by
  unfold Dat.before; rw [if_pos (fetch0_1 t0_0)]
  show (dats m 0 c).blockOf (1 : Fin 5) t0_0 = wqOf m c
  exact blk_read (F := F) _ _ _ _ _ (Memref.isWhole_whole _) (Memref.isWhole_whole _) _ _
theorem before2 (c : Dev nD) (d) : (dats m 0 c).before (2 : Fin 5) t0_0 d = woOf m c := by
  unfold Dat.before; rw [if_pos (fetch0_2 t0_0)]
  show (dats m 0 c).blockOf (2 : Fin 5) t0_0 = woOf m c
  exact blk_read (F := F) _ _ _ _ _ (Memref.isWhole_whole _) (Memref.isWhole_whole _) _ _
theorem before3 (c : Dev nD) (d) : (dats m 0 c).before (3 : Fin 5) t0_0 d = wkOf m c := by
  unfold Dat.before; rw [if_pos (fetch0_3 t0_0)]
  show (dats m 0 c).blockOf (3 : Fin 5) t0_0 = wkOf m c
  exact blk_read (F := F) _ _ _ _ _ (Memref.isWhole_whole _) (Memref.isWhole_whole _) _ _
theorem before4 (c : Dev nD) (d) : (dats m 0 c).before (4 : Fin 5) t0_0 d = wvOf m c := by
  unfold Dat.before; rw [if_pos (fetch0_4 t0_0)]
  show (dats m 0 c).blockOf (4 : Fin 5) t0_0 = wvOf m c
  exact blk_read (F := F) _ _ _ _ _ (Memref.isWhole_whole _) (Memref.isWhole_whole _) _ _

theorem pre_use (c : Dev nD) :
    pre m c ⊢ (iprop(∃ K, recs (parts m) K ∗ (ops c (xOf m c) (wqOf m c) (woOf m c) (wkOf m c) (wvOf m c) ∗ start c) ∗ emp) : sProp 𝕄) := by
  unfold pre X
  simp only [before0, before1, before2, before3, before4, stg, owns_whole_eq]
  unfold Dat.owesAt Pipeline.owesWithin ops
  rw [show (dats m 0 c).owed (t0_0 : Fin cfg0.N).castSucc = Ow c 0 from rfl]
  iintro ⟨⟨⟨⟨%K, HR, Hlin⟩, Hcr, Ho⟩, Hs⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩⟩
  subst h0 h1 h2 h3 h4
  ihave Hst := (ready c) $$ [HO Hlin Hcr Ho Hs]
  · unfold owesEx
    isplitl [HO]; · iexists W; iexact HO
    isplitl [Hlin]; · iexact Hlin
    isplitl [Hcr]; · iexact Hcr
    isplitl [Ho] <;> iassumption
  iexists K
  isplitl [HR]; · iexact HR
  isplitl
  · isplitr [Hst]
    · isplitl [H0]; · iexact H0
      isplitl [H1]; · iexact H1
      isplitl [H2]; · iexact H2
      isplitl [H3] <;> iassumption
    · iexact Hst
  · iempintro

theorem post_intro (c : Dev nD) :
    iprop(left m c ∗ owesEx c 75 ∗ ops c (xOf m c) (wqOf m c) (woOf m c) (wkOf m c) (wvOf m c)) ⊢ (post m c : sProp 𝕄) := by
  unfold post owesEx ops Dat.owesAt Pipeline.owesWithin
  simp only [stg, owns_whole_eq]
  rw [show (dats m 0 c).owed (t0_0 : Fin cfg0.N).succ = 0 from rfl, Ow_end]
  iintro ⟨Hl, ⟨%W, HO⟩, H0, H1, H2, H3, H4⟩
  isplitl [Hl]; · iexact Hl
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  iexact H4

theorem sound (c : Dev nD) : pre m c ⊢ run c (onBufs (cc0_body (F := F))) fun _ => post m c := by
  refine BIBase.Entails.trans (pre_use m c) ?_
  iintro ⟨%K, H⟩
  iapply ((kernel_run m K c).trans (wp_mono _ _ _ fun _ => post_intro m c))
  iexact H

set_option maxRecDepth 100000 in
/-- What the call asks of the kernel's body. -/
theorem body_obligation (c : Dev nD) : BodyObligation (dats (F := F) m 0 c) (defs₀ (F := F)) 𝒱₀ () Set.univ := fun t => by
  rw [fin_N0 t]
  rw [bigSep_W0, bigSep_W0]
  exact sound m c

/-! ## The run -/

theorem share_eq (c : Dev nD) (w : Fin cfg0.W) : (dats m 0 c).share w = fullShare := by unfold Dat.share; split <;> rfl

theorem X_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' m c)
      ⊢ |={Set.univ}=> iprop(X m c ∗ emp) := by
  rw [Pipeline.unscopedRestP_none, unscopedRest0_eq]
  unfold G' invs X recs
  iintro ⟨Ho, #Hlev, Hcr, -, ⟨%K, ⟨#HI, #HR⟩, Hlin⟩⟩
  ihave Hc := (creds_intro (F := F) c) $$ Hcr
  imodintro
  isplitl
  · isplitl [Hlin]
    · iexists K
      isplitr
      · isplitr; · iexact HI
        isplitr; · iexact HR
        iexact Hlev
      · iexact Hlin
    isplitl [Hc]; · iexact Hc
    iexists (m ((c : Thread nD τ).loc main_v1)); iexact Ho
  · iempintro

theorem enter (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(X m c ∗ scratch c) from rfl, scopedRest0_eq]
  unfold scratch
  iintro ⟨HX, -, Hs⟩
  isplitl [HX] <;> iassumption

theorem leave (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = left m c from rfl, scopedRest0_eq]
  unfold left scratch
  exact Entails.rfl

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide) _ (by
      rcases t with ⟨_ | _, ht⟩
      · exact Or.inl rfl
      · exact Or.inr (Ow_end c).symm)

/-- What every run ends with: each device's output is what it added up and gathered of the partial results, and its operands are as launched. -/
def QC (r : PUnit × MemSt nD τ sig (Elt F)) : Prop :=
  ∀ c : Dev nD, r.2.mem ((c : Thread nD τ).loc main_v1) = outC (parts m) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

/-- What a device leaves tells its memory: zero counters of the semaphores that outlive the call, and the output. -/
theorem read_end (c : Dev nD) (s' : Phys nD τ sig (Elt F)) :
    iprop(Y m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_v1) = outC (parts m) c⌝ ∗ (SI s' : sProp 𝕄)) := by
  unfold Y
  iintro ⟨⟨Hu, Ho⟩, -, HSI⟩
  imod (Pipeline.unscopedSems0_read (X := unscopedSems0 c) (c := c) fupd_intro s') $$ [Hu HSI] with ⟨%hz, HSI⟩
  · isplitl [Hu] <;> iassumption
  ihave H := (pointsTo_read_all ({()} : Finset Unit) (fun _ => (c : Thread nD τ).loc main_v1) (fun _ => outC (parts m) c) s') $$ [Ho HSI]
  · isplitl [Ho]
    · rw [bigSep_singleton]; iexact Ho
    · iexact HSI
  icases H with ⟨%ho, HSI⟩
  imodintro
  isplitr [HSI]
  · ipureintro; exact ⟨hz, ho () (Finset.mem_singleton_self _)⟩
  · iexact HSI

set_option maxRecDepth 100000 in
/-- Every run of the sixteen devices, for any float values, from any memory with counters at zero: it ends, each device's output what it
    has added up and gathered, its operands as launched, and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => Ow d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := X m) (Y := Y m) (Z := fun _ => iprop(emp))
    (hX := X_intro m ρ) (hin := enter m) (hout := leave m)
    (QY := fun c s => (∀ sm : SemLoc sig, sm.isScoped .tc = false → s.sem ((c.tc : Thread nD τ), sm) = 0)
      ∧ s.mem ((c : Thread nD τ).loc main_v1) = outC (parts m) c)
    (hY := read_end m)
    (hQ := fun _ h hs => ⟨fun c => ⟨(h c).2.2.2, ((h c).1 0).trans ((dats m 0 c).arrAt_in 0 rfl _), ((h c).1 1).trans ((dats m 0 c).arrAt_in 1 rfl _),
      ((h c).1 3).trans ((dats m 0 c).arrAt_in 3 rfl _), ((h c).1 4).trans ((dats m 0 c).arrAt_in 4 rfl _), ((h c).1 2).trans ((dats m 0 c).arrAt_in 2 rfl _)⟩,
      sem_eq_zero hs fun c => (h c).2.2.1⟩)

end Cert.Attn

end
-- ==== Proof.Heads.lean ====
/-
A device's partial result at the ideal floats: its eight heads, each the softmax of its scores times its values, projected and added up.
-/
module

public import proofs.«01_k».proof.Proof.Body
public import Idealize.ShloMosaic.Lib.Pointwise

@[expose] public section

noncomputable section

namespace Cert.Attn

open Cert.KernelIdeal Cert.KernelIdeal.Gen
open Idealize.ShloMosaic Idealize.ShloMosaic.Pointwise

section Kernel

variable {F : FTy → Type} [FloatOps F]

/-- The scaled scores of one head. -/
def scores (q k : FVec F S256x128 .bf16) : FVec F S256x256 .f32 :=
  mulf (matmul dot_S256x128_S256x128_S256x256_1_1_0_0_n_n none q k (constant S256x256 .f32 0x00000000#32)) (broadcast S256x256 (Scalar.ofBits .f32 0x3DB504F3#32 : F .f32))

/-- The exponentials of scores less their row's largest. -/
def weights (s : FVec F S256x256 .f32) : FVec F S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- One head's output: the values by the weights, over the weights' sum. -/
def headOut (e : FVec F S256x256 .f32) (v : FVec F S256x128 .bf16) : FVec F S256x128 .f32 :=
  divf (matmul dot_S256x256_S256x128_S256x128_1_0_0_1_n_n none (truncf .bf16 e bitsLt_bf16_f32) v (constant S256x128 .f32 0x00000000#32))
    (broadcastTo S256x128 (shapeCast S256x1 (multiReduction .add [1] S256 e 0x00000000#32 reduces_S256x256_S256 (.inl rfl) rfl)
      shapeCasts_S256_S256x1) broadcasts_S256x1_S256x128)

/-- One head's part of the partial result. -/
def headPart (q k v : FVec F S256x128 .bf16) (w : FVec F S128x1024 .bf16) : FVec F S256x1024 .f32 :=
  matmul dot_S256x128_S128x1024_S256x1024_1_0_0_1_n_n none (truncf .bf16 (headOut (weights (scores q k)) v) bitsLt_bf16_f32) w
    (constant S256x1024 .f32 0x00000000#32)

/-- The head whose columns (of queries, keys and values) and rows (of the projection) start at `o`. -/
def headAt (q k v : FVec F S256x1024 .bf16) (w : FVec F S1024x1024 .bf16) (o : ℕ) (hc : S256x1024.Slices ![0, o] S256x128)
    (hr : S1024x1024.Slices ![o, 0] S128x1024) : FVec F S256x1024 .f32 :=
  headPart (extractStridedSlice S256x128 ![0, o] q hc) (extractStridedSlice S256x128 ![0, o] k hc) (extractStridedSlice S256x128 ![0, o] v hc)
    (extractStridedSlice S128x1024 ![o, 0] w hr)

theorem cols_fit (h : Fin 8) : S256x1024.Slices ![0, 128 * h.val] S256x128 := by revert h; decide
theorem rows_fit (h : Fin 8) : S1024x1024.Slices ![128 * h.val, 0] S128x1024 := by revert h; decide

/-- The heads' parts, by number. -/
def headNo (q k v : FVec F S256x1024 .bf16) (w : FVec F S1024x1024 .bf16) (h : Fin 8) : FVec F S256x1024 .f32 :=
  headAt q k v w (128 * h.val) (cols_fit h) (rows_fit h)

/-- What the kernel stores as the partial result: the heads' parts added up in order, narrowed. -/
theorem partVal_heads (x : Vec F S1x256x1024 .f32) (wq wo wk wv : Vec F S1024x1024 .f32) :
    partVal x wq wo wk wv =
      let p := headNo (k0_pay2 x wq) (k0_pay3 x wk) (k0_pay4 x wv) (k0_pay5 wo)
      shapeCast S256x1024 (truncf .bf16 (addf (addf (addf (addf (addf (addf (addf (addf (k0_pay6 (F := F)) (p 0)) (p 1)) (p 2)) (p 3)) (p 4)) (p 5)) (p 6)) (p 7)) bitsLt_bf16_f32)
        shapeCasts_S256x1024_S256x1024 := rfl

end Kernel

/-- The score of row `r` against row `j`, of a head's queries and keys. -/
def score (q k : Fin 256 → Fin 128 → EReal) (r j : Fin 256) : EReal := (∑ e, q r e * k j e) * Ideal.ofBits .f32 0x3DB504F3#32

/-- Its weight: the exponential of the score less the row's largest. -/
def weight (q k : Fin 256 → Fin 128 → EReal) (r j : Fin 256) : EReal :=
  Ideal.exp (score q k r j - Finset.univ.fold max ⊥ fun j' => score q k r j')

/-- The head's output at row `r`, column `e`. -/
def attend (q k v : Fin 256 → Fin 128 → EReal) (r : Fin 256) (e : Fin 128) : EReal :=
  Ideal.div (∑ j, weight q k r j * v j e) (∑ j, weight q k r j)

/-- The word the rows' maximum starts from is minus infinity. -/
theorem minus_infinity : Ideal.ofBits .f32 0xFF800000#32 = (⊥ : EReal) := by
  simp [Ideal.ofBits, Ideal.ieee]

theorem headPart_apply (q k v : FVec Ideal S256x128 .bf16) (w : FVec Ideal S128x1024 .bf16) (r : Fin 256) (n : Fin 1024) :
    headPart q k v w (ix2 r n) = ∑ e : Fin 128, attend (fun r e => q (ix2 r e)) (fun r e => k (ix2 r e)) (fun r e => v (ix2 r e)) r e * w (ix2 e n) := by
  pointwise [headPart, headOut, weights, scores, attend, weight, score]
  rw [minus_infinity]

/-- The head's columns of an array, as rows of numbers. -/
def colsOf (a : FVec Ideal S256x1024 .bf16) (h : Fin 8) (r : Fin 256) (e : Fin 128) : EReal := a (ix2 r ⟨128 * h.val + e.val, by omega⟩)

theorem headNo_apply (q k v : FVec Ideal S256x1024 .bf16) (w : FVec Ideal S1024x1024 .bf16) (h : Fin 8) (r : Fin 256) (n : Fin 1024) :
    headNo q k v w h (ix2 r n) = ∑ e : Fin 128, attend (colsOf q h) (colsOf k h) (colsOf v h) r e * w (ix2 ⟨128 * h.val + e.val, by omega⟩ n) := by
  unfold headNo headAt
  rw [headPart_apply]
  have ec : ∀ a : FVec Ideal S256x1024 .bf16, (fun (r : Fin 256) (e : Fin 128) => extractStridedSlice S256x128 ![0, 128 * h.val] a (cols_fit h) (ix2 r e)) = colsOf a h := by
    intro a; funext r e
    pointwise [colsOf]
  have er : ∀ e : Fin 128, extractStridedSlice S128x1024 ![128 * h.val, 0] w (rows_fit h) (ix2 e n) = w (ix2 ⟨128 * h.val + e.val, by omega⟩ n) := by
    intro e
    pointwise
  rw [ec, ec, ec]
  exact Finset.sum_congr rfl fun e _ => by rw [er]

/-- A row of `x` times the head's columns of a projection. -/
def proj (x : FVec Ideal S1x256x1024 .f32) (w : FVec Ideal S1024x1024 .f32) (h : Fin 8) (r : Fin 256) (e : Fin 128) : EReal :=
  ∑ k : Fin 1024, x (ix3 0 r k) * w (ix2 k ⟨128 * h.val + e.val, by omega⟩)

theorem cols_proj (x : FVec Ideal S1x256x1024 .f32) (w : FVec Ideal S1024x1024 .f32) (h : Fin 8) :
    colsOf (k0_pay2 x w) h = proj x w h ∧ colsOf (k0_pay3 x w) h = proj x w h ∧ colsOf (k0_pay4 x w) h = proj x w h := by
  refine ⟨?_, ?_, ?_⟩ <;> (funext r e; pointwise [colsOf, proj, k0_pay1, k0_pay2, k0_pay3, k0_pay4])

/-- A device's partial result: over its heads and their columns, the head's output times its row of the projection. -/
theorem partVal_apply (x : FVec Ideal S1x256x1024 .f32) (wq wo wk wv : FVec Ideal S1024x1024 .f32) (r : Fin 256) (n : Fin 1024) :
    partVal (F := Ideal) x wq wo wk wv (ix2 r n) =
      ∑ h : Fin 8, ∑ e : Fin 128, attend (proj x wq h) (proj x wk h) (proj x wv h) r e * wo (ix2 ⟨128 * h.val + e.val, by omega⟩ n) := by
  have hw : ∀ g : Fin 1024, k0_pay5 (F := Ideal) wo (ix2 g n) = wo (ix2 g n) := fun g => by pointwise [k0_pay5]
  have hh : ∀ h : Fin 8, headNo (F := Ideal) (k0_pay2 x wq) (k0_pay3 x wk) (k0_pay4 x wv) (k0_pay5 wo) h (ix2 r n)
      = ∑ e : Fin 128, attend (proj x wq h) (proj x wk h) (proj x wv h) r e * wo (ix2 ⟨128 * h.val + e.val, by omega⟩ n) := fun h => by
    rw [headNo_apply, (cols_proj x wq h).1, (cols_proj x wk h).2.1, (cols_proj x wv h).2.2]
    exact Finset.sum_congr rfl fun e _ => by rw [hw]
  rw [partVal_heads, Fin.sum_univ_eight]
  simp only [← hh]
  pointwise [k0_pay6]

end Cert.Attn

end
-- ==== Proof.Ref.lean ====
/-
The reference's result at the ideal floats, element by element: its loop has one step, whose rescaling of what came before multiplies zeros.
-/
module

public import proofs.«01_k».proof.Proof.Heads
public import proofs.«01_k».proof.Proof.Gen.ReferenceIdeal.Run

@[expose] public section

noncomputable section

namespace Cert.AttnRef

open Cert.ReferenceIdeal Cert.ReferenceIdeal.Gen Cert.Attn
open Idealize.ShloMosaic Idealize.ShloMosaic.TcCoe Idealize.ShloMosaic.Pointwise

section Stages

variable {F : FTy → Type} [FloatOps F]

/-- Queries, keys or values of every head. -/
def rows (x : FVec F S1x256x1024 .f32) (w : FVec F S1024x16384 .f32) : FVec F S1x256x128x128 .f32 :=
  shapeCast _ (Host.dotGeneral dot_S1x256x1024_S1024x16384_S1x256x16384_2_0_01_1_n_n none x w) shapeCasts_S1x256x16384_S1x256x128x128

/-- The scaled scores. -/
def scoresR (q k : FVec F S1x256x128x128 .f32) : FVec F S1x128x256x256 .f32 :=
  mulf (Host.dotGeneral dot_S1x256x128x128_S1x256x128x128_S1x128x256x256_3_3_1_1_02_02 none q k)
    (broadcastInDim S1x128x256x256 ![] bcast_S_S1x128x256x256 (constant S_ .f32 0x3DB504F3#32))

/-- Minus infinity, the running maximum before the loop. -/
def before : FVec F S1x128x256x1 .f32 := broadcastInDim S1x128x256x1 ![] bcast_S_S1x128x256x1 (constant S_ .f32 0xFF800000#32)

/-- The largest score of every row. -/
def rowMax (s : FVec F S1x128x256x256 .f32) : FVec F S1x128x256 .f32 :=
  Host.reduce FloatOps.maximumf s (constant S_ .f32 0xFF800000#32) reducesTo_S1x128x256x256_S1x128x256_d3 h_S_

/-- The running maximum after the loop's step. -/
def maxR (s : FVec F S1x128x256x256 .f32) : FVec F S1x128x256x1 .f32 :=
  maximumf before (broadcastInDim S1x128x256x1 ![0, 1, 2] bcast_S1x128x256_S1x128x256x1_0_1_2 (rowMax s))

/-- The factor that rescales what the loop had before the step. -/
def rescale (s : FVec F S1x128x256x256 .f32) : FVec F S1x128x256x1 .f32 := Host.exp (subf before (maxR s))

/-- The step's weights. -/
def weightsR (s : FVec F S1x128x256x256 .f32) : FVec F S1x128x256x256 .f32 :=
  Host.exp (subf s (broadcastInDim S1x128x256x256 ![0, 1, 2, 3] bcast_S1x128x256x1_S1x128x256x256_0_1_2_3 (maxR s)))

/-- The sum of the weights after the step. -/
def sumR (s : FVec F S1x128x256x256 .f32) : FVec F S1x128x256x1 .f32 :=
  addf (mulf (broadcastInDim S1x128x256x1 ![] bcast_S_S1x128x256x1 (constant S_ .f32 0x00000000#32)) (rescale s))
    (broadcastInDim S1x128x256x1 ![0, 1, 2] bcast_S1x128x256_S1x128x256x1_0_1_2
      (Host.reduceAdd (weightsR s) (constant S_ .f32 0x00000000#32) reducesTo_S1x128x256x256_S1x128x256_d3 h_S_))

/-- The weighted values after the step, over the sum. -/
def outR (s : FVec F S1x128x256x256 .f32) (v : FVec F S1x256x128x128 .f32) : FVec F S1x256x128x128 .f32 :=
  Host.divf (addf (mulf (broadcastInDim S1x256x128x128 ![] bcast_S_S1x256x128x128 (constant S_ .f32 0x00000000#32))
      (broadcastInDim S1x256x128x128 ![0, 1, 2, 3] bcast_S1x256x128x1_S1x256x128x128_0_1_2_3
        (transpose S1x256x128x1 [0, 2, 1, 3] (rescale s) transposes_S1x128x256x1_S1x256x128x1_0_2_1_3)))
    (transpose S1x256x128x128 [0, 3, 1, 2] (Host.dotGeneral dot_S1x256x128x128_S1x128x256x256_S1x128x128x256_1_3_3_2_02_01 none v (weightsR s))
      transposes_S1x128x128x256_S1x256x128x128_0_3_1_2))
    (broadcastInDim S1x256x128x128 ![0, 1, 2, 3] bcast_S1x256x128x1_S1x256x128x128_0_1_2_3
      (transpose S1x256x128x1 [0, 2, 1, 3] (sumR s) transposes_S1x128x256x1_S1x256x128x1_0_2_1_3))

/-- The projection of the heads' outputs. -/
def project (o : FVec F S1x256x128x128 .f32) (w : FVec F S16384x1024 .f32) : FVec F S1x256x1024 .f32 :=
  Host.dotGeneral dot_S1x256x16384_S16384x1024_S1x256x1024_2_0_01_1_n_n none (shapeCast _ o shapeCasts_S1x256x128x128_S1x256x16384) w

/-- The reference's result is these stages'. -/
theorem res_stages (m : (ℓ : Loc nD τ sig) → Buf (Elt F) ℓ) (c : Dev nD) :
    Value.res_main_v34 m c =
      project (outR (scoresR (rows (m ((c.tc : Thread nD τ).loc main_arg0)) (m ((c.tc : Thread nD τ).loc main_arg1)))
          (rows (m ((c.tc : Thread nD τ).loc main_arg0)) (m ((c.tc : Thread nD τ).loc main_arg2))))
        (rows (m ((c.tc : Thread nD τ).loc main_arg0)) (m ((c.tc : Thread nD τ).loc main_arg3)))) (m ((c.tc : Thread nD τ).loc main_arg4)) := rfl

end Stages

/-- A row of `x` times the columns of head `g`. -/
def projR (x : FVec Ideal S1x256x1024 .f32) (w : FVec Ideal S1024x16384 .f32) (g : Fin 128) (r : Fin 256) (e : Fin 128) : EReal :=
  ∑ k : Fin 1024, x (ix3 0 r k) * w (ix2 k ⟨g.val * 128 + e.val, by omega⟩)

/-- Row `r`, head `g`, column `e` of queries, keys or values. -/
theorem rows_apply (x : FVec Ideal S1x256x1024 .f32) (w : FVec Ideal S1024x16384 .f32) (r : Fin 256) (g e : Fin 128) :
    rows x w (ix4 0 r g e) = projR x w g r e := by
  pointwise [rows, projR]

/-- A score is the scaled product of a row of queries and a row of keys. -/
theorem scoresR_apply (q k : FVec Ideal S1x256x128x128 .f32) (g : Fin 128) (r j : Fin 256) :
    scoresR q k (ix4 0 g r j) = score (fun r e => q (ix4 0 r g e)) (fun r e => k (ix4 0 r g e)) r j := by
  pointwise [scoresR, score]

/-- A reduction by maximum along the last axis, from the least value, is a fold over that axis. -/
theorem reduce_max (v : FVec Ideal S1x128x256x256 .f32) (z : FVec Ideal S_ .f32) (hz : z (Shape.Idx.first h_S_) = (⊥ : Ideal .f32))
    (g : Fin 128) (r : Fin 256) :
    Host.reduce FloatOps.maximumf v z reducesTo_S1x128x256x256_S1x128x256_d3 h_S_ (ix3 0 g r)
      = Finset.univ.fold max (⊥ : Ideal .f32) fun j => v (ix4 0 g r j) := by
  simp only [pointwise]
  rw [hz]

/-- What the maximum starts from. -/
theorem start_apply (i : S_.Idx) : constant (F := Ideal) S_ .f32 0xFF800000#32 i = (⊥ : Ideal .f32) := minus_infinity

/-- The largest score of a row, as a fold from the least value. -/
theorem rowMax_apply (s : FVec Ideal S1x128x256x256 .f32) (g : Fin 128) (r : Fin 256) :
    rowMax s (ix3 0 g r) = Finset.univ.fold max (⊥ : Ideal .f32) fun j => s (ix4 0 g r j) := by
  rw [rowMax]
  exact reduce_max s _ (start_apply _) g r

/-- The least value does not count in a maximum. -/
theorem bot_max (y : Ideal .f32) : max (Ideal.ofBits .f32 0xFF800000#32 : Ideal .f32) y = y := by
  rw [minus_infinity]
  exact max_bot_left (y : EReal)

/-- The maximum of the value before the loop and of a row's number. -/
theorem before_max (y : FVec Ideal S1x128x256 .f32) (g : Fin 128) (r : Fin 256) :
    maximumf before (broadcastInDim S1x128x256x1 ![0, 1, 2] bcast_S1x128x256_S1x128x256x1_0_1_2 y) (ix4 0 g r 0)
      = max (Ideal.ofBits .f32 0xFF800000#32 : Ideal .f32) (y (ix3 0 g r)) := by
  pointwise [before]

/-- The running maximum after the step is the largest score of the row. -/
theorem maxR_apply (s : FVec Ideal S1x128x256x256 .f32) (g : Fin 128) (r : Fin 256) :
    maxR s (ix4 0 g r 0) = Finset.univ.fold max (⊥ : Ideal .f32) fun j => s (ix4 0 g r j) :=
  ((before_max (rowMax s) g r).trans (bot_max _)).trans (rowMax_apply s g r)

/-- The step's result: what came before is zero and stays so, so only the step's weights count. -/
theorem outR_sums (s : FVec Ideal S1x128x256x256 .f32) (v : FVec Ideal S1x256x128x128 .f32) (r : Fin 256) (g e : Fin 128) :
    outR s v (ix4 0 r g e)
      = Ideal.div (∑ j, v (ix4 0 j g e) * Ideal.exp (s (ix4 0 g r j) - maxR s (ix4 0 g r 0)))
          (∑ j, Ideal.exp (s (ix4 0 g r j) - maxR s (ix4 0 g r 0))) := by
  pointwise [outR, sumR, weightsR]
  simp only [zero_mul, zero_add]

/-- A row of a head's output is attention over the head's queries, keys and values. -/
theorem outR_apply (q k v : FVec Ideal S1x256x128x128 .f32) (r : Fin 256) (g e : Fin 128) :
    outR (scoresR q k) v (ix4 0 r g e)
      = attend (fun r e => q (ix4 0 r g e)) (fun r e => k (ix4 0 r g e)) (fun r e => v (ix4 0 r g e)) r e := by
  rw [outR_sums, attend]
  simp only [maxR_apply, scoresR_apply, weight, mul_comm (v _)]

/-- An index of 16384 rows is a head and a row of that head. -/
theorem sum_heads (f : Fin 16384 → EReal) :
    ∑ a, f a = ∑ g : Fin 128, ∑ e : Fin 128, f ⟨g.val * 128 + e.val, by omega⟩ := by
  rw [← Equiv.sum_comp (finProdFinEquiv : Fin 128 × Fin 128 ≃ Fin 16384), Fintype.sum_prod_type]
  refine Finset.sum_congr rfl fun g _ => Finset.sum_congr rfl fun e _ => congrArg f (Fin.ext ?_)
  show e.val + 128 * g.val = g.val * 128 + e.val
  omega

/-- An element of the result sums over the heads and over each head's columns. -/
theorem project_apply (o : FVec Ideal S1x256x128x128 .f32) (w : FVec Ideal S16384x1024 .f32) (r : Fin 256) (n : Fin 1024) :
    project o w (ix3 0 r n) = ∑ g : Fin 128, ∑ e : Fin 128, o (ix4 0 r g e) * w (ix2 ⟨g.val * 128 + e.val, by omega⟩ n) := by
  pointwise [project]
  rw [sum_heads]
  refine Finset.sum_congr rfl fun g _ => Finset.sum_congr rfl fun e _ => ?_
  congr 2
  exact congrArg₂ (ix4 0 r) (Fin.ext (by show (g.val * 128 + e.val) / 128 = g.val; omega))
    (Fin.ext (by show (g.val * 128 + e.val) % 128 = e.val; omega))

/-- The reference's result from its arguments, element by element. -/
theorem res_apply (m : (ℓ : Loc nD τ sig) → Buf (Elt Ideal) ℓ) (c : Dev nD) (r : Fin 256) (n : Fin 1024) :
    Value.res_main_v34 m c (ix3 0 r n)
      = ∑ g : Fin 128, ∑ e : Fin 128,
          attend (projR (m ((c.tc : Thread nD τ).loc main_arg0)) (m ((c.tc : Thread nD τ).loc main_arg1)) g)
              (projR (m ((c.tc : Thread nD τ).loc main_arg0)) (m ((c.tc : Thread nD τ).loc main_arg2)) g)
              (projR (m ((c.tc : Thread nD τ).loc main_arg0)) (m ((c.tc : Thread nD τ).loc main_arg3)) g) r e
            * m ((c.tc : Thread nD τ).loc main_arg4) (ix2 ⟨g.val * 128 + e.val, by omega⟩ n) := by
  rw [res_stages, project_apply]
  simp only [outR_apply, rows_apply]

end Cert.AttnRef

end
-- ==== Proof.Value.lean ====
/-
The two programs' results are equal at the ideal floats: what each device holds at the end is the sum of all devices' partial results, and
each partial result is the reference's sum over the heads of that device.
-/
module

public import proofs.«01_k».proof.Proof.Run
public import proofs.«01_k».proof.Proof.Ref
public import Idealize.ShloMosaic.Lib.Layout

@[expose] public section

noncomputable section

namespace Cert.Attn

open Cert.KernelIdeal Cert.KernelIdeal.Gen
open Idealize.ShloMosaic Idealize.ShloMosaic.TcCoe Idealize.ShloMosaic.Pointwise
open Cert.AttnRef (projR)

/-! ## The sum of the devices' partial results -/

/-- Sixteen numbers added up as a balanced tree are their sum. -/
theorem tree_sum (f : Fin 16 → EReal) :
    (((f 0 + f 1) + (f 2 + f 3)) + ((f 4 + f 5) + (f 6 + f 7))) + (((f 8 + f 9) + (f 10 + f 11)) + ((f 12 + f 13) + (f 14 + f 15)))
      = ∑ s, f s := by
  simp only [Fin.sum_univ_castSucc, Fin.sum_univ_zero, zero_add, add_assoc]
  rfl

/-- A slab of the sum, element by element. -/
theorem red_apply (P : Dev nD → Vec Ideal S256x1024 .bf16) (c : Dev nD) (h : Fin 2) (y : S16x512.Idx) (r : Fin 256) (n : Fin 1024)
    (hr : 16 * c.val + (y 0).val = r.val) (hn : 512 * h.val + (y 1).val = n.val) :
    red P c h y = ∑ s : Fin 16, P s (ix2 r n) := by
  have ht : ∀ s, term P c h s y = P s (ix2 r n) := fun s =>
    congrArg (P s) (bIx_eq (i := ix2 r n) hr.symm hn.symm)
  exact (tree_sum fun s => term P c h s y).trans (Finset.sum_congr rfl fun s _ => ht s)

/-- A device's result: the partial results of all devices, added up. -/
theorem outC_apply (P : Dev nD → Vec Ideal S256x1024 .bf16) (c : Dev nD) (r : Fin 256) (n : Fin 1024) :
    outC P c (ix3 0 r n) = ∑ s : Fin 16, P s (ix2 r n) := by
  have hn : 512 * (n.val / 512) + n.val % 512 = n.val := Nat.div_add_mod _ _
  have hr : 16 * (r.val / 16) + r.val % 16 = r.val := Nat.div_add_mod _ _
  by_cases hc : r.val / 16 = c.val
  · exact (if_pos hc).trans (red_apply P c _ _ r n (by rw [← hc]; exact hr) hn)
  · exact (if_neg hc).trans (red_apply P _ _ _ r n hr hn)

/-! ## The heads of a device, among all -/

/-- Head `h` of device `c`. -/
def headOf (c : Fin 16) (h : Fin 8) : Fin 128 := ⟨8 * c.val + h.val, by omega⟩

/-- The columns of a device's head in its block are that head's in the whole array. -/
theorem proj_block (x : FVec Ideal S1x256x1024 .f32) (w : FVec Ideal Cert.ReferenceIdeal.S1024x16384 .f32) (c : Fin 16) (h : Fin 8) :
    proj x (Layout.block ⟨2, ![1024, 1024]⟩ ⟨2, ![1024, 16384]⟩ 1 16 c w) h = projR x w (headOf c h) := by
  funext r e
  refine Finset.sum_congr rfl fun k _ => congrArg (x (ix3 0 r k) * ·) (congrArg w (funext fun a => ?_))
  fin_cases a
  · rfl
  · exact Fin.ext (by show c.val * 1024 + (128 * h.val + e.val) = (8 * c.val + h.val) * 128 + e.val; omega)

/-- The rows of a device's head in its block are that head's in the whole array. -/
theorem rows_block (w : FVec Ideal Cert.ReferenceIdeal.S16384x1024 .f32) (c : Fin 16) (h : Fin 8) (e : Fin 128) (n : Fin 1024) :
    (Layout.block ⟨2, ![1024, 1024]⟩ ⟨2, ![16384, 1024]⟩ 0 16 c w : FVec Ideal S1024x1024 .f32) (ix2 ⟨128 * h.val + e.val, by omega⟩ n)
      = w (ix2 ⟨(headOf c h).val * 128 + e.val, by have := (headOf c h).isLt; omega⟩ n) := by
  refine congrArg w (funext fun a => ?_)
  fin_cases a
  · exact Fin.ext (by show c.val * 1024 + (128 * h.val + e.val) = (8 * c.val + h.val) * 128 + e.val; omega)
  · rfl

/-- All heads are the devices' heads. -/
theorem sum_devices (f : Fin 128 → EReal) : ∑ g, f g = ∑ c : Fin 16, ∑ h : Fin 8, f (headOf c h) := by
  rw [← Equiv.sum_comp (finProdFinEquiv : Fin 16 × Fin 8 ≃ Fin 128), Fintype.sum_prod_type]
  refine Finset.sum_congr rfl fun c _ => Finset.sum_congr rfl fun h _ => congrArg f (Fin.ext ?_)
  show h.val + 8 * c.val = 8 * c.val + h.val
  omega

/-! ## The results -/

/-- With the operands dealt out as the launch deals them, each device's result is the reference's. -/
theorem out_eq (m : (ℓ : Loc nD τ sig) → Buf (Elt Ideal) ℓ)
    (x : FVec Ideal S1x256x1024 .f32) (wq wk wv : FVec Ideal Cert.ReferenceIdeal.S1024x16384 .f32)
    (wo : FVec Ideal Cert.ReferenceIdeal.S16384x1024 .f32)
    (hx : ∀ c, xOf m c = x)
    (hq : ∀ c, wqOf m c = Layout.block ⟨2, ![1024, 1024]⟩ ⟨2, ![1024, 16384]⟩ 1 16 c wq)
    (hk : ∀ c, wkOf m c = Layout.block ⟨2, ![1024, 1024]⟩ ⟨2, ![1024, 16384]⟩ 1 16 c wk)
    (hv : ∀ c, wvOf m c = Layout.block ⟨2, ![1024, 1024]⟩ ⟨2, ![1024, 16384]⟩ 1 16 c wv)
    (ho : ∀ c, woOf m c = Layout.block ⟨2, ![1024, 1024]⟩ ⟨2, ![16384, 1024]⟩ 0 16 c wo) (c : Dev nD) (r : Fin 256) (n : Fin 1024) :
    outC (parts m) c (ix3 0 r n)
      = ∑ g : Fin 128, ∑ e : Fin 128,
          attend (projR x wq g) (projR x wk g) (projR x wv g) r e * wo (ix2 ⟨g.val * 128 + e.val, by omega⟩ n) := by
  rw [outC_apply, sum_devices]
  refine Finset.sum_congr rfl fun s _ => ?_
  rw [parts, hx, hq, hk, hv, ho, partVal_apply]
  refine Finset.sum_congr rfl fun h _ => Finset.sum_congr rfl fun e _ => ?_
  rw [proj_block, proj_block, proj_block, rows_block]

/-- An index of a result is its row and its column. -/
theorem out_index (i : S1x256x1024.Idx) : ∃ (r : Fin 256) (n : Fin 1024), i = ix3 0 r n :=
  ⟨i 1, i 2, funext fun a => by
    fin_cases a
    · exact Fin.ext (by have : (i 0).val < 1 := (i 0).isLt; show (i 0).val = 0; omega)
    · rfl
    · rfl⟩

/-- The same, of two launches: the reference's memory holds the whole operands, the devices' memories their blocks. -/
theorem out_eq_res (m : (ℓ : Loc nD τ sig) → Buf (Elt Ideal) ℓ)
    (m' : (ℓ : Loc Cert.ReferenceIdeal.nD Cert.ReferenceIdeal.τ Cert.ReferenceIdeal.sig) → Buf (Elt Ideal) ℓ)
    (hx : ∀ c, xOf m c = m' (((0 : Dev Cert.ReferenceIdeal.nD) : Thread Cert.ReferenceIdeal.nD Cert.ReferenceIdeal.τ).loc Cert.ReferenceIdeal.main_arg0))
    (hq : ∀ c, wqOf m c = Layout.block ⟨2, ![1024, 1024]⟩ ⟨2, ![1024, 16384]⟩ 1 16 c
      (m' (((0 : Dev Cert.ReferenceIdeal.nD) : Thread Cert.ReferenceIdeal.nD Cert.ReferenceIdeal.τ).loc Cert.ReferenceIdeal.main_arg1)))
    (hk : ∀ c, wkOf m c = Layout.block ⟨2, ![1024, 1024]⟩ ⟨2, ![1024, 16384]⟩ 1 16 c
      (m' (((0 : Dev Cert.ReferenceIdeal.nD) : Thread Cert.ReferenceIdeal.nD Cert.ReferenceIdeal.τ).loc Cert.ReferenceIdeal.main_arg2)))
    (hv : ∀ c, wvOf m c = Layout.block ⟨2, ![1024, 1024]⟩ ⟨2, ![1024, 16384]⟩ 1 16 c
      (m' (((0 : Dev Cert.ReferenceIdeal.nD) : Thread Cert.ReferenceIdeal.nD Cert.ReferenceIdeal.τ).loc Cert.ReferenceIdeal.main_arg3)))
    (ho : ∀ c, woOf m c = Layout.block ⟨2, ![1024, 1024]⟩ ⟨2, ![16384, 1024]⟩ 0 16 c
      (m' (((0 : Dev Cert.ReferenceIdeal.nD) : Thread Cert.ReferenceIdeal.nD Cert.ReferenceIdeal.τ).loc Cert.ReferenceIdeal.main_arg4)))
    (c : Dev nD) : outC (parts m) c = Cert.ReferenceIdeal.Value.res_main_v34 m' 0 := by
  funext i
  obtain ⟨r, n, rfl⟩ := out_index i
  exact (out_eq m _ _ _ _ _ hx hq hk hv ho c r n).trans (Cert.AttnRef.res_apply m' 0 r n).symm

end Cert.Attn

end
-- ==== Proof.lean ====
/-
The claims about the attention kernel on sixteen devices: each program runs to its end with its arguments unchanged and every
semaphore counter back at zero, and at the ideal floats every device ends with the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Attn

/-- The two printings of the kernel are one text: the call's body is the same program, -/
theorem defs₀_eq : Cert.Kernel.defs₀ (F := Bits) = Cert.KernelIdeal.defs₀ (F := Bits) := by
  funext pr ℓ a
  cases pr with
  | tc =>
    obtain ⟨_ | n, hn⟩ := ℓ
    · obtain ⟨t, s⟩ := a
      rfl
    · exact absurd hn (Nat.not_lt.2 (Nat.le_add_left _ _))
  | scScalar _ => rfl
  | scVector _ _ => rfl

/-- and so is every procedure. -/
theorem defs_eq : Cert.Kernel.defs (F := Bits) = Cert.KernelIdeal.defs (F := Bits) :=
  congrArg (Pipeline.defs Cert.KernelIdeal.pcfgs) defs₀_eq

/-- The kernel at the hardware's floats runs to its end, leaves its arguments unchanged and every semaphore counter at zero. -/
theorem frame_kernel : Cert.quiescent_Kernel := fun m g _ => by
  rw [defs_eq]
  exact (θ_run Cert.KernelIdeal.defs _ _).mono (fun _ h => ⟨fun c => (h.1 c).2, h.2⟩) (run_main (F := Bits) m g)

/-- So does the kernel at the ideal floats. -/
theorem frame_ideal : Cert.quiescent_KernelIdeal := fun m g _ =>
  (θ_run Cert.KernelIdeal.defs _ _).mono (fun _ h => ⟨fun c => (h.1 c).2, h.2⟩) (run_main (F := Ideal) m g)

/-- The reference runs to its end, leaves its arguments unchanged; it has no semaphore whose counter could move. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- At the ideal floats every device's result is the reference's, its operands dealt out over the devices. -/
theorem algebraic : Cert.algebraic_KernelIdeal_ReferenceIdeal := fun m g m' g' _ h =>
  ⟨Cert.ReferenceIdeal.Value.res_main_v34 m' 0,
    (θ_run Cert.KernelIdeal.defs _ _).mono
      (fun _ hr c => ⟨((hr.1 c).1).trans (out_eq_res m m' (fun c => (h c).1) (fun c => (h c).2.1) (fun c => (h c).2.2.1)
        (fun c => (h c).2.2.2.1) (fun c => (h c).2.2.2.2) c), (hr.1 c).2⟩)
      (run_main (F := Ideal) m g),
    (θ_run Cert.ReferenceIdeal.defs _ _).mono (fun _ hr => hr 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
